-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v33) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_In_InIdeal : Prop :=
  IdealRules.named_const.Statement Cert.InIdeal.κ "query_scale" .f32 0x3E38AA3B#32 (((Real.log 256)⁻¹ : ℝ) : EReal)

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v6_3)) (v1 : (c : Dev Cert.InIdeal.nD) → Buf (Elt Ideal) ((c.tc : Thread Cert.InIdeal.nD Cert.InIdeal.τ).loc Cert.InIdeal.main_v6_4)) (v2 : (c : Dev Cert.InIdeal.nD) → Buf (Elt Ideal) ((c.tc : Thread Cert.InIdeal.nD Cert.InIdeal.τ).loc Cert.InIdeal.main_v6_5)) (v3 : (c : Dev Cert.InIdeal.nD) → Buf (Elt Ideal) ((c.tc : Thread Cert.InIdeal.nD Cert.InIdeal.τ).loc Cert.InIdeal.main_v6_6)) (v4 : (c : Dev Cert.InIdeal.nD) → Buf (Elt Ideal) ((c.tc : Thread Cert.InIdeal.nD Cert.InIdeal.τ).loc Cert.InIdeal.main_v6_0)) (v5 : (c : Dev Cert.InIdeal.nD) → Buf (Elt Ideal) ((c.tc : Thread Cert.InIdeal.nD Cert.InIdeal.τ).loc Cert.InIdeal.main_v6_1)) (v6 : (c : Dev Cert.InIdeal.nD) → Buf (Elt Ideal) ((c.tc : Thread Cert.InIdeal.nD Cert.InIdeal.τ).loc Cert.InIdeal.main_v6_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v6_3) = v0 c
          ∧ r.2.mem ((c.tc : Thread Cert.InIdeal.nD Cert.InIdeal.τ).loc Cert.InIdeal.main_v6_4) = v1 c
          ∧ r.2.mem ((c.tc : Thread Cert.InIdeal.nD Cert.InIdeal.τ).loc Cert.InIdeal.main_v6_5) = v2 c
          ∧ r.2.mem ((c.tc : Thread Cert.InIdeal.nD Cert.InIdeal.τ).loc Cert.InIdeal.main_v6_6) = v3 c
          ∧ r.2.mem ((c.tc : Thread Cert.InIdeal.nD Cert.InIdeal.τ).loc Cert.InIdeal.main_v6_0) = v4 c
          ∧ r.2.mem ((c.tc : Thread Cert.InIdeal.nD Cert.InIdeal.τ).loc Cert.InIdeal.main_v6_1) = v5 c
          ∧ r.2.mem ((c.tc : Thread Cert.InIdeal.nD Cert.InIdeal.τ).loc Cert.InIdeal.main_v6_2) = v6 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v29) = v0 c
          ∧ r.2.mem ((c.tc : Thread Cert.InRefIdeal.nD Cert.InRefIdeal.τ).loc Cert.InRefIdeal.main_v30) = v1 c
          ∧ r.2.mem ((c.tc : Thread Cert.InRefIdeal.nD Cert.InRefIdeal.τ).loc Cert.InRefIdeal.main_v31) = v2 c
          ∧ r.2.mem ((c.tc : Thread Cert.InRefIdeal.nD Cert.InRefIdeal.τ).loc Cert.InRefIdeal.main_v32) = v3 c
          ∧ r.2.mem ((c.tc : Thread Cert.InRefIdeal.nD Cert.InRefIdeal.τ).loc Cert.InRefIdeal.main_v33) = v4 c
          ∧ r.2.mem ((c.tc : Thread Cert.InRefIdeal.nD Cert.InRefIdeal.τ).loc Cert.InRefIdeal.main_v34) = v5 c
          ∧ r.2.mem ((c.tc : Thread Cert.InRefIdeal.nD Cert.InRefIdeal.τ).loc Cert.InRefIdeal.main_v35) = v6 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hIn : Cert.In.Facts) (hInIdeal : Cert.InIdeal.Facts) (hInRefIdeal : Cert.InRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_In (hIn := hIn)
    ∧ quiescent_InIdeal (hInIdeal := hInIdeal)
    ∧ quiescent_InRefIdeal (hInRefIdeal := hInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpRefIdeal (hMlpIdeal := hMlpIdeal) (hMlpRefIdeal := hMlpRefIdeal)
    ∧ preserves_In_InIdeal
    ∧ algebraic_InIdeal_InRefIdeal (hInIdeal := hInIdeal) (hInRefIdeal := hInRefIdeal)
-- ==== Pre_finite.lean ====
abbrev S8x4096x1024 : Shape := ⟨3, ![8, 4096, 1024]⟩
abbrev S8x4096x512 : Shape := ⟨3, ![8, 4096, 512]⟩
abbrev S1x4x128x128 : Shape := ⟨4, ![1, 4, 128, 128]⟩
abbrev S1x512 : Shape := ⟨2, ![1, 512]⟩
abbrev S1x8x15x31 : Shape := ⟨4, ![1, 8, 15, 31]⟩
abbrev S1x1024x1024 : Shape := ⟨3, ![1, 1024, 1024]⟩
abbrev S1x512x1024 : Shape := ⟨3, ![1, 512, 1024]⟩
abbrev S_ : Shape := ⟨0, ![]⟩

class Facts : Prop where
  slices_S1x1024x1024_S1x512x1024_0_0_0 : S1x1024x1024.Slices ![0, 0, 0] S1x512x1024
  bcast_S_S8x4096x512 : S_.BroadcastsInDim S8x4096x512 (![] : Fin 0 → Fin S8x4096x512.rank)
  bcast_S_S1x4x128x128 : S_.BroadcastsInDim S1x4x128x128 (![] : Fin 0 → Fin S1x4x128x128.rank)
  bcast_S_S1x512 : S_.BroadcastsInDim S1x512 (![] : Fin 0 → Fin S1x512.rank)
  bcast_S_S1x8x15x31 : S_.BroadcastsInDim S1x8x15x31 (![] : Fin 0 → Fin S1x8x15x31.rank)
  bcast_S_S1x512x1024 : S_.BroadcastsInDim S1x512x1024 (![] : Fin 0 → Fin S1x512x1024.rank)

variable [Facts]

def fn_part1 {F : FTy → Type} [FloatOps F] (main_v0 : FVec F S1x512x1024 .f32) (main_v3 : IVec S8x4096x512 1) (main_v6 : IVec S8x4096x512 1) (main_v9 : IVec S8x4096x512 1) (main_v12 : IVec S1x4x128x128 1) (main_v15 : IVec S1x512 1) (main_v16 : FVec F S1x8x15x31 .f32) (main_v17 : FVec F S1x8x15x31 .f32) : IVec S8x4096x512 1 × IVec S8x4096x512 1 × IVec S8x4096x512 1 × IVec S1x4x128x128 1 × IVec S1x512 1 × IVec S1x8x15x31 1 × IVec S1x512x1024 1 :=
  let main_v18 : IVec S1x8x15x31 1 := cmpf .olt main_v16 main_v17
  let main_v19 : FVec F S1x512x1024 .f32 := Host.absf main_v0
  let main_cst_5 : FVec F S_ .f32 := constant S_ .f32 0x7F800000#32
  let main_v20 : FVec F S1x512x1024 .f32 := broadcastInDim S1x512x1024 ![] bcast_S_S1x512x1024 main_cst_5
  let main_v21 : IVec S1x512x1024 1 := cmpf .olt main_v19 main_v20
  (main_v3, main_v6, main_v9, main_v12, main_v15, main_v18, main_v21)

def fn {F : FTy → Type} [FloatOps F] (main_arg0 : FVec F S8x4096x1024 .f32) (main_arg1 : FVec F S8x4096x512 .bf16) (main_arg2 : FVec F S8x4096x512 .bf16) (main_arg3 : FVec F S8x4096x512 .bf16) (main_arg4 : FVec F S8x4096x512 .bf16) (main_arg5 : FVec F S1x4x128x128 .f32) (main_arg6 : FVec F S1x512 .f32) (main_arg7 : FVec F S1x8x15x31 .f32) (main_arg8 : FVec F S1x1024x1024 .f32) : IVec S8x4096x512 1 × IVec S8x4096x512 1 × IVec S8x4096x512 1 × IVec S1x4x128x128 1 × IVec S1x512 1 × IVec S1x8x15x31 1 × IVec S1x512x1024 1 :=
  let main_v0 : FVec F S1x512x1024 .f32 := (extractStridedSlice S1x512x1024 ![0, 0, 0] · slices_S1x1024x1024_S1x512x1024_0_0_0) main_arg8
  let main_v1 : FVec F S8x4096x512 .bf16 := Host.absf main_arg1
  let main_cst : FVec F S_ .bf16 := constant S_ .bf16 0x7F80#16
  let main_v2 : FVec F S8x4096x512 .bf16 := broadcastInDim S8x4096x512 ![] bcast_S_S8x4096x512 main_cst
  let main_v3 : IVec S8x4096x512 1 := cmpf .olt main_v1 main_v2
  let main_v4 : FVec F S8x4096x512 .bf16 := Host.absf main_arg2
  let main_cst_0 : FVec F S_ .bf16 := constant S_ .bf16 0x7F80#16
  let main_v5 : FVec F S8x4096x512 .bf16 := broadcastInDim S8x4096x512 ![] bcast_S_S8x4096x512 main_cst_0
  let main_v6 : IVec S8x4096x512 1 := cmpf .olt main_v4 main_v5
  let main_v7 : FVec F S8x4096x512 .bf16 := Host.absf main_arg3
  let main_cst_1 : FVec F S_ .bf16 := constant S_ .bf16 0x7F80#16
  let main_v8 : FVec F S8x4096x512 .bf16 := broadcastInDim S8x4096x512 ![] bcast_S_S8x4096x512 main_cst_1
  let main_v9 : IVec S8x4096x512 1 := cmpf .olt main_v7 main_v8
  let main_v10 : FVec F S1x4x128x128 .f32 := Host.absf main_arg5
  let main_cst_2 : FVec F S_ .f32 := constant S_ .f32 0x7F800000#32
  let main_v11 : FVec F S1x4x128x128 .f32 := broadcastInDim S1x4x128x128 ![] bcast_S_S1x4x128x128 main_cst_2
  let main_v12 : IVec S1x4x128x128 1 := cmpf .olt main_v10 main_v11
  let main_v13 : FVec F S1x512 .f32 := Host.absf main_arg6
  let main_cst_3 : FVec F S_ .f32 := constant S_ .f32 0x7F800000#32
  let main_v14 : FVec F S1x512 .f32 := broadcastInDim S1x512 ![] bcast_S_S1x512 main_cst_3
  let main_v15 : IVec S1x512 1 := cmpf .olt main_v13 main_v14
  let main_v16 : FVec F S1x8x15x31 .f32 := Host.absf main_arg7
  let main_cst_4 : FVec F S_ .f32 := constant S_ .f32 0x7F800000#32
  let main_v17 : FVec F S1x8x15x31 .f32 := broadcastInDim S1x8x15x31 ![] bcast_S_S1x8x15x31 main_cst_4
  fn_part1 (F := F) main_v0 main_v3 main_v6 main_v9 main_v12 main_v15 main_v16 main_v17
-- ==== Kernel.lean ====
abbrev S8x4096x1024 : Shape := ⟨3, ![8, 4096, 1024]⟩
abbrev S8x4096x512 : Shape := ⟨3, ![8, 4096, 512]⟩
abbrev S1x4x128x128 : Shape := ⟨4, ![1, 4, 128, 128]⟩
abbrev S1x512 : Shape := ⟨2, ![1, 512]⟩
abbrev S1x8x15x31 : Shape := ⟨4, ![1, 8, 15, 31]⟩
abbrev S1x1024x1024 : Shape := ⟨3, ![1, 1024, 1024]⟩
abbrev S4x128x128 : Shape := ⟨3, ![4, 128, 128]⟩
abbrev S512 : Shape := ⟨1, ![512]⟩
abbrev S8x15x31 : Shape := ⟨3, ![8, 15, 31]⟩
abbrev S_ : Shape := ⟨0, ![]⟩
abbrev S8x15x128 : Shape := ⟨3, ![8, 15, 128]⟩
abbrev S8x15x113 : Shape := ⟨3, ![8, 15, 113]⟩
abbrev S8x15x15 : Shape := ⟨3, ![8, 15, 15]⟩
abbrev S1024x1024 : Shape := ⟨2, ![1024, 1024]⟩
abbrev S1x1024x512 : Shape := ⟨3, ![1, 1024, 512]⟩
abbrev S1x16x512 : Shape := ⟨3, ![1, 16, 512]⟩
abbrev S1x1536x512 : Shape := ⟨3, ![1, 1536, 512]⟩
abbrev S512x1024 : Shape := ⟨2, ![512, 1024]⟩
abbrev S1024x512 : Shape := ⟨2, ![1024, 512]⟩
abbrev S14x512x128 : Shape := ⟨3, ![14, 512, 128]⟩
abbrev S64x128 : Shape := ⟨2, ![64, 128]⟩
abbrev S1x1x128 : Shape := ⟨3, ![1, 1, 128]⟩
abbrev S1x128 : Shape := ⟨2, ![1, 128]⟩
abbrev S1x64x128 : Shape := ⟨3, ![1, 64, 128]⟩
abbrev S1x128x128 : Shape := ⟨3, ![1, 128, 128]⟩
abbrev S128x128 : Shape := ⟨2, ![128, 128]⟩
abbrev S128x1024 : Shape := ⟨2, ![128, 1024]⟩
abbrev S64x256 : Shape := ⟨2, ![64, 256]⟩
abbrev S16x512 : Shape := ⟨2, ![16, 512]⟩
abbrev S1056x512 : Shape := ⟨2, ![1056, 512]⟩
abbrev S1056x128 : Shape := ⟨2, ![1056, 128]⟩
abbrev S8x1 : Shape := ⟨2, ![8, 1]⟩
abbrev S1024x128 : Shape := ⟨2, ![1024, 128]⟩
abbrev S8x128 : Shape := ⟨2, ![8, 128]⟩
abbrev S1008x128 : Shape := ⟨2, ![1008, 128]⟩
abbrev S1x64x256 : Shape := ⟨3, ![1, 64, 256]⟩
abbrev S256x256 : Shape := ⟨2, ![256, 256]⟩
abbrev S1x512x256 : Shape := ⟨3, ![1, 512, 256]⟩
abbrev S512x256 : Shape := ⟨2, ![512, 256]⟩
abbrev S256x512 : Shape := ⟨2, ![256, 512]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 23
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S1x4x128x128, .f32⟩
  | .hbm, ⟨6, _⟩ => ⟨S1x512, .f32⟩
  | .hbm, ⟨7, _⟩ => ⟨S1x8x15x31, .f32⟩
  | .hbm, ⟨8, _⟩ => ⟨S1x1024x1024, .f32⟩
  | .hbm, ⟨9, _⟩ => ⟨S4x128x128, .f32⟩
  | .hbm, ⟨10, _⟩ => ⟨S512, .f32⟩
  | .hbm, ⟨11, _⟩ => ⟨S1x512, .f32⟩
  | .hbm, ⟨12, _⟩ => ⟨S8x15x31, .f32⟩
  | .hbm, ⟨13, _⟩ => ⟨S_, .i32⟩
  | .hbm, ⟨14, _⟩ => ⟨S_, .f32⟩
  | .hbm, ⟨15, _⟩ => ⟨S8x15x128, .f32⟩
  | .hbm, ⟨16, _⟩ => ⟨S8x15x113, .f32⟩
  | .hbm, ⟨17, _⟩ => ⟨S8x15x15, .f32⟩
  | .hbm, ⟨18, _⟩ => ⟨S8x15x128, .f32⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x16x512, .bf16⟩
  | .local _ .vmem, ⟨5, _⟩ => ⟨S1x16x512, .bf16⟩
  | .local _ .vmem, ⟨6, _⟩ => ⟨S1x16x512, .bf16⟩
  | .local _ .vmem, ⟨7, _⟩ => ⟨S1x16x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1536x512, .bf16⟩
  | .local _ .vmem, ⟨11, _⟩ => ⟨S1x1536x512, .bf16⟩
  | .local _ .vmem, ⟨12, _⟩ => ⟨S1x1536x512, .bf16⟩
  | .local _ .vmem, ⟨13, _⟩ => ⟨S1x1536x512, .bf16⟩
  | .local _ .vmem, ⟨14, _⟩ => ⟨S4x128x128, .f32⟩
  | .local _ .vmem, ⟨15, _⟩ => ⟨S1x512, .f32⟩
  | .local _ .vmem, ⟨16, _⟩ => ⟨S8x15x128, .f32⟩
  | .local _ .vmem, ⟨17, _⟩ => ⟨S512x1024, .f32⟩
  | .local _ .vmem, ⟨18, _⟩ => ⟨S1024x1024, .bf16⟩
  | .local _ .vmem, ⟨19, _⟩ => ⟨S1x1024x1024, .f32⟩
  | .local _ .vmem, ⟨20, _⟩ => ⟨S1x1024x1024, .f32⟩
  | .local _ .vmem, ⟨21, _⟩ => ⟨S1024x512, .bf16⟩
  | .local _ .vmem, ⟨22, _⟩ => ⟨S14x512x128, .f32⟩
  | .local _ .vmem, ⟨23, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c56_i32 : BitVec 32 := 56#32
  let c0_i32_91 : BitVec 32 := 0#32
  let arg1 : BitVec 32 := BitVec.ofNat 32 (i 1).val
  let c16_i32_88 : BitVec 32 := 16#32
  let v291 : BitVec 32 := Scalar.muli arg1 c16_i32_88
  let c0_i32_89 : BitVec 32 := 0#32
  let v292 : BitVec 32 := Scalar.addi v291 c0_i32_89
  let c4_i32_90 : BitVec 32 := 4#32
  let v293 : BitVec 32 := Scalar.subi v292 c4_i32_90
  let v294 : BitVec 32 := Scalar.maxsi c0_i32_91 v293
  let v295 : BitVec 32 := Scalar.minsi c56_i32 v294
  let c40_i32 : BitVec 32 := 40#32
  let c0_i32_94 : BitVec 32 := 0#32
  let c16_i32_92 : BitVec 32 := 16#32
  let v298 : BitVec 32 := Scalar.muli arg1 c16_i32_92
  let c4_i32_93 : BitVec 32 := 4#32
  let v299 : BitVec 32 := Scalar.subi v298 c4_i32_93
  let v300 : BitVec 32 := Scalar.maxsi c0_i32_94 v299
  let v301 : BitVec 32 := Scalar.minsi c40_i32 v300
  let v302 : BitVec 32 := Scalar.subi v295 v301
  let c64_i32_95 : BitVec 32 := 64#32
  let v303 : BitVec 32 := Scalar.muli v302 c64_i32_95
  v303
def k0_off1 (i : grid0.Coords) (c0_i32_89 : BitVec 32) : Fin 3 → Nat :=
  let c0_103 : Index := 0#32
  let c56_i32 : BitVec 32 := 56#32
  let c0_i32_91 : BitVec 32 := 0#32
  let arg1 : BitVec 32 := BitVec.ofNat 32 (i 1).val
  let c16_i32_88 : BitVec 32 := 16#32
  let v291 : BitVec 32 := Scalar.muli arg1 c16_i32_88
  let v292 : BitVec 32 := Scalar.addi v291 c0_i32_89
  let c4_i32_90 : BitVec 32 := 4#32
  let v293 : BitVec 32 := Scalar.subi v292 c4_i32_90
  let v294 : BitVec 32 := Scalar.maxsi c0_i32_91 v293
  let v295 : BitVec 32 := Scalar.minsi c56_i32 v294
  let c40_i32 : BitVec 32 := 40#32
  let c0_i32_94 : BitVec 32 := 0#32
  let c16_i32_92 : BitVec 32 := 16#32
  let v298 : BitVec 32 := Scalar.muli arg1 c16_i32_92
  let c4_i32_93 : BitVec 32 := 4#32
  let v299 : BitVec 32 := Scalar.subi v298 c4_i32_93
  let v300 : BitVec 32 := Scalar.maxsi c0_i32_94 v299
  let v301 : BitVec 32 := Scalar.minsi c40_i32 v300
  let v302 : BitVec 32 := Scalar.subi v295 v301
  let c64_i32_95 : BitVec 32 := 64#32
  let v303 : BitVec 32 := Scalar.muli v302 c64_i32_95
  let v304 : BitVec 32 := v303
  let v316 : Index := Scalar.indexCast v304
  let c0_104 : Index := 0#32
  ![0, v316.toNat, 0]
def k0_off2 (i : grid0.Coords) (c0_i32_89 : BitVec 32) (c0_i32_108 : BitVec 32) : Fin 3 → Nat :=
  let c56_i32 : BitVec 32 := 56#32
  let c0_i32_91 : BitVec 32 := 0#32
  let arg1 : BitVec 32 := BitVec.ofNat 32 (i 1).val
  let c16_i32_88 : BitVec 32 := 16#32
  let v291 : BitVec 32 := Scalar.muli arg1 c16_i32_88
  let v292 : BitVec 32 := Scalar.addi v291 c0_i32_89
  let c4_i32_90 : BitVec 32 := 4#32
  let v293 : BitVec 32 := Scalar.subi v292 c4_i32_90
  let v294 : BitVec 32 := Scalar.maxsi c0_i32_91 v293
  let v295 : BitVec 32 := Scalar.minsi c56_i32 v294
  let v296 : BitVec 32 := Scalar.subi v295 v292
  let c7_i32 : BitVec 32 := 7#32
  let v297 : BitVec 32 := Scalar.addi v296 c7_i32
  let v323 : BitVec 32 := Scalar.addi v297 c0_i32_108
  let v324 : Index := Scalar.indexCast v323
  let c0_109 : Index := 0#32
  let c0_110 : Index := 0#32
  ![v324.toNat, 0, 0]
def k0_off3 (i : grid0.Coords) (c0_i32_89 : BitVec 32) : Fin 3 → Nat :=
  let c0_135 : Index := 0#32
  let c56_i32 : BitVec 32 := 56#32
  let c0_i32_91 : BitVec 32 := 0#32
  let arg1 : BitVec 32 := BitVec.ofNat 32 (i 1).val
  let c16_i32_88 : BitVec 32 := 16#32
  let v291 : BitVec 32 := Scalar.muli arg1 c16_i32_88
  let v292 : BitVec 32 := Scalar.addi v291 c0_i32_89
  let c4_i32_90 : BitVec 32 := 4#32
  let v293 : BitVec 32 := Scalar.subi v292 c4_i32_90
  let v294 : BitVec 32 := Scalar.maxsi c0_i32_91 v293
  let v295 : BitVec 32 := Scalar.minsi c56_i32 v294
  let c40_i32 : BitVec 32 := 40#32
  let c0_i32_94 : BitVec 32 := 0#32
  let c16_i32_92 : BitVec 32 := 16#32
  let v298 : BitVec 32 := Scalar.muli arg1 c16_i32_92
  let c4_i32_93 : BitVec 32 := 4#32
  let v299 : BitVec 32 := Scalar.subi v298 c4_i32_93
  let v300 : BitVec 32 := Scalar.maxsi c0_i32_94 v299
  let v301 : BitVec 32 := Scalar.minsi c40_i32 v300
  let v302 : BitVec 32 := Scalar.subi v295 v301
  let c64_i32_95 : BitVec 32 := 64#32
  let v303 : BitVec 32 := Scalar.muli v302 c64_i32_95
  let v304 : BitVec 32 := v303
  let v384 : Index := Scalar.indexCast v304
  let c256_136 : Index := 256#32
  ![0, v384.toNat, 256]
def k0_off4 (i : grid0.Coords) (c0_i32_89 : BitVec 32) (c0_i32_140 : BitVec 32) : Fin 3 → Nat :=
  let c56_i32 : BitVec 32 := 56#32
  let c0_i32_91 : BitVec 32 := 0#32
  let arg1 : BitVec 32 := BitVec.ofNat 32 (i 1).val
  let c16_i32_88 : BitVec 32 := 16#32
  let v291 : BitVec 32 := Scalar.muli arg1 c16_i32_88
  let v292 : BitVec 32 := Scalar.addi v291 c0_i32_89
  let c4_i32_90 : BitVec 32 := 4#32
  let v293 : BitVec 32 := Scalar.subi v292 c4_i32_90
  let v294 : BitVec 32 := Scalar.maxsi c0_i32_91 v293
  let v295 : BitVec 32 := Scalar.minsi c56_i32 v294
  let v296 : BitVec 32 := Scalar.subi v295 v292
  let c7_i32 : BitVec 32 := 7#32
  let v297 : BitVec 32 := Scalar.addi v296 c7_i32
  let v391 : BitVec 32 := Scalar.addi v297 c0_i32_140
  let v392 : Index := Scalar.indexCast v391
  let c256_141 : Index := 256#32
  let c0_142 : Index := 0#32
  ![v392.toNat, 256, 0]
def k0_mult2 (i : grid0.Coords) : BitVec 32 :=
  let c56_i32_166 : BitVec 32 := 56#32
  let c0_i32_165 : BitVec 32 := 0#32
  let arg1 : BitVec 32 := BitVec.ofNat 32 (i 1).val
  let c16_i32_162 : BitVec 32 := 16#32
  let v441 : BitVec 32 := Scalar.muli arg1 c16_i32_162
  let c1_i32_163 : BitVec 32 := 1#32
  let v442 : BitVec 32 := Scalar.addi v441 c1_i32_163
  let c4_i32_164 : BitVec 32 := 4#32
  let v443 : BitVec 32 := Scalar.subi v442 c4_i32_164
  let v444 : BitVec 32 := Scalar.maxsi c0_i32_165 v443
  let v445 : BitVec 32 := Scalar.minsi c56_i32_166 v444
  let c40_i32_171 : BitVec 32 := 40#32
  let c0_i32_170 : BitVec 32 := 0#32
  let c16_i32_168 : BitVec 32 := 16#32
  let v448 : BitVec 32 := Scalar.muli arg1 c16_i32_168
  let c4_i32_169 : BitVec 32 := 4#32
  let v449 : BitVec 32 := Scalar.subi v448 c4_i32_169
  let v450 : BitVec 32 := Scalar.maxsi c0_i32_170 v449
  let v451 : BitVec 32 := Scalar.minsi c40_i32_171 v450
  let v452 : BitVec 32 := Scalar.subi v445 v451
  let c64_i32_172 : BitVec 32 := 64#32
  let v453 : BitVec 32 := Scalar.muli v452 c64_i32_172
  v453
def k0_mult3 (i : grid0.Coords) : BitVec 32 :=
  let c56_i32_244 : BitVec 32 := 56#32
  let c0_i32_243 : BitVec 32 := 0#32
  let arg1 : BitVec 32 := BitVec.ofNat 32 (i 1).val
  let c16_i32_240 : BitVec 32 := 16#32
  let v591 : BitVec 32 := Scalar.muli arg1 c16_i32_240
  let c2_i32_241 : BitVec 32 := 2#32
  let v592 : BitVec 32 := Scalar.addi v591 c2_i32_241
  let c4_i32_242 : BitVec 32 := 4#32
  let v593 : BitVec 32 := Scalar.subi v592 c4_i32_242
  let v594 : BitVec 32 := Scalar.maxsi c0_i32_243 v593
  let v595 : BitVec 32 := Scalar.minsi c56_i32_244 v594
  let c40_i32_249 : BitVec 32 := 40#32
  let c0_i32_248 : BitVec 32 := 0#32
  let c16_i32_246 : BitVec 32 := 16#32
  let v598 : BitVec 32 := Scalar.muli arg1 c16_i32_246
  let c4_i32_247 : BitVec 32 := 4#32
  let v599 : BitVec 32 := Scalar.subi v598 c4_i32_247
  let v600 : BitVec 32 := Scalar.maxsi c0_i32_248 v599
  let v601 : BitVec 32 := Scalar.minsi c40_i32_249 v600
  let v602 : BitVec 32 := Scalar.subi v595 v601
  let c64_i32_250 : BitVec 32 := 64#32
  let v603 : BitVec 32 := Scalar.muli v602 c64_i32_250
  v603
def k0_mult4 (i : grid0.Coords) : BitVec 32 :=
  let c56_i32_322 : BitVec 32 := 56#32
  let c0_i32_321 : BitVec 32 := 0#32
  let arg1 : BitVec 32 := BitVec.ofNat 32 (i 1).val
  let c16_i32_318 : BitVec 32 := 16#32
  let v741 : BitVec 32 := Scalar.muli arg1 c16_i32_318
  let c3_i32_319 : BitVec 32 := 3#32
  let v742 : BitVec 32 := Scalar.addi v741 c3_i32_319
  let c4_i32_320 : BitVec 32 := 4#32
  let v743 : BitVec 32 := Scalar.subi v742 c4_i32_320
  let v744 : BitVec 32 := Scalar.maxsi c0_i32_321 v743
  let v745 : BitVec 32 := Scalar.minsi c56_i32_322 v744
  let c40_i32_327 : BitVec 32 := 40#32
  let c0_i32_326 : BitVec 32 := 0#32
  let c16_i32_324 : BitVec 32 := 16#32
  let v748 : BitVec 32 := Scalar.muli arg1 c16_i32_324
  let c4_i32_325 : BitVec 32 := 4#32
  let v749 : BitVec 32 := Scalar.subi v748 c4_i32_325
  let v750 : BitVec 32 := Scalar.maxsi c0_i32_326 v749
  let v751 : BitVec 32 := Scalar.minsi c40_i32_327 v750
  let v752 : BitVec 32 := Scalar.subi v745 v751
  let c64_i32_328 : BitVec 32 := 64#32
  let v753 : BitVec 32 := Scalar.muli v752 c64_i32_328
  v753
def k0_mult5 (i : grid0.Coords) : BitVec 32 :=
  let c56_i32_400 : BitVec 32 := 56#32
  let c0_i32_399 : BitVec 32 := 0#32
  let arg1 : BitVec 32 := BitVec.ofNat 32 (i 1).val
  let c16_i32_396 : BitVec 32 := 16#32
  let v891 : BitVec 32 := Scalar.muli arg1 c16_i32_396
  let c4_i32_397 : BitVec 32 := 4#32
  let v892 : BitVec 32 := Scalar.addi v891 c4_i32_397
  let c4_i32_398 : BitVec 32 := 4#32
  let v893 : BitVec 32 := Scalar.subi v892 c4_i32_398
  let v894 : BitVec 32 := Scalar.maxsi c0_i32_399 v893
  let v895 : BitVec 32 := Scalar.minsi c56_i32_400 v894
  let c40_i32_405 : BitVec 32 := 40#32
  let c0_i32_404 : BitVec 32 := 0#32
  let c16_i32_402 : BitVec 32 := 16#32
  let v898 : BitVec 32 := Scalar.muli arg1 c16_i32_402
  let c4_i32_403 : BitVec 32 := 4#32
  let v899 : BitVec 32 := Scalar.subi v898 c4_i32_403
  let v900 : BitVec 32 := Scalar.maxsi c0_i32_404 v899
  let v901 : BitVec 32 := Scalar.minsi c40_i32_405 v900
  let v902 : BitVec 32 := Scalar.subi v895 v901
  let c64_i32_406 : BitVec 32 := 64#32
  let v903 : BitVec 32 := Scalar.muli v902 c64_i32_406
  v903
def k0_mult6 (i : grid0.Coords) : BitVec 32 :=
  let c56_i32_478 : BitVec 32 := 56#32
  let c0_i32_477 : BitVec 32 := 0#32
  let arg1 : BitVec 32 := BitVec.ofNat 32 (i 1).val
  let c16_i32_475 : BitVec 32 := 16#32
  let v1041 : BitVec 32 := Scalar.muli arg1 c16_i32_475
  let c5_i32 : BitVec 32 := 5#32
  let v1042 : BitVec 32 := Scalar.addi v1041 c5_i32
  let c4_i32_476 : BitVec 32 := 4#32
  let v1043 : BitVec 32 := Scalar.subi v1042 c4_i32_476
  let v1044 : BitVec 32 := Scalar.maxsi c0_i32_477 v1043
  let v1045 : BitVec 32 := Scalar.minsi c56_i32_478 v1044
  let c40_i32_483 : BitVec 32 := 40#32
  let c0_i32_482 : BitVec 32 := 0#32
  let c16_i32_480 : BitVec 32 := 16#32
  let v1048 : BitVec 32 := Scalar.muli arg1 c16_i32_480
  let c4_i32_481 : BitVec 32 := 4#32
  let v1049 : BitVec 32 := Scalar.subi v1048 c4_i32_481
  let v1050 : BitVec 32 := Scalar.maxsi c0_i32_482 v1049
  let v1051 : BitVec 32 := Scalar.minsi c40_i32_483 v1050
  let v1052 : BitVec 32 := Scalar.subi v1045 v1051
  let c64_i32_484 : BitVec 32 := 64#32
  let v1053 : BitVec 32 := Scalar.muli v1052 c64_i32_484
  v1053
def k0_mult7 (i : grid0.Coords) : BitVec 32 :=
  let c56_i32_556 : BitVec 32 := 56#32
  let c0_i32_555 : BitVec 32 := 0#32
  let arg1 : BitVec 32 := BitVec.ofNat 32 (i 1).val
  let c16_i32_552 : BitVec 32 := 16#32
  let v1191 : BitVec 32 := Scalar.muli arg1 c16_i32_552
  let c6_i32_553 : BitVec 32 := 6#32
  let v1192 : BitVec 32 := Scalar.addi v1191 c6_i32_553
  let c4_i32_554 : BitVec 32 := 4#32
  let v1193 : BitVec 32 := Scalar.subi v1192 c4_i32_554
  let v1194 : BitVec 32 := Scalar.maxsi c0_i32_555 v1193
  let v1195 : BitVec 32 := Scalar.minsi c56_i32_556 v1194
  let c40_i32_561 : BitVec 32 := 40#32
  let c0_i32_560 : BitVec 32 := 0#32
  let c16_i32_558 : BitVec 32 := 16#32
  let v1198 : BitVec 32 := Scalar.muli arg1 c16_i32_558
  let c4_i32_559 : BitVec 32 := 4#32
  let v1199 : BitVec 32 := Scalar.subi v1198 c4_i32_559
  let v1200 : BitVec 32 := Scalar.maxsi c0_i32_560 v1199
  let v1201 : BitVec 32 := Scalar.minsi c40_i32_561 v1200
  let v1202 : BitVec 32 := Scalar.subi v1195 v1201
  let c64_i32_562 : BitVec 32 := 64#32
  let v1203 : BitVec 32 := Scalar.muli v1202 c64_i32_562
  v1203
def k0_mult8 (i : grid0.Coords) : BitVec 32 :=
  let c56_i32_634 : BitVec 32 := 56#32
  let c0_i32_633 : BitVec 32 := 0#32
  let arg1 : BitVec 32 := BitVec.ofNat 32 (i 1).val
  let c16_i32_630 : BitVec 32 := 16#32
  let v1341 : BitVec 32 := Scalar.muli arg1 c16_i32_630
  let c7_i32_631 : BitVec 32 := 7#32
  let v1342 : BitVec 32 := Scalar.addi v1341 c7_i32_631
  let c4_i32_632 : BitVec 32 := 4#32
  let v1343 : BitVec 32 := Scalar.subi v1342 c4_i32_632
  let v1344 : BitVec 32 := Scalar.maxsi c0_i32_633 v1343
  let v1345 : BitVec 32 := Scalar.minsi c56_i32_634 v1344
  let c40_i32_639 : BitVec 32 := 40#32
  let c0_i32_638 : BitVec 32 := 0#32
  let c16_i32_636 : BitVec 32 := 16#32
  let v1348 : BitVec 32 := Scalar.muli arg1 c16_i32_636
  let c4_i32_637 : BitVec 32 := 4#32
  let v1349 : BitVec 32 := Scalar.subi v1348 c4_i32_637
  let v1350 : BitVec 32 := Scalar.maxsi c0_i32_638 v1349
  let v1351 : BitVec 32 := Scalar.minsi c40_i32_639 v1350
  let v1352 : BitVec 32 := Scalar.subi v1345 v1351
  let c64_i32_640 : BitVec 32 := 64#32
  let v1353 : BitVec 32 := Scalar.muli v1352 c64_i32_640
  v1353
def k0_mult9 (i : grid0.Coords) : BitVec 32 :=
  let c56_i32_712 : BitVec 32 := 56#32
  let c0_i32_711 : BitVec 32 := 0#32
  let arg1 : BitVec 32 := BitVec.ofNat 32 (i 1).val
  let c16_i32_708 : BitVec 32 := 16#32
  let v1491 : BitVec 32 := Scalar.muli arg1 c16_i32_708
  let c8_i32_709 : BitVec 32 := 8#32
  let v1492 : BitVec 32 := Scalar.addi v1491 c8_i32_709
  let c4_i32_710 : BitVec 32 := 4#32
  let v1493 : BitVec 32 := Scalar.subi v1492 c4_i32_710
  let v1494 : BitVec 32 := Scalar.maxsi c0_i32_711 v1493
  let v1495 : BitVec 32 := Scalar.minsi c56_i32_712 v1494
  let c40_i32_717 : BitVec 32 := 40#32
  let c0_i32_716 : BitVec 32 := 0#32
  let c16_i32_714 : BitVec 32 := 16#32
  let v1498 : BitVec 32 := Scalar.muli arg1 c16_i32_714
  let c4_i32_715 : BitVec 32 := 4#32
  let v1499 : BitVec 32 := Scalar.subi v1498 c4_i32_715
  let v1500 : BitVec 32 := Scalar.maxsi c0_i32_716 v1499
  let v1501 : BitVec 32 := Scalar.minsi c40_i32_717 v1500
  let v1502 : BitVec 32 := Scalar.subi v1495 v1501
  let c64_i32_718 : BitVec 32 := 64#32
  let v1503 : BitVec 32 := Scalar.muli v1502 c64_i32_718
  v1503
def k0_mult10 (i : grid0.Coords) : BitVec 32 :=
  let c56_i32_789 : BitVec 32 := 56#32
  let c0_i32_788 : BitVec 32 := 0#32
  let arg1 : BitVec 32 := BitVec.ofNat 32 (i 1).val
  let c16_i32_786 : BitVec 32 := 16#32
  let v1641 : BitVec 32 := Scalar.muli arg1 c16_i32_786
  let c9_i32 : BitVec 32 := 9#32
  let v1642 : BitVec 32 := Scalar.addi v1641 c9_i32
  let c4_i32_787 : BitVec 32 := 4#32
  let v1643 : BitVec 32 := Scalar.subi v1642 c4_i32_787
  let v1644 : BitVec 32 := Scalar.maxsi c0_i32_788 v1643
  let v1645 : BitVec 32 := Scalar.minsi c56_i32_789 v1644
  let c40_i32_794 : BitVec 32 := 40#32
  let c0_i32_793 : BitVec 32 := 0#32
  let c16_i32_791 : BitVec 32 := 16#32
  let v1648 : BitVec 32 := Scalar.muli arg1 c16_i32_791
  let c4_i32_792 : BitVec 32 := 4#32
  let v1649 : BitVec 32 := Scalar.subi v1648 c4_i32_792
  let v1650 : BitVec 32 := Scalar.maxsi c0_i32_793 v1649
  let v1651 : BitVec 32 := Scalar.minsi c40_i32_794 v1650
  let v1652 : BitVec 32 := Scalar.subi v1645 v1651
  let c64_i32_795 : BitVec 32 := 64#32
  let v1653 : BitVec 32 := Scalar.muli v1652 c64_i32_795
  v1653
def k0_mult11 (i : grid0.Coords) : BitVec 32 :=
  let c56_i32_866 : BitVec 32 := 56#32
  let c0_i32_865 : BitVec 32 := 0#32
  let arg1 : BitVec 32 := BitVec.ofNat 32 (i 1).val
  let c16_i32_863 : BitVec 32 := 16#32
  let v1791 : BitVec 32 := Scalar.muli arg1 c16_i32_863
  let c10_i32 : BitVec 32 := 10#32
  let v1792 : BitVec 32 := Scalar.addi v1791 c10_i32
  let c4_i32_864 : BitVec 32 := 4#32
  let v1793 : BitVec 32 := Scalar.subi v1792 c4_i32_864
  let v1794 : BitVec 32 := Scalar.maxsi c0_i32_865 v1793
  let v1795 : BitVec 32 := Scalar.minsi c56_i32_866 v1794
  let c40_i32_871 : BitVec 32 := 40#32
  let c0_i32_870 : BitVec 32 := 0#32
  let c16_i32_868 : BitVec 32 := 16#32
  let v1798 : BitVec 32 := Scalar.muli arg1 c16_i32_868
  let c4_i32_869 : BitVec 32 := 4#32
  let v1799 : BitVec 32 := Scalar.subi v1798 c4_i32_869
  let v1800 : BitVec 32 := Scalar.maxsi c0_i32_870 v1799
  let v1801 : BitVec 32 := Scalar.minsi c40_i32_871 v1800
  let v1802 : BitVec 32 := Scalar.subi v1795 v1801
  let c64_i32_872 : BitVec 32 := 64#32
  let v1803 : BitVec 32 := Scalar.muli v1802 c64_i32_872
  v1803
def k0_mult12 (i : grid0.Coords) : BitVec 32 :=
  let c56_i32_943 : BitVec 32 := 56#32
  let c0_i32_942 : BitVec 32 := 0#32
  let arg1 : BitVec 32 := BitVec.ofNat 32 (i 1).val
  let c16_i32_940 : BitVec 32 := 16#32
  let v1941 : BitVec 32 := Scalar.muli arg1 c16_i32_940
  let c11_i32 : BitVec 32 := 11#32
  let v1942 : BitVec 32 := Scalar.addi v1941 c11_i32
  let c4_i32_941 : BitVec 32 := 4#32
  let v1943 : BitVec 32 := Scalar.subi v1942 c4_i32_941
  let v1944 : BitVec 32 := Scalar.maxsi c0_i32_942 v1943
  let v1945 : BitVec 32 := Scalar.minsi c56_i32_943 v1944
  let c40_i32_948 : BitVec 32 := 40#32
  let c0_i32_947 : BitVec 32 := 0#32
  let c16_i32_945 : BitVec 32 := 16#32
  let v1948 : BitVec 32 := Scalar.muli arg1 c16_i32_945
  let c4_i32_946 : BitVec 32 := 4#32
  let v1949 : BitVec 32 := Scalar.subi v1948 c4_i32_946
  let v1950 : BitVec 32 := Scalar.maxsi c0_i32_947 v1949
  let v1951 : BitVec 32 := Scalar.minsi c40_i32_948 v1950
  let v1952 : BitVec 32 := Scalar.subi v1945 v1951
  let c64_i32_949 : BitVec 32 := 64#32
  let v1953 : BitVec 32 := Scalar.muli v1952 c64_i32_949
  v1953
def k0_mult13 (i : grid0.Coords) : BitVec 32 :=
  let c56_i32_1020 : BitVec 32 := 56#32
  let c0_i32_1019 : BitVec 32 := 0#32
  let arg1 : BitVec 32 := BitVec.ofNat 32 (i 1).val
  let c16_i32_1017 : BitVec 32 := 16#32
  let v2091 : BitVec 32 := Scalar.muli arg1 c16_i32_1017
  let c12_i32 : BitVec 32 := 12#32
  let v2092 : BitVec 32 := Scalar.addi v2091 c12_i32
  let c4_i32_1018 : BitVec 32 := 4#32
  let v2093 : BitVec 32 := Scalar.subi v2092 c4_i32_1018
  let v2094 : BitVec 32 := Scalar.maxsi c0_i32_1019 v2093
  let v2095 : BitVec 32 := Scalar.minsi c56_i32_1020 v2094
  let c40_i32_1025 : BitVec 32 := 40#32
  let c0_i32_1024 : BitVec 32 := 0#32
  let c16_i32_1022 : BitVec 32 := 16#32
  let v2098 : BitVec 32 := Scalar.muli arg1 c16_i32_1022
  let c4_i32_1023 : BitVec 32 := 4#32
  let v2099 : BitVec 32 := Scalar.subi v2098 c4_i32_1023
  let v2100 : BitVec 32 := Scalar.maxsi c0_i32_1024 v2099
  let v2101 : BitVec 32 := Scalar.minsi c40_i32_1025 v2100
  let v2102 : BitVec 32 := Scalar.subi v2095 v2101
  let c64_i32_1026 : BitVec 32 := 64#32
  let v2103 : BitVec 32 := Scalar.muli v2102 c64_i32_1026
  v2103
def k0_mult14 (i : grid0.Coords) : BitVec 32 :=
  let c56_i32_1097 : BitVec 32 := 56#32
  let c0_i32_1096 : BitVec 32 := 0#32
  let arg1 : BitVec 32 := BitVec.ofNat 32 (i 1).val
  let c16_i32_1094 : BitVec 32 := 16#32
  let v2241 : BitVec 32 := Scalar.muli arg1 c16_i32_1094
  let c13_i32 : BitVec 32 := 13#32
  let v2242 : BitVec 32 := Scalar.addi v2241 c13_i32
  let c4_i32_1095 : BitVec 32 := 4#32
  let v2243 : BitVec 32 := Scalar.subi v2242 c4_i32_1095
  let v2244 : BitVec 32 := Scalar.maxsi c0_i32_1096 v2243
  let v2245 : BitVec 32 := Scalar.minsi c56_i32_1097 v2244
  let c40_i32_1102 : BitVec 32 := 40#32
  let c0_i32_1101 : BitVec 32 := 0#32
  let c16_i32_1099 : BitVec 32 := 16#32
  let v2248 : BitVec 32 := Scalar.muli arg1 c16_i32_1099
  let c4_i32_1100 : BitVec 32 := 4#32
  let v2249 : BitVec 32 := Scalar.subi v2248 c4_i32_1100
  let v2250 : BitVec 32 := Scalar.maxsi c0_i32_1101 v2249
  let v2251 : BitVec 32 := Scalar.minsi c40_i32_1102 v2250
  let v2252 : BitVec 32 := Scalar.subi v2245 v2251
  let c64_i32_1103 : BitVec 32 := 64#32
  let v2253 : BitVec 32 := Scalar.muli v2252 c64_i32_1103
  v2253
def k0_mult15 (i : grid0.Coords) : BitVec 32 :=
  let c56_i32_1174 : BitVec 32 := 56#32
  let c0_i32_1173 : BitVec 32 := 0#32
  let arg1 : BitVec 32 := BitVec.ofNat 32 (i 1).val
  let c16_i32_1171 : BitVec 32 := 16#32
  let v2391 : BitVec 32 := Scalar.muli arg1 c16_i32_1171
  let c14_i32 : BitVec 32 := 14#32
  let v2392 : BitVec 32 := Scalar.addi v2391 c14_i32
  let c4_i32_1172 : BitVec 32 := 4#32
  let v2393 : BitVec 32 := Scalar.subi v2392 c4_i32_1172
  let v2394 : BitVec 32 := Scalar.maxsi c0_i32_1173 v2393
  let v2395 : BitVec 32 := Scalar.minsi c56_i32_1174 v2394
  let c40_i32_1179 : BitVec 32 := 40#32
  let c0_i32_1178 : BitVec 32 := 0#32
  let c16_i32_1176 : BitVec 32 := 16#32
  let v2398 : BitVec 32 := Scalar.muli arg1 c16_i32_1176
  let c4_i32_1177 : BitVec 32 := 4#32
  let v2399 : BitVec 32 := Scalar.subi v2398 c4_i32_1177
  let v2400 : BitVec 32 := Scalar.maxsi c0_i32_1178 v2399
  let v2401 : BitVec 32 := Scalar.minsi c40_i32_1179 v2400
  let v2402 : BitVec 32 := Scalar.subi v2395 v2401
  let c64_i32_1180 : BitVec 32 := 64#32
  let v2403 : BitVec 32 := Scalar.muli v2402 c64_i32_1180
  v2403
def k0_mult16 (i : grid0.Coords) : BitVec 32 :=
  let c56_i32_1251 : BitVec 32 := 56#32
  let c0_i32_1250 : BitVec 32 := 0#32
  let arg1 : BitVec 32 := BitVec.ofNat 32 (i 1).val
  let c16_i32_1248 : BitVec 32 := 16#32
  let v2541 : BitVec 32 := Scalar.muli arg1 c16_i32_1248
  let c15_i32 : BitVec 32 := 15#32
  let v2542 : BitVec 32 := Scalar.addi v2541 c15_i32
  let c4_i32_1249 : BitVec 32 := 4#32
  let v2543 : BitVec 32 := Scalar.subi v2542 c4_i32_1249
  let v2544 : BitVec 32 := Scalar.maxsi c0_i32_1250 v2543
  let v2545 : BitVec 32 := Scalar.minsi c56_i32_1251 v2544
  let c40_i32_1256 : BitVec 32 := 40#32
  let c0_i32_1255 : BitVec 32 := 0#32
  let c16_i32_1253 : BitVec 32 := 16#32
  let v2548 : BitVec 32 := Scalar.muli arg1 c16_i32_1253
  let c4_i32_1254 : BitVec 32 := 4#32
  let v2549 : BitVec 32 := Scalar.subi v2548 c4_i32_1254
  let v2550 : BitVec 32 := Scalar.maxsi c0_i32_1255 v2549
  let v2551 : BitVec 32 := Scalar.minsi c40_i32_1256 v2550
  let v2552 : BitVec 32 := Scalar.subi v2545 v2551
  let c64_i32_1257 : BitVec 32 := 64#32
  let v2553 : BitVec 32 := Scalar.muli v2552 c64_i32_1257
  v2553
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c40_i32 : BitVec 32 := 40#32
  let v2 : BitVec 32 := Scalar.maxsi c0_i32 v1
  let v3 : BitVec 32 := Scalar.minsi c40_i32 v2
  let c64_i32 : BitVec 32 := 64#32
  let v4 : BitVec 32 := Scalar.muli v3 c64_i32
  let c0_i32_0 : BitVec 32 := 0#32
  let c0_i32_1 : BitVec 32 := 0#32
  ![arg0.toNat, v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c40_i32 : BitVec 32 := 40#32
  let v2 : BitVec 32 := Scalar.maxsi c0_i32 v1
  let v3 : BitVec 32 := Scalar.minsi c40_i32 v2
  let c64_i32 : BitVec 32 := 64#32
  let v4 : BitVec 32 := Scalar.muli v3 c64_i32
  let c0_i32_0 : BitVec 32 := 0#32
  let c0_i32_1 : BitVec 32 := 0#32
  ![arg0.toNat, v4.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1536x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x15x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4096x1024 : Shape := ⟨3, ![8, 4096, 1024]⟩
abbrev S8x4096x512 : Shape := ⟨3, ![8, 4096, 512]⟩
abbrev S1x4x128x128 : Shape := ⟨4, ![1, 4, 128, 128]⟩
abbrev S1x512 : Shape := ⟨2, ![1, 512]⟩
abbrev S1x8x15x31 : Shape := ⟨4, ![1, 8, 15, 31]⟩
abbrev S1x1024x1024 : Shape := ⟨3, ![1, 1024, 1024]⟩
abbrev S8x4096x8x64 : Shape := ⟨4, ![8, 4096, 8, 64]⟩
abbrev S4x128x128 : Shape := ⟨3, ![4, 128, 128]⟩
abbrev S512 : Shape := ⟨1, ![512]⟩
abbrev S4096 : Shape := ⟨1, ![4096]⟩
abbrev S8x4096x128 : Shape := ⟨3, ![8, 4096, 128]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S1x4096x1 : Shape := ⟨3, ![1, 4096, 1]⟩
abbrev S1x128x128 : Shape := ⟨3, ![1, 128, 128]⟩
abbrev S128x128 : Shape := ⟨2, ![128, 128]⟩
abbrev S1x1x512 : Shape := ⟨3, ![1, 1, 512]⟩
abbrev S8x15x31 : Shape := ⟨3, ![8, 15, 31]⟩
abbrev S4096x4096x1 : Shape := ⟨3, ![4096, 4096, 1]⟩
abbrev S4096x4096x2 : Shape := ⟨3, ![4096, 4096, 2]⟩
abbrev S8x4096x4096 : Shape := ⟨3, ![8, 4096, 4096]⟩
abbrev S8x8x4096x4096 : Shape := ⟨4, ![8, 8, 4096, 4096]⟩
abbrev S1x8x4096x4096 : Shape := ⟨4, ![1, 8, 4096, 4096]⟩
abbrev S1x1x4096x4096 : Shape := ⟨4, ![1, 1, 4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S1024x1024 : Shape := ⟨2, ![1024, 1024]⟩

abbrev nBuf : Space → Nat
  | .hbm => 379
  | .vmem => 0
  | .smem => 0
  | _ => 0

abbrev hbmTy0_0 (i : Nat) : BufTy := match i % 128 with
  | 0 => ⟨S8x4096x1024, .f32⟩
  | 1 => ⟨S8x4096x512, .bf16⟩
  | 2 => ⟨S8x4096x512, .bf16⟩
  | 3 => ⟨S8x4096x512, .bf16⟩
  | 4 => ⟨S8x4096x512, .bf16⟩
  | 5 => ⟨S1x4x128x128, .f32⟩
  | 6 => ⟨S1x512, .f32⟩
  | 7 => ⟨S1x8x15x31, .f32⟩
  | 8 => ⟨S1x1024x1024, .f32⟩
  | 9 => ⟨S8x4096x512, .f32⟩
  | 10 => ⟨S8x4096x512, .f32⟩
  | 11 => ⟨S8x4096x512, .f32⟩
  | 12 => ⟨S8x4096x512, .f32⟩
  | 13 => ⟨S8x4096x8x64, .f32⟩
  | 14 => ⟨S8x4096x8x64, .f32⟩
  | 15 => ⟨S8x4096x8x64, .f32⟩
  | 16 => ⟨S4x128x128, .f32⟩
  | 17 => ⟨S512, .f32⟩
  | 18 => ⟨S4096, .i32⟩
  | 19 => ⟨S8x4096x128, .f32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S_, .i32⟩
  | 30 => ⟨S4096, .i32⟩
  | 31 => ⟨S4096, .i32⟩
  | 32 => ⟨S_, .i32⟩
  | 33 => ⟨S4096, .i32⟩
  | 34 => ⟨S4096, .i32⟩
  | 35 => ⟨S1x4096, .i32⟩
  | 36 => ⟨S4096x1, .i32⟩
  | 37 => ⟨S4096x4096, .i32⟩
  | 38 => ⟨S4096x4096, .i32⟩
  | 39 => ⟨S4096x4096, .i1⟩
  | 40 => ⟨S1x4096, .i32⟩
  | 41 => ⟨S4096x1, .i32⟩
  | 42 => ⟨S4096x4096, .i32⟩
  | 43 => ⟨S4096x4096, .i32⟩
  | 44 => ⟨S4096x4096, .i1⟩
  | 45 => ⟨S4096x4096, .i1⟩
  | 46 => ⟨S_, .f32⟩
  | 47 => ⟨S_, .f32⟩
  | 48 => ⟨S4096x4096, .f32⟩
  | 49 => ⟨S4096x4096, .f32⟩
  | 50 => ⟨S4096x4096, .f32⟩
  | 51 => ⟨S8x128x4096, .f32⟩
  | 52 => ⟨S8x4096x128, .f32⟩
  | 53 => ⟨S4096, .i32⟩
  | 54 => ⟨S4096, .f32⟩
  | 55 => ⟨S1x4096x1, .f32⟩
  | 56 => ⟨S8x4096x128, .f32⟩
  | 57 => ⟨S8x4096x128, .f32⟩
  | 58 => ⟨S8x4096x128, .f32⟩
  | 59 => ⟨S1x128x128, .f32⟩
  | 60 => ⟨S128x128, .f32⟩
  | 61 => ⟨S8x4096x128, .f32⟩
  | 62 => ⟨S8x4096x128, .f32⟩
  | 63 => ⟨S_, .i32⟩
  | 64 => ⟨S4096, .i32⟩
  | 65 => ⟨S4096, .i32⟩
  | 66 => ⟨S_, .i32⟩
  | 67 => ⟨S4096, .i32⟩
  | 68 => ⟨S4096, .i32⟩
  | 69 => ⟨S_, .i32⟩
  | 70 => ⟨S4096, .i32⟩
  | 71 => ⟨S4096, .i32⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S1x4096, .i32⟩
  | 79 => ⟨S4096x1, .i32⟩
  | 80 => ⟨S4096x4096, .i32⟩
  | 81 => ⟨S4096x4096, .i32⟩
  | 82 => ⟨S4096x4096, .i1⟩
  | 83 => ⟨S1x4096, .i32⟩
  | 84 => ⟨S4096x1, .i32⟩
  | 85 => ⟨S4096x4096, .i32⟩
  | 86 => ⟨S4096x4096, .i32⟩
  | 87 => ⟨S4096x4096, .i1⟩
  | 88 => ⟨S4096x4096, .i1⟩
  | 89 => ⟨S_, .f32⟩
  | 90 => ⟨S_, .f32⟩
  | 91 => ⟨S4096x4096, .f32⟩
  | 92 => ⟨S4096x4096, .f32⟩
  | 93 => ⟨S4096x4096, .f32⟩
  | 94 => ⟨S8x128x4096, .f32⟩
  | 95 => ⟨S8x4096x128, .f32⟩
  | 96 => ⟨S4096, .i32⟩
  | 97 => ⟨S4096, .f32⟩
  | 98 => ⟨S1x4096x1, .f32⟩
  | 99 => ⟨S8x4096x128, .f32⟩
  | 100 => ⟨S8x4096x128, .f32⟩
  | 101 => ⟨S8x4096x128, .f32⟩
  | 102 => ⟨S1x128x128, .f32⟩
  | 103 => ⟨S128x128, .f32⟩
  | 104 => ⟨S8x4096x128, .f32⟩
  | 105 => ⟨S8x4096x128, .f32⟩
  | 106 => ⟨S_, .i32⟩
  | 107 => ⟨S4096, .i32⟩
  | 108 => ⟨S4096, .i32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S_, .i32⟩
  | 116 => ⟨S4096, .i32⟩
  | 117 => ⟨S4096, .i32⟩
  | 118 => ⟨S_, .i32⟩
  | 119 => ⟨S4096, .i32⟩
  | 120 => ⟨S4096, .i32⟩
  | 121 => ⟨S1x4096, .i32⟩
  | 122 => ⟨S4096x1, .i32⟩
  | 123 => ⟨S4096x4096, .i32⟩
  | 124 => ⟨S4096x4096, .i32⟩
  | 125 => ⟨S4096x4096, .i1⟩
  | 126 => ⟨S1x4096, .i32⟩
  | 127 => ⟨S4096x1, .i32⟩
  | _ => ⟨S8x4096x1024, .f32⟩

abbrev hbmTy0_1 (i : Nat) : BufTy := match i % 128 with
  | 0 => ⟨S4096x4096, .i32⟩
  | 1 => ⟨S4096x4096, .i32⟩
  | 2 => ⟨S4096x4096, .i1⟩
  | 3 => ⟨S4096x4096, .i1⟩
  | 4 => ⟨S_, .f32⟩
  | 5 => ⟨S_, .f32⟩
  | 6 => ⟨S4096x4096, .f32⟩
  | 7 => ⟨S4096x4096, .f32⟩
  | 8 => ⟨S4096x4096, .f32⟩
  | 9 => ⟨S8x128x4096, .f32⟩
  | 10 => ⟨S8x4096x128, .f32⟩
  | 11 => ⟨S4096, .i32⟩
  | 12 => ⟨S4096, .f32⟩
  | 13 => ⟨S1x4096x1, .f32⟩
  | 14 => ⟨S8x4096x128, .f32⟩
  | 15 => ⟨S8x4096x128, .f32⟩
  | 16 => ⟨S8x4096x128, .f32⟩
  | 17 => ⟨S1x128x128, .f32⟩
  | 18 => ⟨S128x128, .f32⟩
  | 19 => ⟨S8x4096x128, .f32⟩
  | 20 => ⟨S8x4096x128, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S_, .i32⟩
  | 31 => ⟨S4096, .i32⟩
  | 32 => ⟨S4096, .i32⟩
  | 33 => ⟨S_, .i32⟩
  | 34 => ⟨S4096, .i32⟩
  | 35 => ⟨S4096, .i32⟩
  | 36 => ⟨S1x4096, .i32⟩
  | 37 => ⟨S4096x1, .i32⟩
  | 38 => ⟨S4096x4096, .i32⟩
  | 39 => ⟨S4096x4096, .i32⟩
  | 40 => ⟨S4096x4096, .i1⟩
  | 41 => ⟨S1x4096, .i32⟩
  | 42 => ⟨S4096x1, .i32⟩
  | 43 => ⟨S4096x4096, .i32⟩
  | 44 => ⟨S4096x4096, .i32⟩
  | 45 => ⟨S4096x4096, .i1⟩
  | 46 => ⟨S4096x4096, .i1⟩
  | 47 => ⟨S_, .f32⟩
  | 48 => ⟨S_, .f32⟩
  | 49 => ⟨S4096x4096, .f32⟩
  | 50 => ⟨S4096x4096, .f32⟩
  | 51 => ⟨S4096x4096, .f32⟩
  | 52 => ⟨S8x128x4096, .f32⟩
  | 53 => ⟨S8x4096x128, .f32⟩
  | 54 => ⟨S4096, .i32⟩
  | 55 => ⟨S4096, .f32⟩
  | 56 => ⟨S1x4096x1, .f32⟩
  | 57 => ⟨S8x4096x128, .f32⟩
  | 58 => ⟨S8x4096x128, .f32⟩
  | 59 => ⟨S8x4096x128, .f32⟩
  | 60 => ⟨S1x128x128, .f32⟩
  | 61 => ⟨S128x128, .f32⟩
  | 62 => ⟨S8x4096x128, .f32⟩
  | 63 => ⟨S8x4096x512, .f32⟩
  | 64 => ⟨S1x1x512, .f32⟩
  | 65 => ⟨S8x4096x512, .f32⟩
  | 66 => ⟨S8x4096x512, .f32⟩
  | 67 => ⟨S8x15x31, .f32⟩
  | 68 => ⟨S4096, .i32⟩
  | 69 => ⟨S_, .i32⟩
  | 70 => ⟨S_, .i32⟩
  | 71 => ⟨S4096, .i32⟩
  | 72 => ⟨S4096, .i32⟩
  | 73 => ⟨S4096, .i32⟩
  | 74 => ⟨S_, .i32⟩
  | 75 => ⟨S4096, .i32⟩
  | 76 => ⟨S4096, .i1⟩
  | 77 => ⟨S4096, .i32⟩
  | 78 => ⟨S4096, .i32⟩
  | 79 => ⟨S_, .i32⟩
  | 80 => ⟨S4096, .i32⟩
  | 81 => ⟨S4096, .i1⟩
  | 82 => ⟨S4096, .i1⟩
  | 83 => ⟨S_, .i32⟩
  | 84 => ⟨S4096, .i32⟩
  | 85 => ⟨S4096, .i32⟩
  | 86 => ⟨S4096, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i1⟩
  | 98 => ⟨S_, .i32⟩
  | 99 => ⟨S4096, .i32⟩
  | 100 => ⟨S4096, .i1⟩
  | 101 => ⟨S_, .i32⟩
  | 102 => ⟨S_, .i1⟩
  | 103 => ⟨S4096, .i1⟩
  | 104 => ⟨S4096, .i1⟩
  | 105 => ⟨S4096, .i1⟩
  | 106 => ⟨S4096, .i32⟩
  | 107 => ⟨S4096, .i32⟩
  | 108 => ⟨S4096, .i32⟩
  | 109 => ⟨S_, .i32⟩
  | 110 => ⟨S4096, .i32⟩
  | 111 => ⟨S4096, .i32⟩
  | 112 => ⟨S_, .i32⟩
  | 113 => ⟨S_, .i32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S_, .i32⟩
  | 124 => ⟨S_, .i32⟩
  | 125 => ⟨S_, .i32⟩
  | 126 => ⟨S4096, .i32⟩
  | 127 => ⟨S4096, .i32⟩
  | _ => ⟨S8x4096x1024, .f32⟩

abbrev hbmTy0_2 (i : Nat) : BufTy := match i % 128 with
  | 0 => ⟨S_, .i32⟩
  | 1 => ⟨S4096, .i32⟩
  | 2 => ⟨S4096, .i32⟩
  | 3 => ⟨S1x4096, .i32⟩
  | 4 => ⟨S4096x1, .i32⟩
  | 5 => ⟨S4096x4096, .i32⟩
  | 6 => ⟨S4096x4096, .i32⟩
  | 7 => ⟨S4096x4096, .i1⟩
  | 8 => ⟨S1x4096, .i32⟩
  | 9 => ⟨S4096x1, .i32⟩
  | 10 => ⟨S_, .i32⟩
  | 11 => ⟨S4096x1, .i32⟩
  | 12 => ⟨S4096x1, .i32⟩
  | 13 => ⟨S4096x4096, .i32⟩
  | 14 => ⟨S4096x4096, .i32⟩
  | 15 => ⟨S4096x4096, .i1⟩
  | 16 => ⟨S4096x4096, .i1⟩
  | 17 => ⟨S1x4096, .i32⟩
  | 18 => ⟨S4096x1, .i32⟩
  | 19 => ⟨S4096x4096, .i32⟩
  | 20 => ⟨S4096x4096, .i32⟩
  | 21 => ⟨S4096x4096, .i1⟩
  | 22 => ⟨S4096x4096, .i1⟩
  | 23 => ⟨S1x4096, .i32⟩
  | 24 => ⟨S4096x1, .i32⟩
  | 25 => ⟨S_, .i32⟩
  | 26 => ⟨S4096x1, .i32⟩
  | 27 => ⟨S4096x1, .i32⟩
  | 28 => ⟨S4096x4096, .i32⟩
  | 29 => ⟨S4096x4096, .i32⟩
  | 30 => ⟨S4096x4096, .i1⟩
  | 31 => ⟨S4096x4096, .i1⟩
  | 32 => ⟨S1x4096, .i32⟩
  | 33 => ⟨S4096x1, .i32⟩
  | 34 => ⟨S4096x4096, .i32⟩
  | 35 => ⟨S4096x4096, .i32⟩
  | 36 => ⟨S4096x4096, .i32⟩
  | 37 => ⟨S_, .i32⟩
  | 38 => ⟨S4096x4096, .i32⟩
  | 39 => ⟨S4096x4096, .i32⟩
  | 40 => ⟨S_, .i32⟩
  | 41 => ⟨S4096x4096, .i32⟩
  | 42 => ⟨S4096x4096, .i32⟩
  | 43 => ⟨S_, .i32⟩
  | 44 => ⟨S_, .i32⟩
  | 45 => ⟨S_, .i32⟩
  | 46 => ⟨S4096x4096, .i32⟩
  | 47 => ⟨S4096x4096, .i32⟩
  | 48 => ⟨S_, .i32⟩
  | 49 => ⟨S4096x4096, .i32⟩
  | 50 => ⟨S4096x4096, .i32⟩
  | 51 => ⟨S1x4096, .i32⟩
  | 52 => ⟨S4096x1, .i32⟩
  | 53 => ⟨S4096x4096, .i32⟩
  | 54 => ⟨S4096x4096, .i32⟩
  | 55 => ⟨S4096x4096, .i32⟩
  | 56 => ⟨S_, .i32⟩
  | 57 => ⟨S4096x4096, .i32⟩
  | 58 => ⟨S4096x4096, .i32⟩
  | 59 => ⟨S_, .i32⟩
  | 60 => ⟨S4096x4096, .i32⟩
  | 61 => ⟨S4096x4096, .i32⟩
  | 62 => ⟨S_, .i32⟩
  | 63 => ⟨S_, .i32⟩
  | 64 => ⟨S_, .i32⟩
  | 65 => ⟨S4096x4096, .i32⟩
  | 66 => ⟨S4096x4096, .i32⟩
  | 67 => ⟨S_, .i32⟩
  | 68 => ⟨S4096x4096, .i32⟩
  | 69 => ⟨S4096x4096, .i32⟩
  | 70 => ⟨S_, .i32⟩
  | 71 => ⟨S4096x4096, .i32⟩
  | 72 => ⟨S4096x4096, .i1⟩
  | 73 => ⟨S_, .i32⟩
  | 74 => ⟨S4096x4096, .i32⟩
  | 75 => ⟨S4096x4096, .i32⟩
  | 76 => ⟨S4096x4096, .i32⟩
  | 77 => ⟨S_, .i32⟩
  | 78 => ⟨S4096x4096, .i32⟩
  | 79 => ⟨S4096x4096, .i1⟩
  | 80 => ⟨S_, .i32⟩
  | 81 => ⟨S4096x4096, .i32⟩
  | 82 => ⟨S4096x4096, .i32⟩
  | 83 => ⟨S4096x4096, .i32⟩
  | 84 => ⟨S4096x4096x1, .i32⟩
  | 85 => ⟨S4096x4096x1, .i32⟩
  | 86 => ⟨S4096x4096x2, .i32⟩
  | 87 => ⟨S8x4096x4096, .f32⟩
  | 88 => ⟨S8x8x4096x4096, .f32⟩
  | 89 => ⟨S_, .f32⟩
  | 90 => ⟨S_, .f32⟩
  | 91 => ⟨S8x8x4096x4096, .f32⟩
  | 92 => ⟨S8x8x4096x4096, .f32⟩
  | 93 => ⟨S1x8x4096x4096, .f32⟩
  | 94 => ⟨S8x8x4096x4096, .f32⟩
  | 95 => ⟨S8x8x4096x4096, .f32⟩
  | 96 => ⟨S1x1x4096x4096, .i1⟩
  | 97 => ⟨S_, .f32⟩
  | 98 => ⟨S_, .f32⟩
  | 99 => ⟨S8x8x4096x4096, .i1⟩
  | 100 => ⟨S8x8x4096x4096, .f32⟩
  | 101 => ⟨S8x8x4096x4096, .f32⟩
  | 102 => ⟨S_, .f32⟩
  | 103 => ⟨S8x8x4096, .f32⟩
  | 104 => ⟨S_, .f32⟩
  | 105 => ⟨S8x8x4096, .f32⟩
  | 106 => ⟨S8x8x4096, .f32⟩
  | 107 => ⟨S8x8x4096x1, .f32⟩
  | 108 => ⟨S8x8x4096x4096, .f32⟩
  | 109 => ⟨S8x8x4096x4096, .f32⟩
  | 110 => ⟨S8x8x4096x4096, .f32⟩
  | 111 => ⟨S_, .f32⟩
  | 112 => ⟨S8x8x4096, .f32⟩
  | 113 => ⟨S8x8x4096x1, .f32⟩
  | 114 => ⟨S8x8x4096x4096, .f32⟩
  | 115 => ⟨S8x8x4096x4096, .f32⟩
  | 116 => ⟨S8x8x64x4096, .f32⟩
  | 117 => ⟨S8x4096x8x64, .f32⟩
  | 118 => ⟨S8x4096x512, .f32⟩
  | 119 => ⟨S8x4096x1024, .f32⟩
  | 120 => ⟨S1024x1024, .f32⟩
  | 121 => ⟨S8x4096x1024, .f32⟩
  | 122 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_5 : Ref sig .tc := ⟨.hbm, 63, rfl⟩
abbrev main_v45 : Ref sig .tc := ⟨.hbm, 64, rfl⟩
abbrev main_v46 : Ref sig .tc := ⟨.hbm, 65, rfl⟩
abbrev main_c_6 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_cst_11 : Ref sig .tc := ⟨.hbm, 90, rfl⟩
abbrev main_call1_v0 : Ref sig .tc := ⟨.hbm, 91, rfl⟩
abbrev main_call1_v1 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_12 : Ref sig .tc := ⟨.hbm, 106, rfl⟩
abbrev main_v79 : Ref sig .tc := ⟨.hbm, 107, rfl⟩
abbrev main_v80 : Ref sig .tc := ⟨.hbm, 108, rfl⟩
abbrev main_c_13 : Ref sig .tc := ⟨.hbm, 109, rfl⟩
abbrev main_v81 : Ref sig .tc := ⟨.hbm, 110, rfl⟩
abbrev main_v82 : Ref sig .tc := ⟨.hbm, 111, rfl⟩
abbrev main_c_14 : Ref sig .tc := ⟨.hbm, 112, rfl⟩
abbrev main_v83 : Ref sig .tc := ⟨.hbm, 113, rfl⟩
abbrev main_v84 : Ref sig .tc := ⟨.hbm, 114, rfl⟩
abbrev main_c_15 : Ref sig .tc := ⟨.hbm, 115, rfl⟩
abbrev main_v85 : Ref sig .tc := ⟨.hbm, 116, rfl⟩
abbrev main_v86 : Ref sig .tc := ⟨.hbm, 117, rfl⟩
abbrev main_c_16 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_17 : Ref sig .tc := ⟨.hbm, 132, rfl⟩
abbrev main_cst_18 : Ref sig .tc := ⟨.hbm, 133, rfl⟩
abbrev main_call2_v0 : Ref sig .tc := ⟨.hbm, 134, rfl⟩
abbrev main_call2_v1 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_c_19 : Ref sig .tc := ⟨.hbm, 149, rfl⟩
abbrev main_v113 : Ref sig .tc := ⟨.hbm, 150, rfl⟩
abbrev main_v114 : Ref sig .tc := ⟨.hbm, 151, rfl⟩
abbrev main_c_20 : Ref sig .tc := ⟨.hbm, 152, rfl⟩
abbrev main_v115 : Ref sig .tc := ⟨.hbm, 153, rfl⟩
abbrev main_v116 : Ref sig .tc := ⟨.hbm, 154, rfl⟩
abbrev main_c_21 : Ref sig .tc := ⟨.hbm, 155, rfl⟩
abbrev main_v117 : Ref sig .tc := ⟨.hbm, 156, rfl⟩
abbrev main_v118 : Ref sig .tc := ⟨.hbm, 157, rfl⟩
abbrev main_c_22 : Ref sig .tc := ⟨.hbm, 158, rfl⟩
abbrev main_v119 : Ref sig .tc := ⟨.hbm, 159, rfl⟩
abbrev main_v120 : Ref sig .tc := ⟨.hbm, 160, rfl⟩
abbrev main_c_23 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_24 : Ref sig .tc := ⟨.hbm, 175, rfl⟩
abbrev main_cst_25 : Ref sig .tc := ⟨.hbm, 176, rfl⟩
abbrev main_call3_v0 : Ref sig .tc := ⟨.hbm, 177, rfl⟩
abbrev main_call3_v1 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_c_26 : Ref sig .tc := ⟨.hbm, 197, rfl⟩
abbrev main_call4_v0 : Ref sig .tc := ⟨.hbm, 198, rfl⟩
abbrev main_call4_v1 : Ref sig .tc := ⟨.hbm, 199, rfl⟩
abbrev main_call4_v2 : Ref sig .tc := ⟨.hbm, 200, rfl⟩
abbrev main_call4_v3 : Ref sig .tc := ⟨.hbm, 201, rfl⟩
abbrev main_call4_v4 : Ref sig .tc := ⟨.hbm, 202, rfl⟩
abbrev main_call4_v5 : Ref sig .tc := ⟨.hbm, 203, rfl⟩
abbrev main_call4_v6 : Ref sig .tc := ⟨.hbm, 204, rfl⟩
abbrev main_call4_v7 : Ref sig .tc := ⟨.hbm, 205, rfl⟩
abbrev main_call4_v8 : Ref sig .tc := ⟨.hbm, 206, rfl⟩
abbrev main_call4_c : Ref sig .tc := ⟨.hbm, 207, rfl⟩
abbrev main_call4_v9 : Ref sig .tc := ⟨.hbm, 208, rfl⟩
abbrev main_call4_v10 : Ref sig .tc := ⟨.hbm, 209, rfl⟩
abbrev main_call4_v11 : Ref sig .tc := ⟨.hbm, 210, rfl⟩
abbrev main_call4_c_0 : Ref sig .tc := ⟨.hbm, 211, rfl⟩
abbrev main_call4_v12 : Ref sig .tc := ⟨.hbm, 212, rfl⟩
abbrev main_call4_v13 : Ref sig .tc := ⟨.hbm, 213, rfl⟩
abbrev main_v152 : Ref sig .tc := ⟨.hbm, 214, rfl⟩
abbrev main_c_27 : Ref sig .tc := ⟨.hbm, 215, rfl⟩
abbrev main_call5_v0 : Ref sig .tc := ⟨.hbm, 216, rfl⟩
abbrev main_call5_c : Ref sig .tc := ⟨.hbm, 217, rfl⟩
abbrev main_call5_v1 : Ref sig .tc := ⟨.hbm, 218, rfl⟩
abbrev main_call5_c_0 : Ref sig .tc := ⟨.hbm, 219, rfl⟩
abbrev main_call5_v2 : Ref sig .tc := ⟨.hbm, 220, rfl⟩
abbrev main_call5_v3 : Ref sig .tc := ⟨.hbm, 221, rfl⟩
abbrev main_call5_v4 : Ref sig .tc := ⟨.hbm, 222, rfl⟩
abbrev main_call5_c_1 : Ref sig .tc := ⟨.hbm, 223, rfl⟩
abbrev main_call5_v5 : Ref sig .tc := ⟨.hbm, 224, rfl⟩
abbrev main_call5_v6 : Ref sig .tc := ⟨.hbm, 225, rfl⟩
abbrev main_call5_c_2 : Ref sig .tc := ⟨.hbm, 226, rfl⟩
abbrev main_call5_v7 : Ref sig .tc := ⟨.hbm, 227, rfl⟩
abbrev main_call5_v8 : Ref sig .tc := ⟨.hbm, 228, rfl⟩
abbrev main_call5_c_3 : Ref sig .tc := ⟨.hbm, 229, rfl⟩
abbrev main_call5_v9 : Ref sig .tc := ⟨.hbm, 230, rfl⟩
abbrev main_call5_v10 : Ref sig .tc := ⟨.hbm, 231, rfl⟩
abbrev main_call5_v11 : Ref sig .tc := ⟨.hbm, 232, rfl⟩
abbrev main_call5_v12 : Ref sig .tc := ⟨.hbm, 233, rfl⟩
abbrev main_call5_v13 : Ref sig .tc := ⟨.hbm, 234, rfl⟩
abbrev main_call5_v14 : Ref sig .tc := ⟨.hbm, 235, rfl⟩
abbrev main_v153 : Ref sig .tc := ⟨.hbm, 236, rfl⟩
abbrev main_c_28 : Ref sig .tc := ⟨.hbm, 237, rfl⟩
abbrev main_v154 : Ref sig .tc := ⟨.hbm, 238, rfl⟩
abbrev main_v155 : Ref sig .tc := ⟨.hbm, 239, rfl⟩
abbrev main_c_29 : Ref sig .tc := ⟨.hbm, 240, rfl⟩
abbrev main_c_30 : Ref sig .tc := ⟨.hbm, 241, rfl⟩
abbrev main_call6_v0 : Ref sig .tc := ⟨.hbm, 242, rfl⟩
abbrev main_call6_v1 : Ref sig .tc := ⟨.hbm, 243, rfl⟩
abbrev main_call6_v2 : Ref sig .tc := ⟨.hbm, 244, rfl⟩
abbrev main_call6_v3 : Ref sig .tc := ⟨.hbm, 245, rfl⟩
abbrev main_call6_v4 : Ref sig .tc := ⟨.hbm, 246, rfl⟩
abbrev main_v156 : Ref sig .tc := ⟨.hbm, 247, rfl⟩
abbrev main_c_31 : Ref sig .tc := ⟨.hbm, 248, rfl⟩
abbrev main_v157 : Ref sig .tc := ⟨.hbm, 249, rfl⟩
abbrev main_v158 : Ref sig .tc := ⟨.hbm, 250, rfl⟩
abbrev main_c_32 : Ref sig .tc := ⟨.hbm, 251, rfl⟩
abbrev main_c_33 : Ref sig .tc := ⟨.hbm, 252, rfl⟩
abbrev main_call7_v0 : Ref sig .tc := ⟨.hbm, 253, rfl⟩
abbrev main_call7_v1 : Ref sig .tc := ⟨.hbm, 254, rfl⟩
abbrev main_call7_v2 : Ref sig .tc := ⟨.hbm, 255, rfl⟩
abbrev main_call7_v3 : Ref sig .tc := ⟨.hbm, 256, rfl⟩
abbrev main_call7_v4 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_c_34 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_c_35 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_c_36 : Ref sig .tc := ⟨.hbm, 293, rfl⟩
abbrev main_v192 : Ref sig .tc := ⟨.hbm, 294, rfl⟩
abbrev main_v193 : Ref sig .tc := ⟨.hbm, 295, rfl⟩
abbrev main_c_37 : Ref sig .tc := ⟨.hbm, 296, rfl⟩
abbrev main_v194 : Ref sig .tc := ⟨.hbm, 297, rfl⟩
abbrev main_v195 : Ref sig .tc := ⟨.hbm, 298, rfl⟩
abbrev main_c_38 : Ref sig .tc := ⟨.hbm, 299, rfl⟩
abbrev main_c_39 : Ref sig .tc := ⟨.hbm, 300, rfl⟩
abbrev main_call8_v0 : Ref sig .tc := ⟨.hbm, 301, rfl⟩
abbrev main_call8_v1 : Ref sig .tc := ⟨.hbm, 302, rfl⟩
abbrev main_call8_v2 : Ref sig .tc := ⟨.hbm, 303, rfl⟩
abbrev main_call8_v3 : Ref sig .tc := ⟨.hbm, 304, rfl⟩
abbrev main_call8_v4 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_v200 : Ref sig .tc := ⟨.hbm, 310, rfl⟩
abbrev main_v201 : Ref sig .tc := ⟨.hbm, 311, rfl⟩
abbrev main_c_40 : Ref sig .tc := ⟨.hbm, 312, rfl⟩
abbrev main_v202 : Ref sig .tc := ⟨.hbm, 313, rfl⟩
abbrev main_v203 : Ref sig .tc := ⟨.hbm, 314, rfl⟩
abbrev main_c_41 : Ref sig .tc := ⟨.hbm, 315, rfl⟩
abbrev main_v204 : Ref sig .tc := ⟨.hbm, 316, rfl⟩
abbrev main_v205 : Ref sig .tc := ⟨.hbm, 317, rfl⟩
abbrev main_c_42 : Ref sig .tc := ⟨.hbm, 318, rfl⟩
abbrev main_c_43 : Ref sig .tc := ⟨.hbm, 319, rfl⟩
abbrev main_call9_v0 : Ref sig .tc := ⟨.hbm, 320, rfl⟩
abbrev main_call9_v1 : Ref sig .tc := ⟨.hbm, 321, rfl⟩
abbrev main_call9_v2 : Ref sig .tc := ⟨.hbm, 322, rfl⟩
abbrev main_call9_v3 : Ref sig .tc := ⟨.hbm, 323, rfl⟩
abbrev main_call9_v4 : Ref sig .tc := ⟨.hbm, 324, rfl⟩
abbrev main_v206 : Ref sig .tc := ⟨.hbm, 325, rfl⟩
abbrev main_c_44 : Ref sig .tc := ⟨.hbm, 326, rfl⟩
abbrev main_v207 : Ref sig .tc := ⟨.hbm, 327, rfl⟩
abbrev main_v208 : Ref sig .tc := ⟨.hbm, 328, rfl⟩
abbrev main_c_45 : Ref sig .tc := ⟨.hbm, 329, rfl⟩
abbrev main_v209 : Ref sig .tc := ⟨.hbm, 330, rfl⟩
abbrev main_v210 : Ref sig .tc := ⟨.hbm, 331, rfl⟩
abbrev main_v211 : Ref sig .tc := ⟨.hbm, 332, rfl⟩
abbrev main_c_46 : Ref sig .tc := ⟨.hbm, 333, rfl⟩
abbrev main_v212 : Ref sig .tc := ⟨.hbm, 334, rfl⟩
abbrev main_v213 : Ref sig .tc := ⟨.hbm, 335, rfl⟩
abbrev main_c_47 : Ref sig .tc := ⟨.hbm, 336, rfl⟩
abbrev main_v214 : Ref sig .tc := ⟨.hbm, 337, rfl⟩
abbrev main_v215 : Ref sig .tc := ⟨.hbm, 338, rfl⟩
abbrev main_v216 : Ref sig .tc := ⟨.hbm, 339, rfl⟩
abbrev main_v217 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_v221 : Ref sig .tc := ⟨.hbm, 344, rfl⟩
abbrev main_cst_48 : Ref sig .tc := ⟨.hbm, 345, rfl⟩
abbrev main_v222 : Ref sig .tc := ⟨.hbm, 346, rfl⟩
abbrev main_v223 : Ref sig .tc := ⟨.hbm, 347, rfl⟩
abbrev main_v224 : Ref sig .tc := ⟨.hbm, 348, rfl⟩
abbrev main_v225 : Ref sig .tc := ⟨.hbm, 349, rfl⟩
abbrev main_v226 : Ref sig .tc := ⟨.hbm, 350, rfl⟩
abbrev main_v227 : Ref sig .tc := ⟨.hbm, 351, rfl⟩
abbrev main_v228 : Ref sig .tc := ⟨.hbm, 352, rfl⟩
abbrev main_cst_49 : Ref sig .tc := ⟨.hbm, 353, rfl⟩
abbrev main_call10_v0 : Ref sig .tc := ⟨.hbm, 354, rfl⟩
abbrev main_call10_v1 : Ref sig .tc := ⟨.hbm, 355, rfl⟩
abbrev main_call10_v2 : Ref sig .tc := ⟨.hbm, 356, rfl⟩
abbrev main_v229 : Ref sig .tc := ⟨.hbm, 357, rfl⟩
abbrev main_cst_50 : Ref sig .tc := ⟨.hbm, 358, rfl⟩
abbrev main_v230 : Ref sig .tc := ⟨.hbm, 359, rfl⟩
abbrev main_cst_51 : Ref sig .tc := ⟨.hbm, 360, rfl⟩
abbrev main_v231 : Ref sig .tc := ⟨.hbm, 361, rfl⟩
abbrev main_v232 : Ref sig .tc := ⟨.hbm, 362, rfl⟩
abbrev main_v233 : Ref sig .tc := ⟨.hbm, 363, rfl⟩
abbrev main_v234 : Ref sig .tc := ⟨.hbm, 364, rfl⟩
abbrev main_v235 : Ref sig .tc := ⟨.hbm, 365, rfl⟩
abbrev main_v236 : Ref sig .tc := ⟨.hbm, 366, rfl⟩
abbrev main_cst_52 : Ref sig .tc := ⟨.hbm, 367, rfl⟩
abbrev main_v237 : Ref sig .tc := ⟨.hbm, 368, rfl⟩
abbrev main_v238 : Ref sig .tc := ⟨.hbm, 369, rfl⟩
abbrev main_v239 : Ref sig .tc := ⟨.hbm, 370, rfl⟩
abbrev main_v240 : Ref sig .tc := ⟨.hbm, 371, rfl⟩
abbrev main_v241 : Ref sig .tc := ⟨.hbm, 372, rfl⟩
abbrev main_v242 : Ref sig .tc := ⟨.hbm, 373, rfl⟩
abbrev main_v243 : Ref sig .tc := ⟨.hbm, 374, rfl⟩
abbrev main_v244 : Ref sig .tc := ⟨.hbm, 375, rfl⟩
abbrev main_v245 : Ref sig .tc := ⟨.hbm, 376, rfl⟩
abbrev main_v246 : Ref sig .tc := ⟨.hbm, 377, rfl⟩
abbrev main_v247 : Ref sig .tc := ⟨.hbm, 378, rfl⟩

abbrev nD : Nat := 1
abbrev τ : Topo := Topo.v7x

variable {F : FTy → Type} [FloatOps F]
-- ==== Mlp.lean ====
abbrev S8x4096x1024 : Shape := ⟨3, ![8, 4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S1x1024x1024 : Shape := ⟨3, ![1, 1024, 1024]⟩
abbrev S1024x1024 : Shape := ⟨2, ![1024, 1024]⟩
abbrev S1024x1 : Shape := ⟨2, ![1024, 1]⟩
abbrev S256x1024 : Shape := ⟨2, ![256, 1024]⟩
abbrev S256x1 : Shape := ⟨2, ![256, 1]⟩
abbrev S256 : Shape := ⟨1, ![256]⟩
abbrev S1x256x1024 : Shape := ⟨3, ![1, 256, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1x1024x1024, .f32⟩
  | .local _ .vmem, ⟨7, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlpRefIdeal.lean ====
abbrev S8x4096x1024 : Shape := ⟨3, ![8, 4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4096 : Shape := ⟨2, ![1024, 4096]⟩
abbrev S8x4096x4096 : Shape := ⟨3, ![8, 4096, 4096]⟩
abbrev S4096x1024 : Shape := ⟨2, ![4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1024x4096, .f32⟩
  | .hbm, ⟨23, _⟩ => ⟨S8x4096x4096, .f32⟩
  | .hbm, ⟨24, _⟩ => ⟨S_, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1, .f32⟩
  | .hbm, ⟨42, _⟩ => ⟨S8x4096x1024, .f32⟩
  | .hbm, ⟨43, _⟩ => ⟨S8x4096x1024, .f32⟩
  | .hbm, ⟨44, _⟩ => ⟨S1x1x1024, .f32⟩
  | .hbm, ⟨45, _⟩ => ⟨S8x4096x1024, .f32⟩
  | .hbm, ⟨46, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== In.lean ====
abbrev S8x4096x1024 : Shape := ⟨3, ![8, 4096, 1024]⟩
abbrev S1x1024 : Shape := ⟨2, ![1, 1024]⟩
abbrev S1x1024x2048 : Shape := ⟨3, ![1, 1024, 2048]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x2048 : Shape := ⟨2, ![1024, 2048]⟩
abbrev S1024x1024 : Shape := ⟨2, ![1024, 1024]⟩
abbrev S1024x4096 : Shape := ⟨2, ![1024, 4096]⟩
abbrev S4096x1024 : Shape := ⟨2, ![4096, 1024]⟩
abbrev S8x4096x512 : Shape := ⟨3, ![8, 4096, 512]⟩
abbrev S1x2048x1024 : Shape := ⟨3, ![1, 2048, 1024]⟩
abbrev S64x1024 : Shape := ⟨2, ![64, 1024]⟩
abbrev S64x4096 : Shape := ⟨2, ![64, 4096]⟩
abbrev S256x1024 : Shape := ⟨2, ![256, 1024]⟩
abbrev S1x2048x512 : Shape := ⟨3, ![1, 2048, 512]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 19
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2048, .f32⟩
  | .hbm, ⟨3, _⟩ => ⟨S1x1024x1024, .f32⟩
  | .hbm, ⟨4, _⟩ => ⟨S1x1024x4096, .f32⟩
  | .hbm, ⟨5, _⟩ => ⟨S1x4096x1024, .f32⟩
  | .hbm, ⟨6, _⟩ => ⟨S1024, .f32⟩
  | .hbm, ⟨7, _⟩ => ⟨S1x1024, .f32⟩
  | .hbm, ⟨8, _⟩ => ⟨S1024x2048, .f32⟩
  | .hbm, ⟨9, _⟩ => ⟨S1024x1024, .f32⟩
  | .hbm, ⟨10, _⟩ => ⟨S1024x4096, .f32⟩
  | .hbm, ⟨11, _⟩ => ⟨S4096x1024, .f32⟩
  | .hbm, ⟨12, _⟩ => ⟨S1024x1024, .bf16⟩
  | .hbm, ⟨13, _⟩ => ⟨S1024x4096, .bf16⟩
  | .hbm, ⟨14, _⟩ => ⟨S4096x1024, .bf16⟩
  | .hbm, ⟨15, _⟩ => ⟨S8x4096x512, .bf16⟩
  | .hbm, ⟨16, _⟩ => ⟨S8x4096x512, .bf16⟩
  | .hbm, ⟨17, _⟩ => ⟨S8x4096x512, .bf16⟩
  | .hbm, ⟨18, _⟩ => ⟨S8x4096x512, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1024x2048, .f32⟩
  | .local _ .vmem, ⟨4, _⟩ => ⟨S64x1024, .f32⟩
  | .local _ .vmem, ⟨5, _⟩ => ⟨S64x1024, .f32⟩
  | .local _ .vmem, ⟨6, _⟩ => ⟨S64x4096, .f32⟩
  | .local _ .vmem, ⟨7, _⟩ => ⟨S64x4096, .f32⟩
  | .local _ .vmem, ⟨8, _⟩ => ⟨S256x1024, .f32⟩
  | .local _ .vmem, ⟨9, _⟩ => ⟨S256x1024, .f32⟩
  | .local _ .vmem, ⟨10, _⟩ => ⟨S64x1024, .bf16⟩
  | .local _ .vmem, ⟨11, _⟩ => ⟨S64x1024, .bf16⟩
  | .local _ .vmem, ⟨12, _⟩ => ⟨S64x4096, .bf16⟩
  | .local _ .vmem, ⟨13, _⟩ => ⟨S64x4096, .bf16⟩
  | .local _ .vmem, ⟨14, _⟩ => ⟨S256x1024, .bf16⟩
  | .local _ .vmem, ⟨15, _⟩ => ⟨S256x1024, .bf16⟩
  | .local _ .vmem, ⟨16, _⟩ => ⟨S1x2048x512, .bf16⟩
  | .local _ .vmem, ⟨17, _⟩ => ⟨S1x2048x512, .bf16⟩
  | .local _ .vmem, ⟨18, _⟩ => ⟨S1x2048x512, .bf16⟩
  | .local _ .vmem, ⟨19, _⟩ => ⟨S1x2048x512, .bf16⟩
  | .local _ .vmem, ⟨20, _⟩ => ⟨S1x2048x512, .bf16⟩
  | .local _ .vmem, ⟨21, _⟩ => ⟨S1x2048x512, .bf16⟩
  | .local _ .vmem, ⟨22, _⟩ => ⟨S1x2048x512, .bf16⟩
  | .local _ .vmem, ⟨23, _⟩ => ⟨S1x2048x512, .bf16⟩
  | .local _ .vmem, ⟨24, _⟩ => ⟨S1024x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v6_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2048x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InIdeal.lean ====
variable {F : FTy → Type} [FloatOps F] [Named F]
def κ : String → Option EReal := fun
  | "query_scale" => some (((Real.log 256)⁻¹ : ℝ) : EReal)
  | _ => none
-- ==== InRefIdeal.lean ====
abbrev S8x4096x1024 : Shape := ⟨3, ![8, 4096, 1024]⟩
abbrev S1x1024 : Shape := ⟨2, ![1, 1024]⟩
abbrev S1x1024x2048 : Shape := ⟨3, ![1, 1024, 2048]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2048 : Shape := ⟨2, ![1024, 2048]⟩
abbrev S8x4096x2048 : Shape := ⟨3, ![8, 4096, 2048]⟩
abbrev S8x4096x512 : Shape := ⟨3, ![8, 4096, 512]⟩
abbrev S8x4096x1536 : Shape := ⟨3, ![8, 4096, 1536]⟩
abbrev S1024x1024 : Shape := ⟨2, ![1024, 1024]⟩
abbrev S1024x4096 : Shape := ⟨2, ![1024, 4096]⟩
abbrev S4096x1024 : Shape := ⟨2, ![4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2048, .f32⟩
  | .hbm, ⟨3, _⟩ => ⟨S1x1024x1024, .f32⟩
  | .hbm, ⟨4, _⟩ => ⟨S1x1024x4096, .f32⟩
  | .hbm, ⟨5, _⟩ => ⟨S1x4096x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1024x2048, .f32⟩
  | .hbm, ⟨24, _⟩ => ⟨S8x4096x2048, .f32⟩
  | .hbm, ⟨25, _⟩ => ⟨S8x4096x512, .f32⟩
  | .hbm, ⟨26, _⟩ => ⟨S8x4096x1536, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S_, .f32⟩
  | .hbm, ⟨31, _⟩ => ⟨S8x4096x512, .f32⟩
  | .hbm, ⟨32, _⟩ => ⟨S8x4096x512, .f32⟩
  | .hbm, ⟨33, _⟩ => ⟨S_, .f32⟩
  | .hbm, ⟨34, _⟩ => ⟨S_, .f32⟩
  | .hbm, ⟨35, _⟩ => ⟨S8x4096x512, .f32⟩
  | .hbm, ⟨36, _⟩ => ⟨S8x4096x512, .f32⟩
  | .hbm, ⟨37, _⟩ => ⟨S1024x1024, .f32⟩
  | .hbm, ⟨38, _⟩ => ⟨S1024x4096, .f32⟩
  | .hbm, ⟨39, _⟩ => ⟨S4096x1024, .f32⟩
  | .hbm, ⟨40, _⟩ => ⟨S8x4096x512, .bf16⟩
  | .hbm, ⟨41, _⟩ => ⟨S8x4096x512, .bf16⟩
  | .hbm, ⟨42, _⟩ => ⟨S8x4096x512, .bf16⟩
  | .hbm, ⟨43, _⟩ => ⟨S8x4096x512, .bf16⟩
  | .hbm, ⟨44, _⟩ => ⟨S1024x1024, .bf16⟩
  | .hbm, ⟨45, _⟩ => ⟨S1024x4096, .bf16⟩
  | .hbm, ⟨46, _⟩ => ⟨S4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Rest.lean ====
module

public import proofs.«01_k».proof.Proof.Gen.KernelIdeal.Skeleton
public import proofs.«01_k».proof.Proof.Gen.KernelIdeal.Frame

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The condition of the body's one branch: the grid's first point. -/
abbrev atFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

set_option maxHeartbeats 4000000 in
noncomputable def restRun (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x1024x512 .bf16) (harg6 : arg6.IsWhole) (arg7 : Memref sig .tc .vmem S1x1536x512 .bf16) (harg7 : arg7.IsWhole) (arg8 : Memref sig .tc .vmem S1x1536x512 .bf16) (harg8 : arg8.IsWhole) (arg9 : Memref sig .tc .vmem S4x128x128 .f32) (harg9 : arg9.IsWhole) (arg10 : Memref sig .tc .vmem S1x512 .f32) (harg10 : arg10.IsWhole) (arg11 : Memref sig .tc .vmem S8x15x128 .f32) (harg11 : arg11.IsWhole) (arg12 : Memref sig .tc .vmem S512x1024 .f32) (harg12 : arg12.IsWhole) (arg13 : Memref sig .tc .vmem S1024x1024 .bf16) (harg13 : arg13.IsWhole) (arg14 : Memref sig .tc .vmem S1x1024x1024 .f32) (harg14 : arg14.IsWhole) (arg15 : Memref sig .tc .vmem S1024x512 .bf16) (harg15 : arg15.IsWhole) (arg16 : Memref sig .tc .vmem S14x512x128 .f32) (harg16 : arg16.IsWhole) (arg17 : Memref sig .tc .vmem S512x1024 .bf16) (harg17 : arg17.IsWhole) (hc0 : ¬ atFirst i)
    (x0 : Vec F S1x1024x1024 .f32) (x1 : Vec F S1x1024x512 .bf16) (x2 : Vec F S1x16x512 .bf16) (x3 : Vec F S1x16x512 .bf16) (x4 : Vec F S1x1024x512 .bf16) (x5 : Vec F S1x1536x512 .bf16) (x6 : Vec F S1x1536x512 .bf16) (x7 : Vec F S4x128x128 .f32) (x8 : Vec F S1x512 .f32) (x9 : Vec F S8x15x128 .f32) (x10 : Vec F S512x1024 .f32) (x11 : Vec F S1024x1024 .bf16) (B : Vec F S14x512x128 .f32) (W : Vec F S512x1024 .bf16) :
    { LO : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare B ∗ owns (c : Thread nD τ) arg17 fullShare W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f LO) ∗ (∃ d, owns (c : Thread nD τ) arg15 fullShare d) ∗ owns (c : Thread nD τ) arg16 fullShare B ∗ owns (c : Thread nD τ) arg17 fullShare W) -∗ K ⟨⟩))
          ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_mixers_eq_skeleton]; unfold cc0_mixers_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, HS0⟩, ⟨%fB, %hfB, HS1⟩, ⟨%fW, %hfW, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg16.eq_unread hfB; obtain rfl := harg17.eq_unread hfW
    sl_exec_parts (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; iexact H12
    isplitl [HS0]
    · iexists _, _; isplitr; swap; · iexact HS0
      ipureintro; rfl
    isplitl [HS1]
    · iexists _; isplitr; · ipureintro; exact harg16.read_unread _
      iexact HS1
    · iexists _; isplitr; · ipureintro; exact harg17.read_unread _
      iexact HS2

end Cert.KernelIdeal.Mix

end
-- ==== Proof.First.lean ====
module

public import proofs.«01_k».proof.Proof.Rest

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at the grid's first point, over any account of its branch (`hinit`) that leaves the bias table at `B` and the
    folded pool weights at `W`. -/
noncomputable def firstRun (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x1024x512 .bf16) (harg6 : arg6.IsWhole) (arg7 : Memref sig .tc .vmem S1x1536x512 .bf16) (harg7 : arg7.IsWhole) (arg8 : Memref sig .tc .vmem S1x1536x512 .bf16) (harg8 : arg8.IsWhole) (arg9 : Memref sig .tc .vmem S4x128x128 .f32) (harg9 : arg9.IsWhole) (arg10 : Memref sig .tc .vmem S1x512 .f32) (harg10 : arg10.IsWhole) (arg11 : Memref sig .tc .vmem S8x15x128 .f32) (harg11 : arg11.IsWhole) (arg12 : Memref sig .tc .vmem S512x1024 .f32) (harg12 : arg12.IsWhole) (arg13 : Memref sig .tc .vmem S1024x1024 .bf16) (harg13 : arg13.IsWhole) (arg14 : Memref sig .tc .vmem S1x1024x1024 .f32) (harg14 : arg14.IsWhole) (arg15 : Memref sig .tc .vmem S1024x512 .bf16) (harg15 : arg15.IsWhole) (arg16 : Memref sig .tc .vmem S14x512x128 .f32) (harg16 : arg16.IsWhole) (arg17 : Memref sig .tc .vmem S512x1024 .bf16) (harg17 : arg17.IsWhole) (hc0 : atFirst i)
    (x0 : Vec F S1x1024x1024 .f32) (x1 : Vec F S1x1024x512 .bf16) (x2 : Vec F S1x16x512 .bf16) (x3 : Vec F S1x16x512 .bf16) (x4 : Vec F S1x1024x512 .bf16) (x5 : Vec F S1x1536x512 .bf16) (x6 : Vec F S1x1536x512 .bf16) (x7 : Vec F S4x128x128 .f32) (x8 : Vec F S1x512 .f32) (x9 : Vec F S8x15x128 .f32) (x10 : Vec F S512x1024 .f32) (x11 : Vec F S1024x1024 .bf16) (B : Vec F S14x512x128 .f32) (W : Vec F S512x1024 .bf16) :
    { LO : List (View.Piece (Elt F) S1x1024x1024 .f32) //
      ∀ (hinit : ∀ (f16 : arg16.view.ty.Contents (Elt F)) (f17 : arg17.view.ty.Contents (Elt F)) (E : Set ℕ),
      (iprop((arg9.view.loc (c : Thread nD τ) ↦[arg9.view.set]{fullShare} (harg9.unread x7)) ∗ (arg10.view.loc (c : Thread nD τ) ↦[arg10.view.set]{fullShare} (harg10.unread x8)) ∗ (arg11.view.loc (c : Thread nD τ) ↦[arg11.view.set]{fullShare} (harg11.unread x9)) ∗ (arg12.view.loc (c : Thread nD τ) ↦[arg12.view.set]{fullShare} (harg12.unread x10)) ∗ (arg16.view.loc (c : Thread nD τ) ↦[arg16.view.set]{fullShare} (f16)) ∗ (arg17.view.loc (c : Thread nD τ) ↦[arg17.view.set]{fullShare} (f17))) : sProp 𝕄) ⊢ wp frame (wpE (defs₀ (F := F)) Variants.none c none) E (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop((arg9.view.loc (c : Thread nD τ) ↦[arg9.view.set]{fullShare} (harg9.unread x7)) ∗ (arg10.view.loc (c : Thread nD τ) ↦[arg10.view.set]{fullShare} (harg10.unread x8)) ∗ (arg11.view.loc (c : Thread nD τ) ↦[arg11.view.set]{fullShare} (harg11.unread x9)) ∗ (arg12.view.loc (c : Thread nD τ) ↦[arg12.view.set]{fullShare} (harg12.unread x10)) ∗ (arg16.view.loc (c : Thread nD τ) ↦[arg16.view.set]{fullShare} (harg16.unread B)) ∗ (arg17.view.loc (c : Thread nD τ) ↦[arg17.view.set]{fullShare} (harg17.unread W)))))
      (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f LO) ∗ (∃ d, owns (c : Thread nD τ) arg15 fullShare d) ∗ owns (c : Thread nD τ) arg16 fullShare B ∗ owns (c : Thread nD τ) arg17 fullShare W) -∗ K ⟨⟩))
          ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun hinit E K => ?run⟩
  case run =>
    simp only [cc0_mixers_eq_skeleton]; unfold cc0_mixers_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, HS0⟩, ⟨%d14, %fB, -, HS1⟩, ⟨%d15, %fW, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    have hcut := hinit fB fW E
    clear hinit
    sl_exec_parts (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [Hk0_part51_0]
    · iexists _; isplitr; · ipureintro; exact harg9.read_unread _
      iexact Hk0_part51_0
    isplitl [Hk0_part51_1]
    · iexists _; isplitr; · ipureintro; exact harg10.read_unread _
      iexact Hk0_part51_1
    isplitl [Hk0_part51_2]
    · iexists _; isplitr; · ipureintro; exact harg11.read_unread _
      iexact Hk0_part51_2
    isplitl [Hk0_part51_3]
    · iexists _; isplitr; · ipureintro; exact harg12.read_unread _
      iexact Hk0_part51_3
    isplitl [H11]
    · iexists _; isplitr; · ipureintro; exact harg13.read_unread _
      iexact H11
    isplitl [H12]
    · iexists _; iexact H12
    isplitl [HS0]
    · iexists _, _; isplitr; swap; · iexact HS0
      ipureintro; rfl
    isplitl [Hk0_part51_4]
    · iexists _; isplitr; · ipureintro; exact harg16.read_unread _
      iexact Hk0_part51_4
    · iexists _; isplitr; · ipureintro; exact harg17.read_unread _
      iexact Hk0_part51_5

end Cert.KernelIdeal.Mix

end
-- ==== Proof.Init.lean ====
module

public import proofs.«01_k».proof.Proof.Gen.KernelIdeal.Skeleton
public import proofs.«01_k».proof.Proof.Gen.KernelIdeal.Frame

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- What the first point's branch stores into the bias table and into the folded pool weights, as pieces (last first), with the
    proof that the branch leaves them there and reads its four inputs only. -/
noncomputable def initRun (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x1024x512 .bf16) (harg6 : arg6.IsWhole) (arg7 : Memref sig .tc .vmem S1x1536x512 .bf16) (harg7 : arg7.IsWhole) (arg8 : Memref sig .tc .vmem S1x1536x512 .bf16) (harg8 : arg8.IsWhole) (arg9 : Memref sig .tc .vmem S4x128x128 .f32) (harg9 : arg9.IsWhole) (arg10 : Memref sig .tc .vmem S1x512 .f32) (harg10 : arg10.IsWhole) (arg11 : Memref sig .tc .vmem S8x15x128 .f32) (harg11 : arg11.IsWhole) (arg12 : Memref sig .tc .vmem S512x1024 .f32) (harg12 : arg12.IsWhole) (arg13 : Memref sig .tc .vmem S1024x1024 .bf16) (harg13 : arg13.IsWhole) (arg14 : Memref sig .tc .vmem S1x1024x1024 .f32) (harg14 : arg14.IsWhole) (arg15 : Memref sig .tc .vmem S1024x512 .bf16) (harg15 : arg15.IsWhole) (arg16 : Memref sig .tc .vmem S14x512x128 .f32) (harg16 : arg16.IsWhole) (arg17 : Memref sig .tc .vmem S512x1024 .bf16) (harg17 : arg17.IsWhole)
    (x7 : Vec F S4x128x128 .f32) (x8 : Vec F S1x512 .f32) (x9 : Vec F S8x15x128 .f32) (x10 : Vec F S512x1024 .f32) :
    { LL : List (View.Piece (Elt F) S14x512x128 .f32) × List (View.Piece (Elt F) S512x1024 .bf16) //
      ∀ (f16 : arg16.view.ty.Contents (Elt F)) (f17 : arg17.view.ty.Contents (Elt F)) (E : Set ℕ) (K : PUnit → sProp 𝕄),
        iprop((arg9.view.loc (c : Thread nD τ) ↦[arg9.view.set]{fullShare} (harg9.unread x7)) ∗ (arg10.view.loc (c : Thread nD τ) ↦[arg10.view.set]{fullShare} (harg10.unread x8)) ∗ (arg11.view.loc (c : Thread nD τ) ↦[arg11.view.set]{fullShare} (harg11.unread x9)) ∗ (arg12.view.loc (c : Thread nD τ) ↦[arg12.view.set]{fullShare} (harg12.unread x10)) ∗ (arg16.view.loc (c : Thread nD τ) ↦[arg16.view.set]{fullShare} (f16)) ∗ (arg17.view.loc (c : Thread nD τ) ↦[arg17.view.set]{fullShare} (f17))
            ∗ (iprop((arg9.view.loc (c : Thread nD τ) ↦[arg9.view.set]{fullShare} (harg9.unread x7)) ∗ (arg10.view.loc (c : Thread nD τ) ↦[arg10.view.set]{fullShare} (harg10.unread x8)) ∗ (arg11.view.loc (c : Thread nD τ) ↦[arg11.view.set]{fullShare} (harg11.unread x9)) ∗ (arg12.view.loc (c : Thread nD τ) ↦[arg12.view.set]{fullShare} (harg12.unread x10)) ∗ (arg16.view.loc (c : Thread nD τ) ↦[arg16.view.set]{fullShare} (arg16.view.writes (Elt F) f16 LL.1)) ∗ (arg17.view.loc (c : Thread nD τ) ↦[arg17.view.set]{fullShare} (arg17.view.writes (Elt F) f17 LL.2))) -∗ K ⟨⟩))
          ⊢ wp frame (wpE (defs₀ (F := F)) Variants.none c none) E (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_), fun f16 f17 E K => ?run⟩
  case run =>
    simp only [k0_part51_eq_skeleton]; unfold k0_part51_skel
    iintro ⟨H7, H8, H9, H10, HS1, HS2, Hk⟩
    sl_exec_parts
    sl_step
    iapply Hk
    isplitl [H7]; · iexact H7
    isplitl [H8]; · iexact H8
    isplitl [H9]; · iexact H9
    isplitl [H10]; · iexact H10
    isplitl [HS1]; · iexact HS1
    iexact HS2

end Cert.KernelIdeal.Mix

end
-- ==== Proof.MixFrame.lean ====
module

public import proofs.«01_k».proof.Proof.First
public import proofs.«01_k».proof.Proof.Init
public import Idealize.ShloMosaic.Lib.Claim

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The point's memrefs, and the branch's condition -/

abbrev ms0 (t : Fin cfg0.N) : Memref sig .tc .vmem S1x1024x1024 .f32 := win0_0.stage (cfg0.slots t 0)
theorem hs0 (t : Fin cfg0.N) : (ms0 t).IsWhole := hstage0_0 ((cfg0.slots t 0).cast nbuf0_0)
abbrev ms1 (t : Fin cfg0.N) : Memref sig .tc .vmem S1x1024x512 .bf16 := win0_1.stage (cfg0.slots t 1)
theorem hs1 (t : Fin cfg0.N) : (ms1 t).IsWhole := hstage0_1 ((cfg0.slots t 1).cast nbuf0_1)
abbrev ms2 (t : Fin cfg0.N) : Memref sig .tc .vmem S1x16x512 .bf16 := win0_2.stage (cfg0.slots t 2)
theorem hs2 (t : Fin cfg0.N) : (ms2 t).IsWhole := hstage0_2 ((cfg0.slots t 2).cast nbuf0_2)
abbrev ms3 (t : Fin cfg0.N) : Memref sig .tc .vmem S1x16x512 .bf16 := win0_3.stage (cfg0.slots t 3)
theorem hs3 (t : Fin cfg0.N) : (ms3 t).IsWhole := hstage0_3 ((cfg0.slots t 3).cast nbuf0_3)
abbrev ms4 (t : Fin cfg0.N) : Memref sig .tc .vmem S1x1024x512 .bf16 := win0_4.stage (cfg0.slots t 4)
theorem hs4 (t : Fin cfg0.N) : (ms4 t).IsWhole := hstage0_4 ((cfg0.slots t 4).cast nbuf0_4)
abbrev ms5 (t : Fin cfg0.N) : Memref sig .tc .vmem S1x1536x512 .bf16 := win0_5.stage (cfg0.slots t 5)
theorem hs5 (t : Fin cfg0.N) : (ms5 t).IsWhole := hstage0_5 ((cfg0.slots t 5).cast nbuf0_5)
abbrev ms6 (t : Fin cfg0.N) : Memref sig .tc .vmem S1x1536x512 .bf16 := win0_6.stage (cfg0.slots t 6)
theorem hs6 (t : Fin cfg0.N) : (ms6 t).IsWhole := hstage0_6 ((cfg0.slots t 6).cast nbuf0_6)
abbrev ms7 (t : Fin cfg0.N) : Memref sig .tc .vmem S4x128x128 .f32 := win0_7.stage (cfg0.slots t 7)
theorem hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
theorem hs8 (t : Fin cfg0.N) : (ms8 t).IsWhole := hstage0_8 ((cfg0.slots t 8).cast nbuf0_8)
abbrev ms9 (t : Fin cfg0.N) : Memref sig .tc .vmem S8x15x128 .f32 := win0_9.stage (cfg0.slots t 9)
theorem hs9 (t : Fin cfg0.N) : (ms9 t).IsWhole := hstage0_9 ((cfg0.slots t 9).cast nbuf0_9)
abbrev ms10 (t : Fin cfg0.N) : Memref sig .tc .vmem S512x1024 .f32 := win0_10.stage (cfg0.slots t 10)
theorem hs10 (t : Fin cfg0.N) : (ms10 t).IsWhole := hstage0_10 ((cfg0.slots t 10).cast nbuf0_10)
abbrev ms11 (t : Fin cfg0.N) : Memref sig .tc .vmem S1024x1024 .bf16 := win0_11.stage (cfg0.slots t 11)
theorem hs11 (t : Fin cfg0.N) : (ms11 t).IsWhole := hstage0_11 ((cfg0.slots t 11).cast nbuf0_11)
abbrev ms12 (t : Fin cfg0.N) : Memref sig .tc .vmem S1x1024x1024 .f32 := win0_12.stage (cfg0.slots t 12)
theorem hs12 (t : Fin cfg0.N) : (ms12 t).IsWhole := hstage0_12 ((cfg0.slots t 12).cast nbuf0_12)
abbrev scM0 : Memref sig .tc .vmem S1024x512 .bf16 := Memref.whole cc0_scratch0
abbrev scM1 : Memref sig .tc .vmem S14x512x128 .f32 := Memref.whole cc0_scratch1
abbrev scM2 : Memref sig .tc .vmem S512x1024 .bf16 := Memref.whole cc0_scratch2

/-- The branch that builds the tables runs at the grid's first point and at no other. -/
theorem atFirst_iff (t : Fin cfg0.N) : atFirst (grid0.coords t) ↔ t.val = 0 := by
  have ht : t.val < 32 := Nat.lt_of_lt_of_eq t.isLt N_0
  have key : atFirst (grid0.coords t) ↔ t.val % 32 = 0 := by
    have e0 : (grid0.coords t 0).val = t.val / 4 % 8 := Pipeline.Grid.coords_val t 0 (by decide) rfl
    have e1 : (grid0.coords t 1).val = t.val / 1 % 4 := Pipeline.Grid.coords_val t 1 (by decide) rfl
    simp only [atFirst, e0, e1]
    word_cmp
  rw [key]; omega

/-! ## The tables the first point builds -/

/-- The first point. -/
abbrev t0 : Fin cfg0.N := ⟨0, Nat.lt_of_lt_of_eq (by decide) N_0.symm⟩

/-- The stores of the first point's branch cover the bias table, -/
theorem cover_bias (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x1024x512 .bf16) (harg6 : arg6.IsWhole) (arg7 : Memref sig .tc .vmem S1x1536x512 .bf16) (harg7 : arg7.IsWhole) (arg8 : Memref sig .tc .vmem S1x1536x512 .bf16) (harg8 : arg8.IsWhole) (arg9 : Memref sig .tc .vmem S4x128x128 .f32) (harg9 : arg9.IsWhole) (arg10 : Memref sig .tc .vmem S1x512 .f32) (harg10 : arg10.IsWhole) (arg11 : Memref sig .tc .vmem S8x15x128 .f32) (harg11 : arg11.IsWhole) (arg12 : Memref sig .tc .vmem S512x1024 .f32) (harg12 : arg12.IsWhole) (arg13 : Memref sig .tc .vmem S1024x1024 .bf16) (harg13 : arg13.IsWhole) (arg14 : Memref sig .tc .vmem S1x1024x1024 .f32) (harg14 : arg14.IsWhole) (arg15 : Memref sig .tc .vmem S1024x512 .bf16) (harg15 : arg15.IsWhole) (arg16 : Memref sig .tc .vmem S14x512x128 .f32) (harg16 : arg16.IsWhole) (arg17 : Memref sig .tc .vmem S512x1024 .bf16) (harg17 : arg17.IsWhole)
    (x7 : Vec F S4x128x128 .f32) (x8 : Vec F S1x512 .f32) (x9 : Vec F S8x15x128 .f32) (x10 : Vec F S512x1024 .f32) (y : S14x512x128.Idx) :
    ∃ pc ∈ (initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x7 x8 x9 x10).1.1, y ∈ pc.1.set :=
  View.cover_of_tiledL (initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x7 x8 x9 x10).1.1 (S1x64x128).size (by sl_kernel_rfl) y

/-- and the folded pool weights. -/
theorem cover_pool (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x1024x512 .bf16) (harg6 : arg6.IsWhole) (arg7 : Memref sig .tc .vmem S1x1536x512 .bf16) (harg7 : arg7.IsWhole) (arg8 : Memref sig .tc .vmem S1x1536x512 .bf16) (harg8 : arg8.IsWhole) (arg9 : Memref sig .tc .vmem S4x128x128 .f32) (harg9 : arg9.IsWhole) (arg10 : Memref sig .tc .vmem S1x512 .f32) (harg10 : arg10.IsWhole) (arg11 : Memref sig .tc .vmem S8x15x128 .f32) (harg11 : arg11.IsWhole) (arg12 : Memref sig .tc .vmem S512x1024 .f32) (harg12 : arg12.IsWhole) (arg13 : Memref sig .tc .vmem S1024x1024 .bf16) (harg13 : arg13.IsWhole) (arg14 : Memref sig .tc .vmem S1x1024x1024 .f32) (harg14 : arg14.IsWhole) (arg15 : Memref sig .tc .vmem S1024x512 .bf16) (harg15 : arg15.IsWhole) (arg16 : Memref sig .tc .vmem S14x512x128 .f32) (harg16 : arg16.IsWhole) (arg17 : Memref sig .tc .vmem S512x1024 .bf16) (harg17 : arg17.IsWhole)
    (x7 : Vec F S4x128x128 .f32) (x8 : Vec F S1x512 .f32) (x9 : Vec F S8x15x128 .f32) (x10 : Vec F S512x1024 .f32) (y : S512x1024.Idx) :
    ∃ pc ∈ (initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x7 x8 x9 x10).1.2, y ∈ pc.1.set :=
  View.cover_of_tiledL (initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x7 x8 x9 x10).1.2 (S128x1024).size (by sl_kernel_rfl) y

/-- The bias table: what the first point's branch leaves in its scratch buffer. -/
def biasTable (c : Dev nD) : Vec F S14x512x128 .f32 :=
  scM1.view.read (Elt F) (scM1.view.writes (Elt F) scM1.view.junk
    (initRun c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) scM0 (Memref.isWhole_whole _) scM1 (Memref.isWhole_whole _) scM2 (Memref.isWhole_whole _) (iblk m c 7 t0) (iblk m c 8 t0) (iblk m c 9 t0) (iblk m c 10 t0)).1.1)

/-- The folded pool weights: what the first point's branch leaves in theirs. -/
def poolTable (c : Dev nD) : Vec F S512x1024 .bf16 :=
  scM2.view.read (Elt F) (scM2.view.writes (Elt F) scM2.view.junk
    (initRun c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) scM0 (Memref.isWhole_whole _) scM1 (Memref.isWhole_whole _) scM2 (Memref.isWhole_whole _) (iblk m c 7 t0) (iblk m c 8 t0) (iblk m c 9 t0) (iblk m c 10 t0)).1.2)

/-- The branch leaves the two tables, whatever its scratch buffers held. -/
theorem init_leaves (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x1024x512 .bf16) (harg6 : arg6.IsWhole) (arg7 : Memref sig .tc .vmem S1x1536x512 .bf16) (harg7 : arg7.IsWhole) (arg8 : Memref sig .tc .vmem S1x1536x512 .bf16) (harg8 : arg8.IsWhole) (arg9 : Memref sig .tc .vmem S4x128x128 .f32) (harg9 : arg9.IsWhole) (arg10 : Memref sig .tc .vmem S1x512 .f32) (harg10 : arg10.IsWhole) (arg11 : Memref sig .tc .vmem S8x15x128 .f32) (harg11 : arg11.IsWhole) (arg12 : Memref sig .tc .vmem S512x1024 .f32) (harg12 : arg12.IsWhole) (arg13 : Memref sig .tc .vmem S1024x1024 .bf16) (harg13 : arg13.IsWhole) (arg14 : Memref sig .tc .vmem S1x1024x1024 .f32) (harg14 : arg14.IsWhole) (arg15 : Memref sig .tc .vmem S1024x512 .bf16) (harg15 : arg15.IsWhole) (arg16 : Memref sig .tc .vmem S14x512x128 .f32) (harg16 : arg16.IsWhole) (arg17 : Memref sig .tc .vmem S512x1024 .bf16) (harg17 : arg17.IsWhole)
    (x7 : Vec F S4x128x128 .f32) (x8 : Vec F S1x512 .f32) (x9 : Vec F S8x15x128 .f32) (x10 : Vec F S512x1024 .f32) (B : Vec F S14x512x128 .f32) (W : Vec F S512x1024 .bf16)
    (hB : ∀ f, arg16.view.read (Elt F) (arg16.view.writes (Elt F) f (initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x7 x8 x9 x10).1.1) = B)
    (hW : ∀ f, arg17.view.read (Elt F) (arg17.view.writes (Elt F) f (initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x7 x8 x9 x10).1.2) = W)
    (f16 : arg16.view.ty.Contents (Elt F)) (f17 : arg17.view.ty.Contents (Elt F)) (E : Set ℕ) :
    (iprop((arg9.view.loc (c : Thread nD τ) ↦[arg9.view.set]{fullShare} (harg9.unread x7)) ∗ (arg10.view.loc (c : Thread nD τ) ↦[arg10.view.set]{fullShare} (harg10.unread x8)) ∗ (arg11.view.loc (c : Thread nD τ) ↦[arg11.view.set]{fullShare} (harg11.unread x9)) ∗ (arg12.view.loc (c : Thread nD τ) ↦[arg12.view.set]{fullShare} (harg12.unread x10)) ∗ (arg16.view.loc (c : Thread nD τ) ↦[arg16.view.set]{fullShare} (f16)) ∗ (arg17.view.loc (c : Thread nD τ) ↦[arg17.view.set]{fullShare} (f17))) : sProp 𝕄) ⊢ wp frame (wpE (defs₀ (F := F)) Variants.none c none) E (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (fun _ => iprop((arg9.view.loc (c : Thread nD τ) ↦[arg9.view.set]{fullShare} (harg9.unread x7)) ∗ (arg10.view.loc (c : Thread nD τ) ↦[arg10.view.set]{fullShare} (harg10.unread x8)) ∗ (arg11.view.loc (c : Thread nD τ) ↦[arg11.view.set]{fullShare} (harg11.unread x9)) ∗ (arg12.view.loc (c : Thread nD τ) ↦[arg12.view.set]{fullShare} (harg12.unread x10)) ∗ (arg16.view.loc (c : Thread nD τ) ↦[arg16.view.set]{fullShare} (harg16.unread B)) ∗ (arg17.view.loc (c : Thread nD τ) ↦[arg17.view.set]{fullShare} (harg17.unread W)))) := by
  have h := (initRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x7 x8 x9 x10).2 f16 f17 E (fun _ => iprop((arg9.view.loc (c : Thread nD τ) ↦[arg9.view.set]{fullShare} (harg9.unread x7)) ∗ (arg10.view.loc (c : Thread nD τ) ↦[arg10.view.set]{fullShare} (harg10.unread x8)) ∗ (arg11.view.loc (c : Thread nD τ) ↦[arg11.view.set]{fullShare} (harg11.unread x9)) ∗ (arg12.view.loc (c : Thread nD τ) ↦[arg12.view.set]{fullShare} (harg12.unread x10)) ∗ (arg16.view.loc (c : Thread nD τ) ↦[arg16.view.set]{fullShare} (harg16.unread B)) ∗ (arg17.view.loc (c : Thread nD τ) ↦[arg17.view.set]{fullShare} (harg17.unread W))))
  rw [harg16.eq_unread (hB f16), harg17.eq_unread (hW f17)] at h
  iintro ⟨H0, H1, H2, H3, H4, H5⟩
  iapply h
  isplitl [H0]; · iexact H0
  isplitl [H1]; · iexact H1
  isplitl [H2]; · iexact H2
  isplitl [H3]; · iexact H3
  isplitl [H4]; · iexact H4
  isplitl [H5]; · iexact H5
  iintro H
  iexact H

/-! ## What a point leaves in its output block -/

theorem cover_first (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x1024x512 .bf16) (harg6 : arg6.IsWhole) (arg7 : Memref sig .tc .vmem S1x1536x512 .bf16) (harg7 : arg7.IsWhole) (arg8 : Memref sig .tc .vmem S1x1536x512 .bf16) (harg8 : arg8.IsWhole) (arg9 : Memref sig .tc .vmem S4x128x128 .f32) (harg9 : arg9.IsWhole) (arg10 : Memref sig .tc .vmem S1x512 .f32) (harg10 : arg10.IsWhole) (arg11 : Memref sig .tc .vmem S8x15x128 .f32) (harg11 : arg11.IsWhole) (arg12 : Memref sig .tc .vmem S512x1024 .f32) (harg12 : arg12.IsWhole) (arg13 : Memref sig .tc .vmem S1024x1024 .bf16) (harg13 : arg13.IsWhole) (arg14 : Memref sig .tc .vmem S1x1024x1024 .f32) (harg14 : arg14.IsWhole) (arg15 : Memref sig .tc .vmem S1024x512 .bf16) (harg15 : arg15.IsWhole) (arg16 : Memref sig .tc .vmem S14x512x128 .f32) (harg16 : arg16.IsWhole) (arg17 : Memref sig .tc .vmem S512x1024 .bf16) (harg17 : arg17.IsWhole) (hc0 : atFirst i)
    (x0 : Vec F S1x1024x1024 .f32) (x1 : Vec F S1x1024x512 .bf16) (x2 : Vec F S1x16x512 .bf16) (x3 : Vec F S1x16x512 .bf16) (x4 : Vec F S1x1024x512 .bf16) (x5 : Vec F S1x1536x512 .bf16) (x6 : Vec F S1x1536x512 .bf16) (x7 : Vec F S4x128x128 .f32) (x8 : Vec F S1x512 .f32) (x9 : Vec F S8x15x128 .f32) (x10 : Vec F S512x1024 .f32) (x11 : Vec F S1024x1024 .bf16) (B : Vec F S14x512x128 .f32) (W : Vec F S512x1024 .bf16) (y : S1x1024x1024.Idx) :
    ∃ pc ∈ (firstRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 B W).1, y ∈ pc.1.set :=
  View.cover_of_tiledL (firstRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 B W).1 (S1x1024x1024).size (by sl_kernel_rfl) y

theorem cover_rest (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x1024x512 .bf16) (harg6 : arg6.IsWhole) (arg7 : Memref sig .tc .vmem S1x1536x512 .bf16) (harg7 : arg7.IsWhole) (arg8 : Memref sig .tc .vmem S1x1536x512 .bf16) (harg8 : arg8.IsWhole) (arg9 : Memref sig .tc .vmem S4x128x128 .f32) (harg9 : arg9.IsWhole) (arg10 : Memref sig .tc .vmem S1x512 .f32) (harg10 : arg10.IsWhole) (arg11 : Memref sig .tc .vmem S8x15x128 .f32) (harg11 : arg11.IsWhole) (arg12 : Memref sig .tc .vmem S512x1024 .f32) (harg12 : arg12.IsWhole) (arg13 : Memref sig .tc .vmem S1024x1024 .bf16) (harg13 : arg13.IsWhole) (arg14 : Memref sig .tc .vmem S1x1024x1024 .f32) (harg14 : arg14.IsWhole) (arg15 : Memref sig .tc .vmem S1024x512 .bf16) (harg15 : arg15.IsWhole) (arg16 : Memref sig .tc .vmem S14x512x128 .f32) (harg16 : arg16.IsWhole) (arg17 : Memref sig .tc .vmem S512x1024 .bf16) (harg17 : arg17.IsWhole) (hc0 : ¬ atFirst i)
    (x0 : Vec F S1x1024x1024 .f32) (x1 : Vec F S1x1024x512 .bf16) (x2 : Vec F S1x16x512 .bf16) (x3 : Vec F S1x16x512 .bf16) (x4 : Vec F S1x1024x512 .bf16) (x5 : Vec F S1x1536x512 .bf16) (x6 : Vec F S1x1536x512 .bf16) (x7 : Vec F S4x128x128 .f32) (x8 : Vec F S1x512 .f32) (x9 : Vec F S8x15x128 .f32) (x10 : Vec F S512x1024 .f32) (x11 : Vec F S1024x1024 .bf16) (B : Vec F S14x512x128 .f32) (W : Vec F S512x1024 .bf16) (y : S1x1024x1024.Idx) :
    ∃ pc ∈ (restRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 B W).1, y ∈ pc.1.set :=
  View.cover_of_tiledL (restRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 B W).1 (S1x1024x1024).size (by sl_kernel_rfl) y

/-- The output block of point `t`: the run's store read back. -/
def outBlock (c : Dev nD) (t : Fin cfg0.N) : Vec F S1x1024x1024 .f32 :=
  if h : t.val = 0 then
    (ms12 t).view.read (Elt F) ((ms12 t).view.writes (Elt F) (ms12 t).view.junk
      (firstRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) ((atFirst_iff t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (biasTable m c) (poolTable m c)).1)
  else
    (ms12 t).view.read (Elt F) ((ms12 t).view.writes (Elt F) (ms12 t).view.junk
      (restRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) (fun h' => h ((atFirst_iff t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (biasTable m c) (poolTable m c)).1)

/-! ## The invariant and the proof data -/

omit [FloatOps F] [Named F] in
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- Before the first point every scratch buffer holds anything; after it the two tables are in theirs. -/
def PhiS (c : Dev nD) : (n : ℕ) → n ≤ cfg0.N → sProp 𝕄
  | 0, _ => Pipeline.ΦA spec0 c
  | _ + 1, _ => iprop(iprop((∃ d, owns (c : Thread nD τ) scM0 fullShare d) ∗ owns (c : Thread nD τ) scM1 fullShare (biasTable m c) ∗ owns (c : Thread nD τ) scM2 fullShare (poolTable m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ d, owns (c : Thread nD τ) scM0 fullShare d) ∗ owns (c : Thread nD τ) scM1 fullShare (biasTable m c) ∗ owns (c : Thread nD τ) scM2 fullShare (poolTable m c)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outBlock m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = outBlock m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t))

set_option maxHeartbeats 3200000 in
/-- The body at any point: the first point's run over an account of its branch, or the run of the others over the tables. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).owesAt () t.succ = (dats m 0 c).owesAt () t.castSucc from rfl,
    after0, after1, after2, after3, after4, after5, after6, after7, after8, after9, after10, after11, after12]
  rw [show (dats m 0 c).Φ t.succ = PhiS m c (t.val + 1) t.isLt from rfl, PhiS_pos m c (t.val + 1) _ (Nat.succ_ne_zero _)]
  by_cases hz : t.val = 0
  · rw [PhiS_castSucc m c t, PhiS_zero m c _ _ hz, PhiA_eq]
    have ho : outBlock m c t = _ := dif_pos hz
    rw [ho]
    have ht : t = t0 := Fin.ext (hz.trans rfl)
    have hinit := init_leaves c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) (iblk m c 7 t) (iblk m c 8 t) (iblk m c 9 t) (iblk m c 10 t) (biasTable m c) (poolTable m c)
      (by subst ht; exact fun f => View.read_writes_of_cover _ _ _ _ _ (cover_bias c _ _ _ _ _ _ _ _ _ _ _ _ _ _ _ _ _ _ _ _ _ _ _ _ _ _ _ _ _ _ _ _ _  _ _ _ _ ))
      (by subst ht; exact fun f => View.read_writes_of_cover _ _ _ _ _ (cover_pool c _ _ _ _ _ _ _ _ _ _ _ _ _ _ _ _ _ _ _ _ _ _ _ _ _ _ _ _ _ _ _ _ _  _ _ _ _ ))
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((firstRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) ((atFirst_iff t).mpr hz) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (biasTable m c) (poolTable m c)).2 hinit Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, ⟨%e12, H12⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro
    exact View.read_writes_of_cover _ _ _ _ _ (cover_first c _ _ _ _ _ _ _ _ _ _ _ _ _ _ _ _ _ _ _ _ _ _ _ _ _ _ _ _ _ _ _ _ _ _ _ _ _ _ _ _ _ _ _ _ _ _ _ _ )
  · rw [PhiS_castSucc m c t, PhiS_pos m c _ _ hz]
    have ho : outBlock m c t = _ := dif_neg hz
    rw [ho]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((restRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) (fun h' => hz ((atFirst_iff t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (biasTable m c) (poolTable m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, ⟨%e12, H12⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro
    exact View.read_writes_of_cover _ _ _ _ _ (cover_rest c _ _ _ _ _ _ _ _ _ _ _ _ _ _ _ _ _ _ _ _ _ _ _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨⟨HS0, HS1, HS2⟩, Hg⟩
  isplitl [HS0 HS1 HS2]
  · isplitl [HS0]; · iexact HS0
    isplitl [HS1]; · iexists _; iexact HS1
    iexists _; iexact HS2
  iexact Hg

/-! ## The run and the frame -/

set_option backward.isDefEq.respectTransparency.types false in
/-- The run: every array as the proof data says, every other unscoped buffer as the region found it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Mix

end
-- ==== Proof.Tile.lean ====
module

public import proofs.«01_k».proof.Proof.MixFrame

/-!
The stores of the mixers' body, named by what they hold: the attention's tiles (one per grid row and group of heads), the bias
table's tiles (one per head and pair of grid rows), and the output block.
-/

@[expose] public section

set_option maxRecDepth 16384

noncomputable section

namespace Cert.KernelIdeal.Mix

open Idealize.ShloMosaic Idealize.ShloMosaic.TcCoe Idealize.ShloMosaic.Tactic
open Cert.KernelIdeal.Gen

variable {F : FTy → Type} [FloatOps F]

/-- The attention of one grid row over its window, for one group of four heads: from the row's queries, the window's keys and
    values, and the four tiles of the bias. -/
def attnTile (Q : Vec F S1x64x256 .bf16) (K V : Vec F S1x512x256 .bf16) (b0 b1 b2 b3 : Vec F S1x256x128 .f32) : FVec F S64x256 .bf16 :=
  k0_pay324 k0_pay278 (k0_pay323 (k0_pay284 (F := F) k0_pay278) (k0_pay319 Q) (k0_pay320 (k0_pay279 (F := F)) Q)
    (k0_pay321 (k0_pay282 (F := F) k0_pay280 k0_pay281) Q) (k0_pay322 (k0_pay283 (F := F) k0_pay278) Q) K V b0 b1 b2 b3)

theorem inb_q (r : Fin 16) (g : Fin 2) : ∀ a, (![0, 64 * r.val, 256 * g.val] : Fin 3 → ℕ) a + S1x64x256.size a ≤ S1x1024x512.size a := by
  revert r g; decide +kernel

theorem inb_o (r : Fin 16) (g : Fin 2) : ∀ a, (![64 * r.val, 256 * g.val] : Fin 2 → ℕ) a + S64x256.size a ≤ S1024x512.size a := by
  revert r g; decide +kernel

section Attention
variable (i : grid0.Coords) {arg6 : Memref sig .tc .vmem S1x1024x512 .bf16} (harg6 : arg6.IsWhole)
  {arg7 : Memref sig .tc .vmem S1x1536x512 .bf16} (harg7 : arg7.IsWhole) {arg8 : Memref sig .tc .vmem S1x1536x512 .bf16} (harg8 : arg8.IsWhole)
  {arg16 : Memref sig .tc .vmem S14x512x128 .f32} (harg16 : arg16.IsWhole)
  (x4 : Vec F S1x1024x512 .bf16) (x5 x6 : Vec F S1x1536x512 .bf16) (B : Vec F S14x512x128 .f32)

/-- The tile of grid row `r` and the first four heads, -/
def tile0 (r : Fin 16) : FVec F S64x256 .bf16 :=
  attnTile (arg6.view.readAt (Elt F) (Rect.unit (s := S1x1024x512) ![0, 64 * r.val, 256 * (0 : Fin 2).val] S1x64x256.size (inb_q r 0)).toLoadRect (harg6.unread x4))
    (arg7.view.readAt (Elt F) (Rect.unit (s := S1x1536x512) (k0_off1 i (BitVec.ofNat 32 r.val)) S1x512x256.size (k0_off1_inb i r)).toLoadRect (harg7.unread x5))
    (arg8.view.readAt (Elt F) (Rect.unit (s := S1x1536x512) (k0_off1 i (BitVec.ofNat 32 r.val)) S1x512x256.size (k0_off1_inb i r)).toLoadRect (harg8.unread x6))
    (arg16.view.readAt (Elt F) (Rect.unit (s := S14x512x128) (k0_off2 i (BitVec.ofNat 32 r.val) (BitVec.ofNat 32 (2 * (0 : Fin 4).val))) S1x256x128.size (k0_off2_inb i r 0)).toLoadRect (harg16.unread B))
    (arg16.view.readAt (Elt F) (Rect.unit (s := S14x512x128) (k0_off2 i (BitVec.ofNat 32 r.val) (BitVec.ofNat 32 (2 * (1 : Fin 4).val))) S1x256x128.size (k0_off2_inb i r 1)).toLoadRect (harg16.unread B))
    (arg16.view.readAt (Elt F) (Rect.unit (s := S14x512x128) (k0_off2 i (BitVec.ofNat 32 r.val) (BitVec.ofNat 32 (2 * (2 : Fin 4).val))) S1x256x128.size (k0_off2_inb i r 2)).toLoadRect (harg16.unread B))
    (arg16.view.readAt (Elt F) (Rect.unit (s := S14x512x128) (k0_off2 i (BitVec.ofNat 32 r.val) (BitVec.ofNat 32 (2 * (3 : Fin 4).val))) S1x256x128.size (k0_off2_inb i r 3)).toLoadRect (harg16.unread B))

/-- and of the last four. -/
def tile1 (r : Fin 16) : FVec F S64x256 .bf16 :=
  attnTile (arg6.view.readAt (Elt F) (Rect.unit (s := S1x1024x512) ![0, 64 * r.val, 256 * (1 : Fin 2).val] S1x64x256.size (inb_q r 1)).toLoadRect (harg6.unread x4))
    (arg7.view.readAt (Elt F) (Rect.unit (s := S1x1536x512) (k0_off3 i (BitVec.ofNat 32 r.val)) S1x512x256.size (k0_off3_inb i r)).toLoadRect (harg7.unread x5))
    (arg8.view.readAt (Elt F) (Rect.unit (s := S1x1536x512) (k0_off3 i (BitVec.ofNat 32 r.val)) S1x512x256.size (k0_off3_inb i r)).toLoadRect (harg8.unread x6))
    (arg16.view.readAt (Elt F) (Rect.unit (s := S14x512x128) (k0_off4 i (BitVec.ofNat 32 r.val) (BitVec.ofNat 32 (2 * (0 : Fin 4).val))) S1x256x128.size (k0_off4_inb i r 0)).toLoadRect (harg16.unread B))
    (arg16.view.readAt (Elt F) (Rect.unit (s := S14x512x128) (k0_off4 i (BitVec.ofNat 32 r.val) (BitVec.ofNat 32 (2 * (1 : Fin 4).val))) S1x256x128.size (k0_off4_inb i r 1)).toLoadRect (harg16.unread B))
    (arg16.view.readAt (Elt F) (Rect.unit (s := S14x512x128) (k0_off4 i (BitVec.ofNat 32 r.val) (BitVec.ofNat 32 (2 * (2 : Fin 4).val))) S1x256x128.size (k0_off4_inb i r 2)).toLoadRect (harg16.unread B))
    (arg16.view.readAt (Elt F) (Rect.unit (s := S14x512x128) (k0_off4 i (BitVec.ofNat 32 r.val) (BitVec.ofNat 32 (2 * (3 : Fin 4).val))) S1x256x128.size (k0_off4_inb i r 3)).toLoadRect (harg16.unread B))

/-- The two stores of a grid row, the last first. -/
def rowPieces (r : Fin 16) : List (View.Piece (Elt F) S1024x512 .bf16) :=
  [⟨Rect.unit ![64 * r.val, 256 * (1 : Fin 2).val] S64x256.size (inb_o r 1), tile1 i harg6 harg7 harg8 harg16 x4 x5 x6 B r⟩,
   ⟨Rect.unit ![64 * r.val, 256 * (0 : Fin 2).val] S64x256.size (inb_o r 0), tile0 i harg6 harg7 harg8 harg16 x4 x5 x6 B r⟩]

/-- The attention's stores, the last first. -/
def attnPieces : List (View.Piece (Elt F) S1024x512 .bf16) :=
  ([15, 14, 13, 12, 11, 10, 9, 8, 7, 6, 5, 4, 3, 2, 1, 0] : List (Fin 16)).flatMap (rowPieces i harg6 harg7 harg8 harg16 x4 x5 x6 B)

theorem rest_pieces (c : Dev nD) :
    restRun.sl.HS0_32 c i arg6 harg6 arg7 harg7 arg8 harg8 arg16 harg16 x4 x5 x6 B
      = attnPieces i harg6 harg7 harg8 harg16 x4 x5 x6 B := by
  sl_kernel_rfl

end Attention

/-- The output block's one store: what the body adds up at a point, given the two tables. -/
def outPiece (c : Dev nD) (i : grid0.Coords) {arg2 : Memref sig .tc .vmem S1x1024x1024 .f32} (harg2 : arg2.IsWhole)
    {arg3 : Memref sig .tc .vmem S1x1024x512 .bf16} (harg3 : arg3.IsWhole) {arg4 : Memref sig .tc .vmem S1x16x512 .bf16} (harg4 : arg4.IsWhole)
    {arg5 : Memref sig .tc .vmem S1x16x512 .bf16} (harg5 : arg5.IsWhole)
    {arg6 : Memref sig .tc .vmem S1x1024x512 .bf16} (harg6 : arg6.IsWhole)
    {arg7 : Memref sig .tc .vmem S1x1536x512 .bf16} (harg7 : arg7.IsWhole) {arg8 : Memref sig .tc .vmem S1x1536x512 .bf16} (harg8 : arg8.IsWhole)
    {arg13 : Memref sig .tc .vmem S1024x1024 .bf16} (harg13 : arg13.IsWhole) (arg15 : Memref sig .tc .vmem S1024x512 .bf16)
    {arg16 : Memref sig .tc .vmem S14x512x128 .f32} (harg16 : arg16.IsWhole) {arg17 : Memref sig .tc .vmem S512x1024 .bf16} (harg17 : arg17.IsWhole)
    (x0 : Vec F S1x1024x1024 .f32) (x1 : Vec F S1x1024x512 .bf16) (x2 x3 : Vec F S1x16x512 .bf16) (x4 : Vec F S1x1024x512 .bf16)
    (x5 x6 : Vec F S1x1536x512 .bf16) (x11 : Vec F S1024x1024 .bf16) (B : Vec F S14x512x128 .f32) (W : Vec F S512x1024 .bf16) :
    View.Piece (Elt F) S1x1024x1024 .f32 :=
  ⟨Rect.unit ![0, 0, 0] S1x1024x1024.size inb_S1x1024x1024_S1x1024x1024_0_0_0,
    k0_pay2 (restRun.sl.v290 c i arg3 harg3 arg4 harg4 arg5 harg5 arg17 harg17 x1 x2 x3 W)
      (arg15.view.readCov (attnPieces i harg6 harg7 harg8 harg16 x4 x5 x6 B) (Rect.unit ![0, 0] S1024x512.size inb_S1024x512_S1024x512_0_0).toLoadRect)
      (arg13.view.readAt (Elt F) (Rect.unit (s := S1024x1024) ![512, 0] S512x1024.size inb_S1024x1024_S512x1024_512_0).toLoadRect (harg13.unread x11))
      (arg2.view.readAt (Elt F) (Rect.unit (s := S1x1024x1024) ![0, 0, 0] S1x1024x1024.size inb_S1x1024x1024_S1x1024x1024_0_0_0).toLoadRect (harg2.unread x0))⟩

variable [Named F] (m : (ℓ : Loc nD τ sig) → Buf (Elt F) ℓ)

/-- Every point leaves the same text's value in its output block. -/
theorem outBlock_eq (c : Dev nD) (t : Fin cfg0.N) :
    outBlock m c t = (ms12 t).view.read (Elt F) ((ms12 t).view.writes (Elt F) (ms12 t).view.junk
      [outPiece c (grid0.coords t) (hs0 t) (hs1 t) (hs2 t) (hs3 t) (hs4 t) (hs5 t) (hs6 t) (hs11 t) scM0
        (Memref.isWhole_whole cc0_scratch1) (Memref.isWhole_whole cc0_scratch2)
        (iblk m c 0 t) (iblk m c 1 t) (iblk m c 2 t) (iblk m c 3 t) (iblk m c 4 t) (iblk m c 5 t) (iblk m c 6 t) (iblk m c 11 t)
        (biasTable m c) (poolTable m c)]) := by
  unfold outBlock
  split
  · sl_kernel_rfl
  · sl_kernel_rfl

/-! ## The two tables -/

/-- A tile of the bias table: the rows `a` and `b` of one head, skewed, side by side, in base 2, the columns outside the window at
    minus infinity. -/
def biasTile (a b : Vec F S1x1x128 .f32) : FVec F S1x64x128 .f32 := k0_pay37 k0_pay3 k0_pay4 (k0_pay5 a) (k0_pay6 b)

theorem inb_b (h : Fin 8) (p : Fin 14) : ∀ a, (![p.val, 64 * h.val, 0] : Fin 3 → ℕ) a + S1x64x128.size a ≤ S14x512x128.size a := by
  revert h p; decide +kernel

theorem inb_r (h : Fin 8) (p : Fin 14) (d : Fin 2) : ∀ a, (![h.val, p.val + d.val, 0] : Fin 3 → ℕ) a + S1x1x128.size a ≤ S8x15x128.size a := by
  revert h p d; decide +kernel

/-- The tile of head `h` and of the rows `p` and `p + 1`. -/
def biasPiece {arg11 : Memref sig .tc .vmem S8x15x128 .f32} (harg11 : arg11.IsWhole) (x9 : Vec F S8x15x128 .f32) (h : Fin 8) (p : Fin 14) :
    View.Piece (Elt F) S14x512x128 .f32 :=
  ⟨Rect.unit ![p.val, 64 * h.val, 0] S1x64x128.size (inb_b h p),
    biasTile (arg11.view.readAt (Elt F) (Rect.unit (s := S8x15x128) ![h.val, p.val + (0 : Fin 2).val, 0] S1x1x128.size (inb_r h p 0)).toLoadRect (harg11.unread x9))
      (arg11.view.readAt (Elt F) (Rect.unit (s := S8x15x128) ![h.val, p.val + (1 : Fin 2).val, 0] S1x1x128.size (inb_r h p 1)).toLoadRect (harg11.unread x9))⟩

/-- The bias table's stores, the last first. -/
def biasPieces {arg11 : Memref sig .tc .vmem S8x15x128 .f32} (harg11 : arg11.IsWhole) (x9 : Vec F S8x15x128 .f32) :
    List (View.Piece (Elt F) S14x512x128 .f32) :=
  ([7, 6, 5, 4, 3, 2, 1, 0] : List (Fin 8)).flatMap fun h =>
    ([13, 12, 11, 10, 9, 8, 7, 6, 5, 4, 3, 2, 1, 0] : List (Fin 14)).map (biasPiece harg11 x9 h)

theorem biasTable_eq (c : Dev nD) :
    biasTable m c = scM1.view.read (Elt F) (scM1.view.writes (Elt F) scM1.view.junk (biasPieces (hs9 t0) (iblk m c 9 t0))) := by
  unfold biasTable
  sl_kernel_rfl

theorem inb_w (g : Fin 4) : ∀ a, (![128 * g.val, 0] : Fin 2 → ℕ) a + S128x1024.size a ≤ S512x1024.size a := by
  revert g; decide +kernel

theorem inb_wp (g : Fin 4) : ∀ a, (![g.val, 0, 0] : Fin 3 → ℕ) a + S1x128x128.size a ≤ S4x128x128.size a := by
  revert g; decide +kernel

theorem inb_ps (g : Fin 4) : ∀ a, (![0, 128 * g.val] : Fin 2 → ℕ) a + S1x128.size a ≤ S1x512.size a := by
  revert g; decide +kernel

/-- The folded pool weights of group `g`. -/
def poolPiece {arg9 : Memref sig .tc .vmem S4x128x128 .f32} (harg9 : arg9.IsWhole) {arg10 : Memref sig .tc .vmem S1x512 .f32} (harg10 : arg10.IsWhole)
    {arg12 : Memref sig .tc .vmem S512x1024 .f32} (harg12 : arg12.IsWhole)
    (x7 : Vec F S4x128x128 .f32) (x8 : Vec F S1x512 .f32) (x10 : Vec F S512x1024 .f32) (g : Fin 4) : View.Piece (Elt F) S512x1024 .bf16 :=
  ⟨Rect.unit ![128 * g.val, 0] S128x1024.size (inb_w g),
    k0_pay273 (arg9.view.readAt (Elt F) (Rect.unit (s := S4x128x128) ![g.val, 0, 0] S1x128x128.size (inb_wp g)).toLoadRect (harg9.unread x7))
      (arg10.view.readAt (Elt F) (Rect.unit (s := S1x512) ![0, 128 * g.val] S1x128.size (inb_ps g)).toLoadRect (harg10.unread x8))
      (arg12.view.readAt (Elt F) (Rect.unit (s := S512x1024) ![128 * g.val, 0] S128x1024.size (inb_w g)).toLoadRect (harg12.unread x10))⟩

theorem poolTable_eq (c : Dev nD) :
    poolTable m c = scM2.view.read (Elt F) (scM2.view.writes (Elt F) scM2.view.junk
      (([3, 2, 1, 0] : List (Fin 4)).map (poolPiece (hs7 t0) (hs8 t0) (hs10 t0) (iblk m c 7 t0) (iblk m c 8 t0) (iblk m c 10 t0)))) := by
  unfold poolTable
  sl_kernel_rfl

end Cert.KernelIdeal.Mix

end
-- ==== Proof.BlkVal.lean ====
module

public import Idealize.ShloMosaic.Lib.Pointwise
public import Idealize.ShloMosaic.Lib.Pipeline.ValueKit
public import proofs.«01_k».proof.Proof.Tile

/-!
What each window of the mixers' call holds at a grid point, read at an index off the arguments.
-/

@[expose] public section

set_option maxRecDepth 16384

noncomputable section

namespace Cert.KernelIdeal.Mix

open Idealize.ShloMosaic Idealize.ShloMosaic.TcCoe Idealize.ShloMosaic.Tactic
open Cert.KernelIdeal.Gen

variable (m : (ℓ : Loc nD τ sig) → Buf (Elt Ideal) ℓ)

theorem idx_val : ∀ t : Fin cfg0.N, win0_0.index t = ![t.val / 4, t.val % 4, 0] ∧ win0_1.index t = ![t.val / 4, t.val % 4, 0]
    ∧ win0_2.index t = ![t.val / 4, t.val % 4 * 64 - 1, 0] ∧ win0_3.index t = ![t.val / 4, min (t.val % 4 * 64 + 64) 255, 0]
    ∧ win0_4.index t = ![t.val / 4, t.val % 4, 0]
    ∧ win0_5.index t = ![t.val / 4, min 40 (t.val % 4 * 16 - 4) * 64, 0] ∧ win0_6.index t = ![t.val / 4, min 40 (t.val % 4 * 16 - 4) * 64, 0]
    ∧ win0_7.index t = ![0, 0, 0] ∧ win0_8.index t = ![0, 0] ∧ win0_9.index t = ![0, 0, 0] ∧ win0_10.index t = ![0, 0]
    ∧ win0_11.index t = ![0, 0] ∧ win0_12.index t = ![t.val / 4, t.val % 4, 0] :=
  (by decide +kernel : ∀ t : Fin grid0.N, _)

theorem lt32 (t : Fin cfg0.N) : t.val < 32 := Nat.lt_of_lt_of_eq t.isLt N_0

variable (c : Dev nD) (t : Fin cfg0.N)

theorem x_blk (R e : Fin 1024) : (iblk m c 0 t : Vec Ideal S1x1024x1024 .f32) (ix3 0 R e)
    = (m ((c : Thread nD τ).loc main_arg0) : Vec Ideal S8x4096x1024 .f32) (ix3 ⟨t.val / 4, by have := lt32 t; omega⟩ ⟨1024 * (t.val % 4) + R.val, by omega⟩ e) := by
  blk_point [iblk, V, idx_val t]

theorem u_blk (R : Fin 1024) (e : Fin 512) : (iblk m c 1 t : Vec Ideal S1x1024x512 .bf16) (ix3 0 R e)
    = (m ((c : Thread nD τ).loc main_arg1) : Vec Ideal S8x4096x512 .bf16) (ix3 ⟨t.val / 4, by have := lt32 t; omega⟩ ⟨1024 * (t.val % 4) + R.val, by omega⟩ e) := by
  blk_point [iblk, V, idx_val t]

theorem uprev_blk (R : Fin 16) (e : Fin 512) : (iblk m c 2 t : Vec Ideal S1x16x512 .bf16) (ix3 0 R e)
    = (m ((c : Thread nD τ).loc main_arg1) : Vec Ideal S8x4096x512 .bf16) (ix3 ⟨t.val / 4, by have := lt32 t; omega⟩ ⟨16 * (t.val % 4 * 64 - 1) + R.val, by omega⟩ e) := by
  blk_point [iblk, V, idx_val t]

theorem unext_blk (R : Fin 16) (e : Fin 512) : (iblk m c 3 t : Vec Ideal S1x16x512 .bf16) (ix3 0 R e)
    = (m ((c : Thread nD τ).loc main_arg1) : Vec Ideal S8x4096x512 .bf16) (ix3 ⟨t.val / 4, by have := lt32 t; omega⟩ ⟨16 * (min (t.val % 4 * 64 + 64) 255) + R.val, by omega⟩ e) := by
  blk_point [iblk, V, idx_val t]

theorem q_blk (R : Fin 1024) (e : Fin 512) : (iblk m c 4 t : Vec Ideal S1x1024x512 .bf16) (ix3 0 R e)
    = (m ((c : Thread nD τ).loc main_arg2) : Vec Ideal S8x4096x512 .bf16) (ix3 ⟨t.val / 4, by have := lt32 t; omega⟩ ⟨1024 * (t.val % 4) + R.val, by omega⟩ e) := by
  blk_point [iblk, V, idx_val t]

theorem k_blk (R : Fin 1536) (e : Fin 512) : (iblk m c 5 t : Vec Ideal S1x1536x512 .bf16) (ix3 0 R e)
    = (m ((c : Thread nD τ).loc main_arg3) : Vec Ideal S8x4096x512 .bf16) (ix3 ⟨t.val / 4, by have := lt32 t; omega⟩ ⟨64 * (min 40 (t.val % 4 * 16 - 4)) + R.val, by omega⟩ e) := by
  blk_point [iblk, V, idx_val t]
  · refine (Pipeline.Window.rect_emb_val_off win0_5 t (ix3 0 R e) 0).trans ?_
    simp [idx_val t, win0_5, Pipeline.WinKind.off]
  · refine (Pipeline.Window.rect_emb_val_off win0_5 t (ix3 0 R e) 1).trans ?_
    simp [idx_val t, win0_5, Pipeline.WinKind.off]
    omega
  · refine (Pipeline.Window.rect_emb_val_off win0_5 t (ix3 0 R e) 2).trans ?_
    simp [idx_val t, win0_5, Pipeline.WinKind.off]

theorem v_blk (R : Fin 1536) (e : Fin 512) : (iblk m c 6 t : Vec Ideal S1x1536x512 .bf16) (ix3 0 R e)
    = (m ((c : Thread nD τ).loc main_arg4) : Vec Ideal S8x4096x512 .bf16) (ix3 ⟨t.val / 4, by have := lt32 t; omega⟩ ⟨64 * (min 40 (t.val % 4 * 16 - 4)) + R.val, by omega⟩ e) := by
  blk_point [iblk, V, idx_val t]
  · refine (Pipeline.Window.rect_emb_val_off win0_6 t (ix3 0 R e) 0).trans ?_
    simp [idx_val t, win0_6, Pipeline.WinKind.off]
  · refine (Pipeline.Window.rect_emb_val_off win0_6 t (ix3 0 R e) 1).trans ?_
    simp [idx_val t, win0_6, Pipeline.WinKind.off]
    omega
  · refine (Pipeline.Window.rect_emb_val_off win0_6 t (ix3 0 R e) 2).trans ?_
    simp [idx_val t, win0_6, Pipeline.WinKind.off]

theorem V_main_v0 : V m c main_v0
    = (shapeCast S4x128x128 (m ((c : Thread nD τ).loc main_arg5) : Vec Ideal S1x4x128x128 .f32) shapeCasts_S1x4x128x128_S4x128x128 : Vec Ideal S4x128x128 .f32) := by
  unfold V; simp only [List.flatten_cons, List.flatten_nil, List.append_nil, List.cons_append, List.nil_append]
  after_results; try rfl

theorem V_main_v2 : V m c main_v2
    = (broadcastInDim S1x512 ![1] bcast_S512_S1x512_1 (shapeCast S512 (m ((c : Thread nD τ).loc main_arg6) : Vec Ideal S1x512 .f32) shapeCasts_S1x512_S512 : Vec Ideal S512 .f32) : Vec Ideal S1x512 .f32) := by
  unfold V; simp only [List.flatten_cons, List.flatten_nil, List.append_nil, List.cons_append, List.nil_append]
  after_results; try rfl

/-- The offset table's rows, padded to 128 lanes. -/
def padded (r : Vec Ideal S1x8x15x31 .f32) : Vec Ideal S8x15x128 .f32 :=
  pad S8x15x128 ![0, 0, 0] ![0, 0, 97] ![0, 0, 0] (shapeCast S8x15x31 r shapeCasts_S1x8x15x31_S8x15x31 : Vec Ideal S8x15x31 .f32)
    (sitofp (F := Ideal) .f32 (constantI S_ 32 0#32) : Vec Ideal S_ .f32) pads_S8x15x31_S8x15x128_000_000_0970 h_S_

theorem cast_pool (X : Vec Ideal S1x4x128x128 .f32) (g : Fin 4) (i j : Fin 128) :
    (shapeCast S4x128x128 X shapeCasts_S1x4x128x128_S4x128x128 : Vec Ideal S4x128x128 .f32) (ix3 g i j) = X (ix4 0 g i j) := by pointwise

theorem cast_scale (X : Vec Ideal S1x512 .f32) (j : Fin 512) :
    (broadcastInDim S1x512 ![1] bcast_S512_S1x512_1 (shapeCast S512 X shapeCasts_S1x512_S512 : Vec Ideal S512 .f32) : Vec Ideal S1x512 .f32) (ix2 0 j) = X (ix2 0 j) := by pointwise

theorem cast_w (X : Vec Ideal S1x1024x1024 .f32) (i j : Fin 1024) :
    (shapeCast S1024x1024 X shapeCasts_S1x1024x1024_S1024x1024 : Vec Ideal S1024x1024 .f32) (ix2 i j) = X (ix3 0 i j) := by pointwise

theorem cast_rows (X : Vec Ideal S1x8x15x31 .f32) (h : Fin 8) (d : Fin 15) (i : Fin 128) (hi : (i.val + 15) % 128 < 31) :
    (concatenate S8x15x128 2 [⟨S8x15x113, extractStridedSlice S8x15x113 ![0, 0, 15] (padded X) slices_S8x15x128_S8x15x113_0_0_15⟩,
        ⟨S8x15x15, extractStridedSlice S8x15x15 ![0, 0, 0] (padded X) slices_S8x15x128_S8x15x15_0_0_0⟩] concatenates_S8x15x113_S8x15x15_S8x15x128_d2 : Vec Ideal S8x15x128 .f32) (ix3 h d i)
    = X (ix4 0 h d ⟨(i.val + 15) % 128, hi⟩) := by
  pointwise [padded]
  have := i.isLt
  split <;> split
  all_goals first | omega | skip
  all_goals congr 1
  all_goals first | (exact congrArg (fun y => ix4 0 h d y) (Fin.ext (by simp only []; omega)))

theorem V_main_v5 : V m c main_v5
    = (concatenate S8x15x128 2 [⟨S8x15x113, extractStridedSlice S8x15x113 ![0, 0, 15] (padded (m ((c : Thread nD τ).loc main_arg7))) slices_S8x15x128_S8x15x113_0_0_15⟩,
        ⟨S8x15x15, extractStridedSlice S8x15x15 ![0, 0, 0] (padded (m ((c : Thread nD τ).loc main_arg7))) slices_S8x15x128_S8x15x15_0_0_0⟩] concatenates_S8x15x113_S8x15x15_S8x15x128_d2 : Vec Ideal S8x15x128 .f32) := by
  unfold V; simp only [List.flatten_cons, List.flatten_nil, List.append_nil, List.cons_append, List.nil_append]
  after_results; try rfl

theorem V_main_v6 : V m c main_v6
    = (shapeCast S1024x1024 (m ((c : Thread nD τ).loc main_arg8) : Vec Ideal S1x1024x1024 .f32) shapeCasts_S1x1024x1024_S1024x1024 : Vec Ideal S1024x1024 .f32) := by
  unfold V; simp only [List.flatten_cons, List.flatten_nil, List.append_nil, List.cons_append, List.nil_append]
  after_results; try rfl

theorem V_main_v8 : V m c main_v8
    = (truncf (F := Ideal) .bf16 (shapeCast S1024x1024 (m ((c : Thread nD τ).loc main_arg8) : Vec Ideal S1x1024x1024 .f32) shapeCasts_S1x1024x1024_S1024x1024 : FVec Ideal S1024x1024 .f32) bitsLt_bf16_f32 : FVec Ideal S1024x1024 .bf16) := by
  unfold V; simp only [List.flatten_cons, List.flatten_nil, List.append_nil, List.cons_append, List.nil_append]
  after_results; try rfl

theorem wpool_blk (g : Fin 4) (i j : Fin 128) : (iblk m c 7 t : Vec Ideal S4x128x128 .f32) (ix3 g i j)
    = (m ((c : Thread nD τ).loc main_arg5) : Vec Ideal S1x4x128x128 .f32) (ix4 0 g i j) := by
  have h : (iblk m c 7 t : Vec Ideal S4x128x128 .f32) (ix3 g i j) = (V m c main_v0 : Vec Ideal S4x128x128 .f32) (ix3 g i j) := by
    blk_point [iblk, idx_val t]
  rw [h, V_main_v0]
  exact cast_pool _ g i j

theorem pscale_blk (j : Fin 512) : (iblk m c 8 t : Vec Ideal S1x512 .f32) (ix2 0 j)
    = (m ((c : Thread nD τ).loc main_arg6) : Vec Ideal S1x512 .f32) (ix2 0 j) := by
  have h : (iblk m c 8 t : Vec Ideal S1x512 .f32) (ix2 0 j) = (V m c main_v2 : Vec Ideal S1x512 .f32) (ix2 0 j) := by
    blk_point [iblk, idx_val t]
  rw [h, V_main_v2]
  exact cast_scale _ j

theorem rows_blk (h : Fin 8) (d : Fin 15) (i : Fin 128) (hi : (i.val + 15) % 128 < 31) : (iblk m c 9 t : Vec Ideal S8x15x128 .f32) (ix3 h d i)
    = (m ((c : Thread nD τ).loc main_arg7) : Vec Ideal S1x8x15x31 .f32) (ix4 0 h d ⟨(i.val + 15) % 128, hi⟩) := by
  have h' : (iblk m c 9 t : Vec Ideal S8x15x128 .f32) (ix3 h d i) = (V m c main_v5 : Vec Ideal S8x15x128 .f32) (ix3 h d i) := by
    blk_point [iblk, idx_val t]
  rw [h', V_main_v5]
  exact cast_rows _ h d i hi

theorem wtop_blk (i : Fin 512) (j : Fin 1024) : (iblk m c 10 t : Vec Ideal S512x1024 .f32) (ix2 i j)
    = (m ((c : Thread nD τ).loc main_arg8) : Vec Ideal S1x1024x1024 .f32) (ix3 0 ⟨i.val, by omega⟩ j) := by
  have h : (iblk m c 10 t : Vec Ideal S512x1024 .f32) (ix2 i j) = (V m c main_v6 : Vec Ideal S1024x1024 .f32) (ix2 ⟨i.val, by omega⟩ j) := by
    blk_point [iblk, idx_val t]
  rw [h, V_main_v6]
  exact cast_w _ _ j

theorem wout_blk (i : Fin 1024) (j : Fin 1024) : (iblk m c 11 t : Vec Ideal S1024x1024 .bf16) (ix2 i j)
    = (m ((c : Thread nD τ).loc main_arg8) : Vec Ideal S1x1024x1024 .f32) (ix3 0 i j) := by
  have h : (iblk m c 11 t : Vec Ideal S1024x1024 .bf16) (ix2 i j) = (V m c main_v8 : Vec Ideal S1024x1024 .bf16) (ix2 i j) := by
    blk_point [iblk, idx_val t]
  rw [h, V_main_v8]
  exact cast_w _ i j

end Cert.KernelIdeal.Mix

end
-- ==== Proof.SoftMath.lean ====
module

public import Idealize.ShloMosaic.Lib.Pointwise

/-!
Softmax over extended reals: scores that are numbers on a nonempty set and minus infinity off it, the values arbitrary.
The base-2 form that divides the weighted sum and the base-e form that divides the weights both come to the same quotients.
-/

@[expose] public section

noncomputable section

namespace Cert.Soft

open Idealize.ShloMosaic

variable {ι : Type} [Fintype ι] [DecidableEq ι]

/-- The weight of an entry with score `a` in base 2. -/
def wt (ok : ι → Prop) [DecidablePred ok] (a : ι → ℝ) (x : ι) : ℝ := if ok x then Real.rpow 2 (a x) else 0

/-- The weights' sum. -/
def den (ok : ι → Prop) [DecidablePred ok] (a : ι → ℝ) : ℝ := ∑ x, wt ok a x

/-- The weighted mean of `V`. -/
def mean (ok : ι → Prop) [DecidablePred ok] (a : ι → ℝ) (V : ι → EReal) : EReal :=
  ∑ x, ((wt ok a x / den ok a : ℝ) : EReal) * V x

theorem wt_nonneg (ok : ι → Prop) [DecidablePred ok] (a : ι → ℝ) (x : ι) : 0 ≤ wt ok a x := by
  unfold wt; split
  · exact Real.rpow_nonneg (by norm_num) _
  · exact le_rfl

theorem den_pos (ok : ι → Prop) [DecidablePred ok] (a : ι → ℝ) (hex : ∃ x, ok x) : 0 < den ok a := by
  obtain ⟨x, hx⟩ := hex
  refine Finset.sum_pos' (fun y _ => wt_nonneg ok a y) ⟨x, Finset.mem_univ _, ?_⟩
  unfold wt; rw [if_pos hx]
  exact Real.rpow_pos_of_pos (by norm_num) _

theorem sum_coe (f : ι → ℝ) (s : Finset ι) : ∑ x ∈ s, (f x : EReal) = ((∑ x ∈ s, f x : ℝ) : EReal) := by
  induction s using Finset.induction_on with
  | empty => simp
  | insert x s hx ih => rw [Finset.sum_insert hx, Finset.sum_insert hx, ih, EReal.coe_add]

/-- A nonnegative number goes into a sum. -/
theorem sum_mul_coe (f : ι → EReal) (c : ℝ) (hc : 0 ≤ c) (s : Finset ι) : (∑ x ∈ s, f x) * (c : EReal) = ∑ x ∈ s, f x * (c : EReal) := by
  induction s using Finset.induction_on with
  | empty => simp
  | insert x s hx ih =>
    rw [Finset.sum_insert hx, Finset.sum_insert hx, ← ih,
      EReal.right_distrib_of_nonneg_of_ne_top (EReal.coe_nonneg.mpr hc) (EReal.coe_ne_top c)]

/-- The maximum of such scores is a number. -/
theorem max_coe (ok : ι → Prop) [DecidablePred ok] (S : ι → EReal) (a : ι → ℝ) (hS : ∀ x, S x = if ok x then (a x : EReal) else ⊥)
    (hex : ∃ x, ok x) : ∃ M : ℝ, Finset.fold max ⊥ S Finset.univ = (M : EReal) := by
  obtain ⟨x0, hx0⟩ := hex
  have hsup : Finset.fold max ⊥ S Finset.univ = Finset.univ.sup S := rfl
  obtain ⟨x, -, hx⟩ := Finset.exists_mem_eq_sup Finset.univ ⟨x0, Finset.mem_univ _⟩ S
  have hle : S x0 ≤ Finset.univ.sup S := Finset.le_sup (Finset.mem_univ x0)
  rw [hsup, hx]
  rw [hx, hS x0, if_pos hx0, hS x] at hle
  rw [hS x]
  split at hle
  · rename_i h; exact ⟨a x, by rw [if_pos h]⟩
  · exact absurd (le_bot_iff.mp hle) (EReal.coe_ne_bot _)

theorem exp2_eq (ok : ι → Prop) [DecidablePred ok] (S : ι → EReal) (a : ι → ℝ) (hS : ∀ x, S x = if ok x then (a x : EReal) else ⊥)
    (M : ℝ) (x : ι) : Ideal.exp2 (S x - (M : EReal)) = ((wt ok a x * Real.rpow 2 (-M) : ℝ) : EReal) := by
  rw [hS]; unfold wt; split
  · rw [← EReal.coe_sub, Ideal.exp2_coe, sub_eq_add_neg]
    congr 1
    exact Real.rpow_add (by norm_num) _ _
  · simp

theorem exp_eq (ok : ι → Prop) [DecidablePred ok] (S : ι → EReal) (a : ι → ℝ)
    (hS : ∀ x, S x = if ok x then ((a x * Real.log 2 : ℝ) : EReal) else ⊥)
    (M : ℝ) (x : ι) : Ideal.exp (S x - (M : EReal)) = ((wt ok a x * Real.exp (-M) : ℝ) : EReal) := by
  rw [hS]; unfold wt; split
  · rw [← EReal.coe_sub, Ideal.exp_coe, sub_eq_add_neg]
    congr 1
    rw [Real.exp_add]
    congr 1
    rw [mul_comm]
    exact (Real.rpow_def_of_pos (by norm_num) _).symm
  · simp

/-- The base-2 form, the sum divided. -/
theorem base2 (ok : ι → Prop) [DecidablePred ok] (S : ι → EReal) (a : ι → ℝ) (hS : ∀ x, S x = if ok x then (a x : EReal) else ⊥)
    (hex : ∃ x, ok x) (V : ι → EReal) :
    Ideal.div (∑ x, Ideal.exp2 (S x - Finset.fold max ⊥ S Finset.univ) * V x) (∑ x, Ideal.exp2 (S x - Finset.fold max ⊥ S Finset.univ))
      = mean ok a V := by
  obtain ⟨M, hM⟩ := max_coe ok S a hS hex
  have hc : (0 : ℝ) < Real.rpow 2 (-M) := Real.rpow_pos_of_pos (by norm_num) _
  have hd := den_pos ok a hex
  rw [hM]
  simp only [exp2_eq ok S a hS M]
  rw [sum_coe, ← Finset.sum_mul]
  change Ideal.div _ ((den ok a * Real.rpow 2 (-M) : ℝ) : EReal) = _
  rw [Ideal.div_coe (ne_of_gt (mul_pos hd hc)),
    sum_mul_coe _ _ (one_div_nonneg.mpr (le_of_lt (mul_pos hd hc)))]
  refine Finset.sum_congr rfl fun x _ => ?_
  rw [mul_right_comm, ← EReal.coe_mul]
  congr 2
  have := ne_of_gt hd; have := ne_of_gt hc
  field_simp

/-- The base-e form, the weights divided. -/
theorem baseE (ok : ι → Prop) [DecidablePred ok] (S : ι → EReal) (a : ι → ℝ)
    (hS : ∀ x, S x = if ok x then ((a x * Real.log 2 : ℝ) : EReal) else ⊥)
    (hex : ∃ x, ok x) (V : ι → EReal) :
    ∑ x, V x * Ideal.div (Ideal.exp (S x - Finset.fold max ⊥ S Finset.univ)) (∑ x, Ideal.exp (S x - Finset.fold max ⊥ S Finset.univ))
      = mean ok a V := by
  obtain ⟨M, hM⟩ := max_coe ok S (fun x => a x * Real.log 2) hS hex
  have hc : (0 : ℝ) < Real.exp (-M) := Real.exp_pos _
  have hd := den_pos ok a hex
  rw [hM]
  simp only [exp_eq ok S a hS M]
  rw [sum_coe, ← Finset.sum_mul]
  refine Finset.sum_congr rfl fun x _ => ?_
  change V x * Ideal.div _ ((den ok a * Real.exp (-M) : ℝ) : EReal) = _
  rw [Ideal.div_coe (ne_of_gt (mul_pos hd hc)), ← EReal.coe_mul, mul_comm]
  congr 2
  have := ne_of_gt hd; have := ne_of_gt hc
  field_simp

/-- Entries of weight zero can be left out: `emb` reaches all those inside. -/
theorem mean_emb {κ : Type} [Fintype κ] [DecidableEq κ] (ok : ι → Prop) [DecidablePred ok] (a : ι → ℝ) (V : ι → EReal) (emb : κ → ι)
    (hi : Function.Injective emb) (hall : ∀ x, ok x → ∃ y, emb y = x) :
    mean (fun y => ok (emb y)) (fun y => a (emb y)) (fun y => V (emb y)) = mean ok a V := by
  have h0 : ∀ x, x ∉ Set.range emb → wt ok a x = 0 := fun x hx => by
    unfold wt; rw [if_neg]; exact fun h => hx (hall x h)
  have hden : den (fun y => ok (emb y)) (fun y => a (emb y)) = den ok a :=
    Fintype.sum_of_injective emb hi _ _ (fun x hx => h0 x hx) (fun _ => rfl)
  unfold mean
  rw [hden]
  refine Fintype.sum_of_injective emb hi _ _ (fun x hx => ?_) (fun _ => rfl)
  rw [h0 x hx]; simp

end Cert.Soft

end
-- ==== Proof.AttnVal.lean ====
module

public import Idealize.ShloMosaic.Lib.Pointwise
public import proofs.«01_k».proof.Proof.Tile
public import proofs.«01_k».proof.Proof.SoftMath

/-!
What the attention of one grid row holds at an index, over extended reals: the softmax of the head's scores, in base 2.
-/

@[expose] public section

set_option maxRecDepth 16384

noncomputable section

namespace Cert.KernelIdeal.Mix

open Idealize.ShloMosaic Idealize.ShloMosaic.TcCoe Idealize.ShloMosaic.Tactic
open Cert.KernelIdeal.Gen

theorem sel_at (r : Fin 64) (l : Fin 256) : k0_pay278 (ix2 r l) = BitVec.ofNat 32 (l.val / 64) := by
  pointwise [k0_pay278]
  revert l
  decide +kernel

/-- A bit made a number and compared with zero is the bit. -/
theorem bit_pos (w : BitVec 1) : BitVec.ofBool (decide ((0 : EReal) < FloatOps.sitofp (F := Ideal) .f32 (BitVec.setWidth 32 w))) = w := by
  have h : w = 0#1 ∨ w = 1#1 := by revert w; decide
  rcases h with rfl | rfl
  · have : (FloatOps.sitofp (F := Ideal) .f32 (BitVec.setWidth 32 0#1) : EReal) = 0 := by
      show (((BitVec.setWidth 32 0#1).toInt : ℝ) : EReal) = 0
      simp
    rw [this]; simp
  · have : (FloatOps.sitofp (F := Ideal) .f32 (BitVec.setWidth 32 1#1) : EReal) = 1 := by
      show (((BitVec.setWidth 32 1#1).toInt : ℝ) : EReal) = 1
      have : (BitVec.setWidth 32 1#1).toInt = 1 := by decide
      rw [this]; simp
    rw [this]; simp

theorem m0_at (r : Fin 64) (l : Fin 256) : k0_pay279 (F := Ideal) (ix2 r l) = if l.val / 64 = 0 then 1#1 else 0#1 := by
  pointwise [k0_pay279, sel_at]
  rw [bit_pos]; revert l; decide +kernel
theorem m1_at (r : Fin 64) (l : Fin 256) : k0_pay282 (F := Ideal) k0_pay280 k0_pay281 (ix2 r l) = if l.val / 64 = 1 then 1#1 else 0#1 := by
  pointwise [k0_pay282, k0_pay281, k0_pay280, sel_at]
  rw [bit_pos]; revert l; decide +kernel
theorem m2_at (r : Fin 64) (l : Fin 256) : k0_pay283 (F := Ideal) k0_pay278 (ix2 r l) = if l.val / 64 = 2 then 1#1 else 0#1 := by
  pointwise [k0_pay283, sel_at]
  rw [bit_pos]; revert l; decide +kernel
theorem m3_at (r : Fin 64) (l : Fin 256) : k0_pay284 (F := Ideal) k0_pay278 (ix2 r l) = if l.val / 64 = 3 then 1#1 else 0#1 := by
  pointwise [k0_pay284, sel_at]
  rw [bit_pos]; revert l; decide +kernel

theorem pick_at (v : FVec Ideal S256x256 .f32) (r : Fin 64) (l : Fin 256) :
    k0_pay324 (F := Ideal) k0_pay278 v (ix2 r l) = v (ix2 ⟨64 * (l.val / 64) + r.val, by omega⟩ l) := by
  pointwise [k0_pay324, sel_at]
  have h : l.val / 64 = 0 ∨ l.val / 64 = 1 ∨ l.val / 64 = 2 ∨ l.val / 64 = 3 := by omega
  rcases h with h | h | h | h <;> simp only [h]
  · show v (ix2 ⟨r.val, _⟩ l) = _
    congr 2; exact Fin.ext (by simp)
  all_goals rfl

/-- The queries of the four heads, one under the other, the lanes of the other heads at zero. -/
def qcol (Q : Vec Ideal S1x64x256 .bf16) (r y : Fin 256) : EReal :=
  if y.val / 64 = r.val / 64 then Q (ix3 0 ⟨r.val % 64, by omega⟩ y) else 0

/-- The bias of a query and a key of the window. -/
def bsel (b : Fin 4 → Vec Ideal S1x256x128 .f32) (r : Fin 256) (x : Fin 512) : EReal :=
  b ⟨x.val / 128, by omega⟩ (ix3 0 r ⟨x.val % 128, by omega⟩)

/-- The score of a query and a key of the window, in base 2. -/
def score (Q : Vec Ideal S1x64x256 .bf16) (K : Vec Ideal S1x512x256 .bf16) (b : Fin 4 → Vec Ideal S1x256x128 .f32) (r : Fin 256) (x : Fin 512) : EReal :=
  (∑ y : Fin 256, qcol Q r y * K (ix3 0 x y)) + bsel b r x

theorem q_at (Q : Vec Ideal S1x64x256 .bf16) (r y : Fin 256) :
    (if h : r.val < 64 then (k0_pay320 (F := Ideal) (k0_pay279 (F := Ideal)) Q (ix2 ⟨r.val, h⟩ y) : EReal)
      else if h1 : r.val - 64 < 64 then (k0_pay321 (F := Ideal) (k0_pay282 (F := Ideal) k0_pay280 k0_pay281) Q (ix2 ⟨r.val - 64, h1⟩ y) : EReal)
      else if h2 : r.val - 64 - 64 < 64 then (k0_pay322 (F := Ideal) (k0_pay283 (F := Ideal) k0_pay278) Q (ix2 ⟨r.val - 64 - 64, h2⟩ y) : EReal)
      else Scalar.select (k0_pay284 (F := Ideal) k0_pay278 (ix2 ⟨r.val - 64 - 64 - 64, by omega⟩ y)) (k0_pay319 (F := Ideal) Q (ix2 ⟨r.val - 64 - 64 - 64, by omega⟩ y) : EReal) 0)
      = qcol Q r y := by
  unfold qcol
  pointwise [k0_pay319, k0_pay320, k0_pay321, k0_pay322, m0_at, m1_at, m2_at, m3_at]
  have hr := r.isLt
  by_cases h : r.val < 64
  · have e : r.val / 64 = 0 := by omega
    have e' : r.val % 64 = r.val := by omega
    simp only [h, e, e', ↓reduceDIte]
    split <;> simp_all [Scalar.select]
  by_cases h1 : r.val - 64 < 64
  · have e : r.val / 64 = 1 := by omega
    have e' : r.val % 64 = r.val - 64 := by omega
    simp only [h, h1, e, e', ↓reduceDIte]
    split <;> simp_all [Scalar.select]
  by_cases h2 : r.val - 64 - 64 < 64
  · have e : r.val / 64 = 2 := by omega
    have e' : r.val % 64 = r.val - 64 - 64 := by omega
    simp only [h, h1, h2, e, e', ↓reduceDIte]
    split <;> simp_all [Scalar.select]
  · have e : r.val / 64 = 3 := by omega
    have e' : r.val % 64 = r.val - 64 - 64 - 64 := by omega
    simp only [h, h1, h2, e, e', ↓reduceDIte]
    split <;> simp_all [Scalar.select]

theorem b_at (b : Fin 4 → Vec Ideal S1x256x128 .f32) (r : Fin 256) (x : Fin 512) :
    (if h : x.val < 128 then (b 0 (ix3 0 r ⟨x.val, h⟩) : EReal)
      else if h1 : x.val - 128 < 128 then b 1 (ix3 0 r ⟨x.val - 128, h1⟩)
      else if h2 : x.val - 128 - 128 < 128 then b 2 (ix3 0 r ⟨x.val - 128 - 128, h2⟩)
      else b 3 (ix3 0 r ⟨x.val - 128 - 128 - 128, by omega⟩)) = bsel b r x := by
  unfold bsel
  have hx := x.isLt
  by_cases h : x.val < 128
  · have e : x.val / 128 = 0 := by omega
    have e' : x.val % 128 = x.val := by omega
    simp only [h, e, e', ↓reduceDIte]; rfl
  by_cases h1 : x.val - 128 < 128
  · have e : x.val / 128 = 1 := by omega
    have e' : x.val % 128 = x.val - 128 := by omega
    simp only [h, h1, e, e', ↓reduceDIte]; rfl
  by_cases h2 : x.val - 128 - 128 < 128
  · have e : x.val / 128 = 2 := by omega
    have e' : x.val % 128 = x.val - 128 - 128 := by omega
    simp only [h, h1, h2, e, e', ↓reduceDIte]; rfl
  · have e : x.val / 128 = 3 := by omega
    have e' : x.val % 128 = x.val - 128 - 128 - 128 := by omega
    simp only [h, h1, h2, e, e', ↓reduceDIte]; rfl

theorem negInf : Ideal.ofBits .f32 4286578688#32 = (⊥ : EReal) := by
  simp [Ideal.ofBits, Ideal.ieee, -EReal.coe_mul]

/-- The weighted sum over the window, divided by the weights' sum. -/
theorem soft_at (Q : Vec Ideal S1x64x256 .bf16) (K V : Vec Ideal S1x512x256 .bf16) (b : Fin 4 → Vec Ideal S1x256x128 .f32) (r l : Fin 256) :
    k0_pay323 (F := Ideal) (k0_pay284 (F := Ideal) k0_pay278) (k0_pay319 Q) (k0_pay320 (k0_pay279 (F := Ideal)) Q)
        (k0_pay321 (k0_pay282 (F := Ideal) k0_pay280 k0_pay281) Q) (k0_pay322 (k0_pay283 (F := Ideal) k0_pay278) Q) K V (b 0) (b 1) (b 2) (b 3) (ix2 r l)
      = Ideal.div (∑ x, Ideal.exp2 (score Q K b r x - Finset.fold max ⊥ (score Q K b r) Finset.univ) * V (ix3 0 x l))
          (∑ x, Ideal.exp2 (score Q K b r x - Finset.fold max ⊥ (score Q K b r) Finset.univ)) := by
  have hs : score Q K b r = fun x => (∑ y : Fin 256, qcol Q r y * K (ix3 0 x y)) + bsel b r x := rfl
  simp only [hs, ← q_at, ← b_at, ← negInf]
  pointwise [k0_pay323]
  rfl

theorem tile_at (Q : Vec Ideal S1x64x256 .bf16) (K V : Vec Ideal S1x512x256 .bf16) (b : Fin 4 → Vec Ideal S1x256x128 .f32) (r : Fin 64) (l : Fin 256)
    (ok : Fin 512 → Prop) [DecidablePred ok] (a : Fin 512 → ℝ)
    (hS : ∀ x, score Q K b ⟨64 * (l.val / 64) + r.val, by omega⟩ x = if ok x then (a x : EReal) else ⊥) (hex : ∃ x, ok x) :
    attnTile (F := Ideal) Q K V (b 0) (b 1) (b 2) (b 3) (ix2 r l) = Soft.mean ok a (fun x => V (ix3 0 x l)) := by
  unfold attnTile
  rw [pick_at, soft_at]
  exact Soft.base2 ok _ a hS hex _

end Cert.KernelIdeal.Mix
end
-- ==== Proof.TableVal.lean ====
module

public import Idealize.ShloMosaic.Lib.Pointwise
public import Idealize.ShloMosaic.Lib.WholeRead
public import proofs.«01_k».proof.Proof.BlkVal
public import proofs.«01_k».proof.Proof.AttnVal

/-!
What the two tables hold that the first step fills: the attention bias, and the pool weights folded
into the output projection.
-/

@[expose] public section

set_option maxRecDepth 16384

noncomputable section

namespace Cert.KernelIdeal.Mix

open Idealize.ShloMosaic Idealize.ShloMosaic.TcCoe Idealize.ShloMosaic.Tactic
open Cert.KernelIdeal.Gen

/-- The key column `x % 64` lies in the window of the query column `q`. -/
def InCol (q x : ℕ) : Prop := min 48 (q - 8) ≤ x % 64 ∧ x % 64 < min 48 (q - 8) + 16

instance (q x : ℕ) : Decidable (InCol q x) := inferInstanceAs (Decidable (_ ∧ _))

theorem InCol.lt {q x : ℕ} (h : InCol q x) (hq : q < 64) : x % 64 + 15 - q < 31 := by
  unfold InCol at h; omega

theorem InCol.le {q x : ℕ} (h : InCol q x) (hq : q < 64) : q ≤ x % 64 + 15 := by
  unfold InCol at h; omega

theorem win_at (q : Fin 64) (x : Fin 128) : k0_pay3 (ix2 q x) = if InCol q.val x.val then 1#1 else 0#1 := by
  pointwise [k0_pay3]
  revert q x; decide +kernel

theorem log2e_named : (Named.named (F := Ideal) (φ := .f32) κ "log2e" 1069066811#32 : EReal) = (((Real.log 2)⁻¹ : ℝ) : EReal) := rfl

theorem biasTile_at (a b : Vec Ideal S1x1x128 .f32) (q : Fin 64) (x : Fin 128) : biasTile a b (ix3 0 q x)
    = if InCol q.val x.val then (if x.val < 64 then a (ix3 0 0 ⟨(x.val % 64 + 128 - q.val) % 128, by omega⟩)
        else b (ix3 0 0 ⟨(x.val % 64 + 128 - q.val) % 128, by omega⟩) : EReal) * (((Real.log 2)⁻¹ : ℝ) : EReal) else ⊥ := by
  pointwise [biasTile, k0_pay37, k0_pay5, k0_pay6, k0_pay4]
  rw [win_at, negInf, log2e_named]
  have hs : IntOp.cmpi CmpIPredicate.slt (BitVec.ofNat 32 x.val) 64#32 = if x.val < 64 then 1#1 else 0#1 := by
    revert x; decide +kernel
  rw [hs]
  have e1 : x.val < 64 → (x.val + 128 - q.val % 128) % 128 = (x.val % 64 + 128 - q.val) % 128 := by omega
  have e2 : ¬ x.val < 64 → ((x.val + 128 - 64) % 128 + 128 - q.val % 128) % 128 = (x.val % 64 + 128 - q.val) % 128 := by omega
  by_cases hw : InCol q.val x.val
  · by_cases hx : x.val < 64
    · simp only [hw, hx, if_true, Scalar.select, e1 hx]; rfl
    · simp only [hw, hx, if_true, if_false, Scalar.select, e2 hx]; rfl
  · simp only [hw, if_false]; rfl

/-- A load of a whole buffer's rectangle reads the buffer at the offsets plus the index. -/
theorem read_at {s : Shape} {e : EltTy} {mm : Memref sig .tc .vmem s e} (h : mm.IsWhole) (X : s.Idx → Elt Ideal e)
    (off size : Fin s.rank → ℕ) (inb : ∀ a, off a + size a ≤ s.size a) (x : (Rect.unit (s := s) off size inb).shape.Idx) (y : s.Idx)
    (hy : ∀ a, (y a : ℕ) = off a + x a) :
    mm.view.readAt (Elt Ideal) (Rect.unit (s := s) off size inb).toLoadRect (h.unread X) x = X y := by
  refine (h.readAt_unread X _ x).trans (congrArg X (funext fun a => Fin.ext ?_))
  rw [hy]
  show off a + 1 * (x a : ℕ) = _
  rw [Nat.one_mul]

/-- Stores read back: every store holding the index has the value there. -/
theorem read_pieces {s : Shape} {e : EltTy} (mm : Memref sig .tc .vmem s e) (L : List (View.Piece (Elt Ideal) s e)) (y : s.Idx) (v : Elt Ideal e)
    (hc : ∃ p ∈ L, y ∈ p.1.set) (hall : View.AllAt L y v) :
    mm.view.read (Elt Ideal) (mm.view.writes (Elt Ideal) mm.view.junk L) y = v :=
  (congrFun (View.read_writes_junk_eq_canon mm.view L) y).trans (View.canon_eq_of_allAt L y v hc hall)

/-- The arguments' contents, as arrays of extended reals. -/
abbrev argX (m : (ℓ : Loc nD τ sig) → Buf (Elt Ideal) ℓ) (c : Dev nD) : S8x4096x1024.Idx → EReal := m ((c : Thread nD τ).loc main_arg0)
abbrev argU (m : (ℓ : Loc nD τ sig) → Buf (Elt Ideal) ℓ) (c : Dev nD) : S8x4096x512.Idx → EReal := m ((c : Thread nD τ).loc main_arg1)
abbrev argQ (m : (ℓ : Loc nD τ sig) → Buf (Elt Ideal) ℓ) (c : Dev nD) : S8x4096x512.Idx → EReal := m ((c : Thread nD τ).loc main_arg2)
abbrev argK (m : (ℓ : Loc nD τ sig) → Buf (Elt Ideal) ℓ) (c : Dev nD) : S8x4096x512.Idx → EReal := m ((c : Thread nD τ).loc main_arg3)
abbrev argV (m : (ℓ : Loc nD τ sig) → Buf (Elt Ideal) ℓ) (c : Dev nD) : S8x4096x512.Idx → EReal := m ((c : Thread nD τ).loc main_arg4)
abbrev argW (m : (ℓ : Loc nD τ sig) → Buf (Elt Ideal) ℓ) (c : Dev nD) : S1x4x128x128.Idx → EReal := m ((c : Thread nD τ).loc main_arg5)
abbrev argS (m : (ℓ : Loc nD τ sig) → Buf (Elt Ideal) ℓ) (c : Dev nD) : S1x512.Idx → EReal := m ((c : Thread nD τ).loc main_arg6)
abbrev argB (m : (ℓ : Loc nD τ sig) → Buf (Elt Ideal) ℓ) (c : Dev nD) : S1x8x15x31.Idx → EReal := m ((c : Thread nD τ).loc main_arg7)
abbrev argO (m : (ℓ : Loc nD τ sig) → Buf (Elt Ideal) ℓ) (c : Dev nD) : S1x1024x1024.Idx → EReal := m ((c : Thread nD τ).loc main_arg8)

variable (m : (ℓ : Loc nD τ sig) → Buf (Elt Ideal) ℓ) (c : Dev nD)

/-- The bias of head `h`, row distance `p + x / 64`, query column `q` and key column `x % 64`. -/
theorem bias_at (p : Fin 14) (h : Fin 8) (q : Fin 64) (x : Fin 128) :
    (biasTable m c : Vec Ideal S14x512x128 .f32) (ix3 p ⟨64 * h.val + q.val, by omega⟩ x)
      = if hw : InCol q.val x.val then (argB m c
          (ix4 0 h ⟨p.val + x.val / 64, by omega⟩ ⟨x.val % 64 + 15 - q.val, hw.lt q.isLt⟩) : EReal) * (((Real.log 2)⁻¹ : ℝ) : EReal) else ⊥ := by
  rw [biasTable_eq]
  refine read_pieces scM1 _ _ _ ?_ ?_
  · refine ⟨biasPiece (hs9 t0) (iblk m c 9 t0) h p, ?_, ?_⟩
    · refine List.mem_flatMap.mpr ⟨h, by revert h; decide, List.mem_map.mpr ⟨p, by revert p; decide, rfl⟩⟩
    · refine (Rect.mem_set_unit (inb := inb_b h p)).mpr fun a => ?_
      fin_cases a <;> simp [ix3]
  · intro P hP z hz
    obtain ⟨h', -, hP⟩ := List.mem_flatMap.mp hP
    obtain ⟨p', -, rfl⟩ := List.mem_map.mp hP
    change S1x64x128.Idx at z
    obtain ⟨z0, z1, z2, rfl⟩ : ∃ (z0 : Fin 1) (z1 : Fin 64) (z2 : Fin 128), z = ix3 z0 z1 z2 := ⟨z 0, z 1, z 2, eq_ix3 z⟩
    have h0 := congrArg Fin.val (congrFun hz 0)
    have h1 := congrArg Fin.val (congrFun hz 1)
    have h2 := congrArg Fin.val (congrFun hz 2)
    change p'.val + 1 * z0.val = p.val at h0
    change 64 * h'.val + 1 * z1.val = 64 * h.val + q.val at h1
    change 0 + 1 * z2.val = x.val at h2
    obtain rfl : z0 = 0 := Subsingleton.elim _ _
    obtain rfl : h' = h := Fin.ext (by omega)
    obtain rfl : z1 = q := Fin.ext (by omega)
    obtain rfl : z2 = x := Fin.ext (by omega)
    obtain rfl : p' = p := Fin.ext (by simpa using h0)
    refine (biasTile_at _ _ z1 z2).trans ?_
    by_cases hw : InCol z1.val z2.val
    · have hl := hw.lt z1.isLt
      have hle := hw.le z1.isLt
      have hi : ((z2.val % 64 + 128 - z1.val) % 128 + 15) % 128 = z2.val % 64 + 15 - z1.val := by omega
      rw [if_pos hw, dif_pos hw]
      congr 1
      by_cases hx : z2.val < 64
      · rw [if_pos hx, read_at (hs9 t0) _ _ _ _ _ (ix3 h' ⟨p'.val, by omega⟩ ⟨(z2.val % 64 + 128 - z1.val) % 128, by omega⟩)
          (by intro a; fin_cases a <;> simp [ix3]), rows_blk m c t0 h' _ _ (by simp only []; omega)]
        congr 1
        refine congrArg₂ (ix4 0 h') (Fin.ext ?_) (Fin.ext ?_) <;> simp only [] <;> omega
      · rw [if_neg hx, read_at (hs9 t0) _ _ _ _ _ (ix3 h' ⟨p'.val + 1, by omega⟩ ⟨(z2.val % 64 + 128 - z1.val) % 128, by omega⟩)
          (by intro a; fin_cases a <;> simp [ix3]), rows_blk m c t0 h' _ _ (by simp only []; omega)]
        congr 1
        refine congrArg₂ (ix4 0 h') (Fin.ext ?_) (Fin.ext ?_) <;> simp only [] <;> omega
    · rw [if_neg hw, dif_neg hw]

theorem fold_at (w : Vec Ideal S1x128x128 .f32) (s : Vec Ideal S1x128 .f32) (o : Vec Ideal S128x1024 .f32) (i : Fin 128) (n : Fin 1024) :
    k0_pay273 w s o (ix2 i n) = ∑ d : Fin 128, (w (ix3 0 i d) * s (ix2 0 d)) * o (ix2 d n) := by
  pointwise [k0_pay273]

/-- The folded pool weights: the pool's weight times its scale times the projection's rows. -/
theorem pool_at (g : Fin 4) (i : Fin 128) (n : Fin 1024) :
    (poolTable m c : Vec Ideal S512x1024 .bf16) (ix2 ⟨128 * g.val + i.val, by omega⟩ n)
      = ∑ d : Fin 128, ((argW m c (ix4 0 g i d) : EReal)
          * argS m c (ix2 0 ⟨128 * g.val + d.val, by omega⟩))
          * argO m c (ix3 0 ⟨128 * g.val + d.val, by omega⟩ n) := by
  rw [poolTable_eq]
  refine read_pieces scM2 _ _ _ ?_ ?_
  · refine ⟨poolPiece (hs7 t0) (hs8 t0) (hs10 t0) (iblk m c 7 t0) (iblk m c 8 t0) (iblk m c 10 t0) g, ?_, ?_⟩
    · exact List.mem_map.mpr ⟨g, by revert g; decide, rfl⟩
    · refine (Rect.mem_set_unit (inb := inb_w g)).mpr fun a => ?_
      fin_cases a <;> simp [ix2]
  · intro P hP z hz
    obtain ⟨g', -, rfl⟩ := List.mem_map.mp hP
    change S128x1024.Idx at z
    obtain ⟨z0, z1, rfl⟩ : ∃ (z0 : Fin 128) (z1 : Fin 1024), z = ix2 z0 z1 := ⟨z 0, z 1, eq_ix2 z⟩
    have h0 := congrArg Fin.val (congrFun hz 0)
    have h1 := congrArg Fin.val (congrFun hz 1)
    change 128 * g'.val + 1 * z0.val = 128 * g.val + i.val at h0
    change 0 + 1 * z1.val = n.val at h1
    obtain rfl : g' = g := Fin.ext (by omega)
    obtain rfl : z0 = i := Fin.ext (by omega)
    obtain rfl : z1 = n := Fin.ext (by omega)
    refine (fold_at _ _ _ z0 z1).trans (Finset.sum_congr rfl fun d _ => ?_)
    rw [read_at (hs7 t0) _ _ _ _ _ (ix3 g' z0 d) (by intro a; fin_cases a <;> simp [ix3]),
      read_at (hs8 t0) _ _ _ _ _ (ix2 0 ⟨128 * g'.val + d.val, by omega⟩) (by intro a; fin_cases a <;> simp [ix2]),
      read_at (hs10 t0) _ _ _ _ _ (ix2 ⟨128 * g'.val + d.val, by omega⟩ z1) (by intro a; fin_cases a <;> simp [ix2]),
      wpool_blk, pscale_blk, wtop_blk]

end Cert.KernelIdeal.Mix

end
-- ==== Proof.AttnOut.lean ====
module

public import Idealize.ShloMosaic.Lib.Pointwise
public import proofs.«01_k».proof.Proof.TableVal

/-!
The attention's result buffer, read at an index: the softmax-weighted mean of the values over the keys
of the query's neighbourhood.
-/

@[expose] public section

set_option maxRecDepth 16384

noncomputable section

namespace Cert.KernelIdeal.Mix

open Idealize.ShloMosaic Idealize.ShloMosaic.TcCoe Idealize.ShloMosaic.Tactic
open Cert.KernelIdeal.Gen

/-- The first grid row of the neighbourhood of grid row `r`. -/
def row0 (r : ℕ) : ℕ := min 56 (r - 4)

/-- The key token `x` lies in the neighbourhood of the query token `n`. -/
def Near (n x : ℕ) : Prop := row0 (n / 64) ≤ x / 64 ∧ x / 64 < row0 (n / 64) + 8 ∧ InCol (n % 64) x

instance (n x : ℕ) : Decidable (Near n x) := inferInstanceAs (Decidable (_ ∧ _ ∧ _))

/-- The score in base 2 of query token `n` and key token `x` of head `h`: the product of the query and the key, and the
    bias of their distance. -/
def sc (q k : S8x4096x512.Idx → ℝ) (rpb : S1x8x15x31.Idx → ℝ) (b h : Fin 8) (n : ℕ) (hn : n < 4096) (x : Fin 4096) : ℝ :=
  (∑ d : Fin 64, q (ix3 b ⟨n, hn⟩ ⟨64 * h.val + d.val, by omega⟩) * k (ix3 b x ⟨64 * h.val + d.val, by omega⟩))
    + rpb (ix4 0 h ⟨min 14 (x.val / 64 + 7 - n / 64), by omega⟩ ⟨min 30 (x.val % 64 + 15 - n % 64), by omega⟩) * (Real.log 2)⁻¹

/-- The attention's result: the weighted mean of the values. -/
def attn (q k : S8x4096x512.Idx → ℝ) (rpb : S1x8x15x31.Idx → ℝ) (v : S8x4096x512.Idx → EReal) (b : Fin 8) (n : Fin 4096) (l : Fin 512) : EReal :=
  Soft.mean (fun x : Fin 4096 => Near n.val x.val) (sc q k rpb b ⟨l.val / 64, by omega⟩ n.val n.isLt) (fun x => v (ix3 b x l))

theorem near_self (n : Fin 4096) : Near n.val n.val := by
  unfold Near row0 InCol; omega

/-- The columns of one head out of a group's 256. -/
theorem head_sum (f g : Fin 256 → EReal) (hh : Fin 4) :
    ∑ y : Fin 256, (if y.val / 64 = hh.val then f y else 0) * g y
      = ∑ d : Fin 64, f ⟨64 * hh.val + d.val, by omega⟩ * g ⟨64 * hh.val + d.val, by omega⟩ := by
  symm
  refine Fintype.sum_of_injective (fun d : Fin 64 => (⟨64 * hh.val + d.val, by omega⟩ : Fin 256)) ?_ _ _ ?_ ?_
  · intro a b h
    have := congrArg Fin.val h
    exact Fin.ext (by simpa using this)
  · intro y hy
    rw [if_neg, zero_mul]
    intro h
    exact hy ⟨⟨y.val % 64, by omega⟩, Fin.ext (by simp only []; omega)⟩
  · intro d
    simp only []
    rw [if_pos (by omega)]

/-- One grid row's attention for one group of heads, from what its loads read. -/
theorem tile_val (q k : S8x4096x512.Idx → ℝ) (rpb : S1x8x15x31.Idx → ℝ) (v : S8x4096x512.Idx → EReal) (b : Fin 8) (row : Fin 64) (g : Fin 2)
    (Q : Vec Ideal S1x64x256 .bf16) (K V : Vec Ideal S1x512x256 .bf16) (bb : Fin 4 → Vec Ideal S1x256x128 .f32)
    (hQ : ∀ (p : Fin 64) (y : Fin 256), Q (ix3 0 p y) = (q (ix3 b ⟨64 * row.val + p.val, by omega⟩ ⟨256 * g.val + y.val, by omega⟩) : EReal))
    (hK : ∀ (x : Fin 512) (y : Fin 256), K (ix3 0 x y) = (k (ix3 b ⟨64 * row0 row.val + x.val, by unfold row0; omega⟩ ⟨256 * g.val + y.val, by omega⟩) : EReal))
    (hV : ∀ (x : Fin 512) (y : Fin 256), V (ix3 0 x y) = v (ix3 b ⟨64 * row0 row.val + x.val, by unfold row0; omega⟩ ⟨256 * g.val + y.val, by omega⟩))
    (hb : ∀ (hh : Fin 4) (p : Fin 64) (x : Fin 512), bsel bb ⟨64 * hh.val + p.val, by omega⟩ x = if InCol p.val x.val then
      ((rpb (ix4 0 ⟨4 * g.val + hh.val, by omega⟩ ⟨min 14 (row0 row.val + x.val / 64 + 7 - row.val), by omega⟩ ⟨min 30 (x.val % 64 + 15 - p.val), by omega⟩)
        * (Real.log 2)⁻¹ : ℝ) : EReal) else ⊥)
    (p : Fin 64) (l : Fin 256) :
    attnTile (F := Ideal) Q K V (bb 0) (bb 1) (bb 2) (bb 3) (ix2 p l) = attn q k rpb v b ⟨64 * row.val + p.val, by omega⟩ ⟨256 * g.val + l.val, by omega⟩ := by
  have hr0 : row0 row.val ≤ 56 := by unfold row0; omega
  have hr1 : row0 row.val ≤ row.val := by unfold row0; omega
  have hr2 : row.val < row0 row.val + 8 := by unfold row0; omega
  have hdiv : (64 * row.val + p.val) / 64 = row.val := by omega
  have hmod : (64 * row.val + p.val) % 64 = p.val := by omega
  let emb : Fin 512 → Fin 4096 := fun x => ⟨64 * row0 row.val + x.val, by omega⟩
  have hnear : ∀ x : Fin 512, Near (64 * row.val + p.val) (emb x).val ↔ InCol p.val x.val := by
    intro x
    have h1 : (emb x).val % 64 = x.val % 64 := by show (64 * row0 row.val + x.val) % 64 = _; omega
    have h2 : (emb x).val / 64 = row0 row.val + x.val / 64 := by show (64 * row0 row.val + x.val) / 64 = _; omega
    unfold Near InCol
    rw [hdiv, hmod, h1, h2]
    constructor
    · exact fun h => h.2.2
    · exact fun h => ⟨by omega, by omega, h⟩
  have hh4 : l.val / 64 < 4 := by omega
  refine (tile_at Q K V bb p l (fun x => Near (64 * row.val + p.val) (emb x).val)
    (fun x => sc q k rpb b ⟨4 * g.val + l.val / 64, by omega⟩ (64 * row.val + p.val) (by omega) (emb x)) ?_ ?_).trans ?_
  · intro x
    have hh := hb ⟨l.val / 64, hh4⟩ p x
    have h1 : (emb x).val % 64 = x.val % 64 := by show (64 * row0 row.val + x.val) % 64 = _; omega
    have h2 : (emb x).val / 64 = row0 row.val + x.val / 64 := by show (64 * row0 row.val + x.val) / 64 = _; omega
    have hs : (∑ y : Fin 256, qcol Q ⟨64 * (l.val / 64) + p.val, by omega⟩ y * K (ix3 0 x y))
        = ((∑ d : Fin 64, q (ix3 b ⟨64 * row.val + p.val, by omega⟩ ⟨64 * (4 * g.val + l.val / 64) + d.val, by omega⟩)
            * k (ix3 b (emb x) ⟨64 * (4 * g.val + l.val / 64) + d.val, by omega⟩) : ℝ) : EReal) := by
      have e : ∀ y : Fin 256, qcol Q ⟨64 * (l.val / 64) + p.val, by omega⟩ y
          = if y.val / 64 = l.val / 64 then (q (ix3 b ⟨64 * row.val + p.val, by omega⟩ ⟨256 * g.val + y.val, by omega⟩) : EReal) else 0 := by
        intro y
        unfold qcol
        have c1 : (64 * (l.val / 64) + p.val) / 64 = l.val / 64 := by omega
        have c2 : (64 * (l.val / 64) + p.val) % 64 = p.val := by omega
        simp only [c1, c2, Fin.eta]
        rw [hQ]
      simp only [e, hK]
      rw [head_sum (fun y => (q (ix3 b ⟨64 * row.val + p.val, by omega⟩ ⟨256 * g.val + y.val, by omega⟩) : EReal))
        (fun y => (k (ix3 b ⟨64 * row0 row.val + x.val, by omega⟩ ⟨256 * g.val + y.val, by omega⟩) : EReal)) ⟨l.val / 64, hh4⟩, ← Soft.sum_coe]
      refine Finset.sum_congr rfl fun d _ => ?_
      rw [← EReal.coe_mul]
      congr 1
      have e3 : 256 * g.val + (64 * (l.val / 64) + d.val) = 64 * (4 * g.val + l.val / 64) + d.val := by omega
      simp only [e3]
      rfl
    unfold score
    rw [hs, hh]
    by_cases hw : InCol p.val x.val
    · rw [if_pos hw, if_pos ((hnear x).mpr hw), ← EReal.coe_add]
      congr 1
      unfold sc
      simp only [h1, h2, hdiv, hmod]
    · rw [if_neg hw, if_neg (fun h => hw ((hnear x).mp h))]
      exact EReal.add_bot _
  · refine ⟨⟨64 * (row.val - row0 row.val) + p.val, by omega⟩, (hnear _).mpr ?_⟩
    show InCol p.val (64 * (row.val - row0 row.val) + p.val)
    unfold InCol; omega
  · have hv : (fun x => V (ix3 0 x l)) = fun x => (fun y => v (ix3 b y ⟨256 * g.val + l.val, by omega⟩)) (emb x) := funext fun x => hV x l
    rw [hv]
    have hl : (256 * g.val + l.val) / 64 = 4 * g.val + l.val / 64 := by omega
    have hfin : (⟨(256 * g.val + l.val) / 64, by omega⟩ : Fin 8) = ⟨4 * g.val + l.val / 64, by omega⟩ := Fin.ext hl
    have hat : attn q k rpb v b ⟨64 * row.val + p.val, by omega⟩ ⟨256 * g.val + l.val, by omega⟩
        = Soft.mean (fun x : Fin 4096 => Near (64 * row.val + p.val) x.val)
          (sc q k rpb b ⟨4 * g.val + l.val / 64, by omega⟩ (64 * row.val + p.val) (by omega)) (fun y => v (ix3 b y ⟨256 * g.val + l.val, by omega⟩)) := by
      unfold attn
      rw [hfin]
    rw [hat]
    refine Soft.mean_emb (fun x : Fin 4096 => Near (64 * row.val + p.val) x.val)
      (sc q k rpb b ⟨4 * g.val + l.val / 64, by omega⟩ (64 * row.val + p.val) (by omega)) (fun y => v (ix3 b y ⟨256 * g.val + l.val, by omega⟩)) emb ?_ ?_
    · intro a b h
      have := congrArg Fin.val h
      exact Fin.ext (by simpa [emb] using this)
    · intro x hx
      unfold Near at hx
      rw [hdiv] at hx
      exact ⟨⟨x.val - 64 * row0 row.val, by omega⟩, Fin.ext (by show 64 * row0 row.val + (x.val - 64 * row0 row.val) = _; omega)⟩

theorem off1_val (t : Fin cfg0.N) (r : Fin 16) : k0_off1 (grid0.coords t) (BitVec.ofNat 32 r.val)
    = ![0, 64 * (row0 (16 * (t.val % 4) + r.val) - min 40 (t.val % 4 * 16 - 4)), 0] := by
  revert t r; exact (by decide +kernel : ∀ (t : Fin grid0.N) (r : Fin 16), k0_off1 (grid0.coords t) (BitVec.ofNat 32 r.val)
    = ![0, 64 * (row0 (16 * (t.val % 4) + r.val) - min 40 (t.val % 4 * 16 - 4)), 0])

theorem off3_val (t : Fin cfg0.N) (r : Fin 16) : k0_off3 (grid0.coords t) (BitVec.ofNat 32 r.val)
    = ![0, 64 * (row0 (16 * (t.val % 4) + r.val) - min 40 (t.val % 4 * 16 - 4)), 256] := by
  revert t r; exact (by decide +kernel : ∀ (t : Fin grid0.N) (r : Fin 16), k0_off3 (grid0.coords t) (BitVec.ofNat 32 r.val)
    = ![0, 64 * (row0 (16 * (t.val % 4) + r.val) - min 40 (t.val % 4 * 16 - 4)), 256])

theorem off2_val (t : Fin cfg0.N) (r : Fin 16) (j : Fin 4) : k0_off2 (grid0.coords t) (BitVec.ofNat 32 r.val) (BitVec.ofNat 32 (2 * j.val))
    = ![row0 (16 * (t.val % 4) + r.val) + 7 + 2 * j.val - (16 * (t.val % 4) + r.val), 0, 0] := by
  revert t r j; exact (by decide +kernel : ∀ (t : Fin grid0.N) (r : Fin 16) (j : Fin 4), k0_off2 (grid0.coords t) (BitVec.ofNat 32 r.val) (BitVec.ofNat 32 (2 * j.val))
    = ![row0 (16 * (t.val % 4) + r.val) + 7 + 2 * j.val - (16 * (t.val % 4) + r.val), 0, 0])

theorem off4_val (t : Fin cfg0.N) (r : Fin 16) (j : Fin 4) : k0_off4 (grid0.coords t) (BitVec.ofNat 32 r.val) (BitVec.ofNat 32 (2 * j.val))
    = ![row0 (16 * (t.val % 4) + r.val) + 7 + 2 * j.val - (16 * (t.val % 4) + r.val), 256, 0] := by
  revert t r j; exact (by decide +kernel : ∀ (t : Fin grid0.N) (r : Fin 16) (j : Fin 4), k0_off4 (grid0.coords t) (BitVec.ofNat 32 r.val) (BitVec.ofNat 32 (2 * j.val))
    = ![row0 (16 * (t.val % 4) + r.val) + 7 + 2 * j.val - (16 * (t.val % 4) + r.val), 256, 0])

variable (m : (ℓ : Loc nD τ sig) → Buf (Elt Ideal) ℓ) (c : Dev nD) (t : Fin cfg0.N)
  (q k : S8x4096x512.Idx → ℝ) (rpb : S1x8x15x31.Idx → ℝ)
  (hq : ∀ i, argQ m c i = (q i : EReal)) (hk : ∀ i, argK m c i = (k i : EReal)) (hr : ∀ i, argB m c i = (rpb i : EReal))

theorem row0_le (n : ℕ) : row0 n ≤ 56 := by unfold row0; omega

include hr in
/-- The bias that a grid row's loads read. -/
theorem bias_load (h : Fin 8) (p : Fin 64) (row : Fin 64) (x : Fin 512) (P : Fin 14) (hP : P.val = row0 row.val + 7 + 2 * (x.val / 128) - row.val) :
    (biasTable m c : Vec Ideal S14x512x128 .f32) (ix3 P ⟨64 * h.val + p.val, by omega⟩ ⟨x.val % 128, by omega⟩)
      = if InCol p.val x.val then
      ((rpb (ix4 0 h ⟨min 14 (row0 row.val + x.val / 64 + 7 - row.val), by omega⟩ ⟨min 30 (x.val % 64 + 15 - p.val), by omega⟩)
        * (Real.log 2)⁻¹ : ℝ) : EReal) else ⊥ := by
  have hr1 : row0 row.val ≤ row.val := by unfold row0; omega
  have hr2 : row.val < row0 row.val + 8 := by unfold row0; omega
  rw [bias_at m c P h p ⟨x.val % 128, by omega⟩]
  have hm : x.val % 128 % 64 = x.val % 64 := by omega
  have hiff : InCol p.val (x.val % 128) ↔ InCol p.val x.val := by unfold InCol; rw [hm]
  by_cases hw : InCol p.val x.val
  · have hl := hw.lt p.isLt
    rw [dif_pos (hiff.mpr hw), if_pos hw, hr, ← EReal.coe_mul]
    have e1 : P.val + x.val % 128 / 64 = min 14 (row0 row.val + x.val / 64 + 7 - row.val) := by omega
    have e2 : x.val % 128 % 64 + 15 - p.val = min 30 (x.val % 64 + 15 - p.val) := by omega
    simp only [e1, e2]
  · rw [dif_neg (fun h => hw (hiff.mp h)), if_neg hw]

theorem tok_lt : t.val / 4 < 8 := by have := lt32 t; omega

/-- A load at offsets known as numbers. -/
theorem read_off {s : Shape} {e : EltTy} {mm : Memref sig .tc .vmem s e} (h : mm.IsWhole) (X : s.Idx → Elt Ideal e)
    {off off' : Fin s.rank → ℕ} (ho : off = off') (size : Fin s.rank → ℕ) (inb : ∀ a, off a + size a ≤ s.size a)
    (x : (Rect.unit (s := s) off size inb).shape.Idx) (y : s.Idx) (hy : ∀ a, (y a : ℕ) = off' a + x a) :
    mm.view.readAt (Elt Ideal) (Rect.unit (s := s) off size inb).toLoadRect (h.unread X) x = X y := by
  subst ho
  exact read_at h X off size inb x y hy

include hq hk hr in
/-- One grid row's attention for one group of heads. -/
theorem tile_loads (r : Fin 16) (g : Fin 2) (o : Fin 3 → ℕ) (ho : o = ![0, 64 * (row0 (16 * (t.val % 4) + r.val) - min 40 (t.val % 4 * 16 - 4)), 256 * g.val])
    (io : ∀ a, o a + S1x512x256.size a ≤ S1x1536x512.size a) (o2 : Fin 4 → Fin 3 → ℕ)
    (ho2 : ∀ j, o2 j = ![row0 (16 * (t.val % 4) + r.val) + 7 + 2 * j.val - (16 * (t.val % 4) + r.val), 256 * g.val, 0])
    (io2 : ∀ j a, o2 j a + S1x256x128.size a ≤ S14x512x128.size a) (p : Fin 64) (l : Fin 256)
    (Q : Vec Ideal S1x64x256 .bf16) (hQ : Q = (ms4 t).view.readAt (Elt Ideal) (Rect.unit (s := S1x1024x512) ![0, 64 * r.val, 256 * g.val] S1x64x256.size (inb_q r g)).toLoadRect ((hs4 t).unread (iblk m c 4 t)))
    (K : Vec Ideal S1x512x256 .bf16) (hK : K = (ms5 t).view.readAt (Elt Ideal) (Rect.unit (s := S1x1536x512) o S1x512x256.size io).toLoadRect ((hs5 t).unread (iblk m c 5 t)))
    (V : Vec Ideal S1x512x256 .bf16) (hV : V = (ms6 t).view.readAt (Elt Ideal) (Rect.unit (s := S1x1536x512) o S1x512x256.size io).toLoadRect ((hs6 t).unread (iblk m c 6 t)))
    (bb : Fin 4 → Vec Ideal S1x256x128 .f32) (hbb : ∀ j, bb j = scM1.view.readAt (Elt Ideal) (Rect.unit (s := S14x512x128) (o2 j) S1x256x128.size (io2 j)).toLoadRect ((Memref.isWhole_whole cc0_scratch1).unread (biasTable m c))) :
    attnTile (F := Ideal) Q K V (bb 0) (bb 1) (bb 2) (bb 3) (ix2 p l)
      = attn q k rpb (argV m c) ⟨t.val / 4, tok_lt t⟩ ⟨1024 * (t.val % 4) + (64 * r.val + p.val), by omega⟩ ⟨256 * g.val + l.val, by omega⟩ := by
  have hr1 : row0 (16 * (t.val % 4) + r.val) ≤ 16 * (t.val % 4) + r.val := by unfold row0; omega
  have hr2 : 16 * (t.val % 4) + r.val < row0 (16 * (t.val % 4) + r.val) + 8 := by unfold row0; omega
  have hr3 : min 40 (t.val % 4 * 16 - 4) ≤ row0 (16 * (t.val % 4) + r.val) ∧ row0 (16 * (t.val % 4) + r.val) ≤ min 40 (t.val % 4 * 16 - 4) + 16 := by unfold row0; omega
  refine (tile_val q k rpb (argV m c) ⟨t.val / 4, tok_lt t⟩ ⟨16 * (t.val % 4) + r.val, by omega⟩ g Q K V bb ?_ ?_ ?_ ?_ p l).trans ?_
  · intro p y
    rw [hQ, read_at (hs4 t) _ _ _ _ _ (ix3 0 ⟨64 * r.val + p.val, by omega⟩ ⟨256 * g.val + y.val, by omega⟩) (by intro a; fin_cases a <;> simp [ix3]), q_blk, ← hq]
    refine congrArg (fun a => argQ m c (ix3 ⟨t.val / 4, tok_lt t⟩ a _)) (Fin.ext ?_); simp only []; omega
  · intro x y
    rw [hK, read_off (hs5 t) _ ho _ _ _ (ix3 0 ⟨64 * (row0 (16 * (t.val % 4) + r.val) - min 40 (t.val % 4 * 16 - 4)) + x.val, by omega⟩ ⟨256 * g.val + y.val, by omega⟩)
      (by intro a; fin_cases a <;> simp [ix3]), k_blk, ← hk]
    refine congrArg (fun a => argK m c (ix3 ⟨t.val / 4, tok_lt t⟩ a _)) (Fin.ext ?_); simp only []; omega
  · intro x y
    rw [hV, read_off (hs6 t) _ ho _ _ _ (ix3 0 ⟨64 * (row0 (16 * (t.val % 4) + r.val) - min 40 (t.val % 4 * 16 - 4)) + x.val, by omega⟩ ⟨256 * g.val + y.val, by omega⟩)
      (by intro a; fin_cases a <;> simp [ix3]), v_blk]
    refine congrArg (fun a => argV m c (ix3 ⟨t.val / 4, tok_lt t⟩ a _)) (Fin.ext ?_); simp only []; omega
  · intro hh p x
    have hl := bias_load m c rpb hr ⟨4 * g.val + hh.val, by omega⟩ p ⟨16 * (t.val % 4) + r.val, by omega⟩ x ⟨row0 (16 * (t.val % 4) + r.val) + 7 + 2 * (x.val / 128) - (16 * (t.val % 4) + r.val), by omega⟩ rfl
    refine Eq.trans ?_ hl
    unfold bsel
    rw [hbb]
    refine read_off (Memref.isWhole_whole cc0_scratch1) _ (ho2 _) _ _ _ _ ?_
    intro a; fin_cases a <;> simp [ix3]; omega
  · congr 1
    refine Fin.ext ?_; simp only []; omega

include hq hk hr in
theorem tile0_at (r : Fin 16) (p : Fin 64) (l : Fin 256) :
    tile0 (F := Ideal) (grid0.coords t) (hs4 t) (hs5 t) (hs6 t) (Memref.isWhole_whole cc0_scratch1) (iblk m c 4 t) (iblk m c 5 t) (iblk m c 6 t) (biasTable m c) r (ix2 p l)
      = attn q k rpb (argV m c) ⟨t.val / 4, tok_lt t⟩ ⟨1024 * (t.val % 4) + (64 * r.val + p.val), by omega⟩ ⟨256 * (0 : Fin 2).val + l.val, by omega⟩ :=
  tile_loads m c t q k rpb hq hk hr r 0 _ (off1_val t r) (k0_off1_inb _ r) _ (fun j => off2_val t r j) (fun j => k0_off2_inb _ r j) p l
    _ rfl _ rfl _ rfl (fun j => scM1.view.readAt (Elt Ideal) (Rect.unit (s := S14x512x128) (k0_off2 (grid0.coords t) (BitVec.ofNat 32 r.val) (BitVec.ofNat 32 (2 * j.val))) S1x256x128.size (k0_off2_inb (grid0.coords t) r j)).toLoadRect ((Memref.isWhole_whole cc0_scratch1).unread (biasTable m c))) (fun _ => rfl)

include hq hk hr in
theorem tile1_at (r : Fin 16) (p : Fin 64) (l : Fin 256) :
    tile1 (F := Ideal) (grid0.coords t) (hs4 t) (hs5 t) (hs6 t) (Memref.isWhole_whole cc0_scratch1) (iblk m c 4 t) (iblk m c 5 t) (iblk m c 6 t) (biasTable m c) r (ix2 p l)
      = attn q k rpb (argV m c) ⟨t.val / 4, tok_lt t⟩ ⟨1024 * (t.val % 4) + (64 * r.val + p.val), by omega⟩ ⟨256 * (1 : Fin 2).val + l.val, by simp; omega⟩ :=
  tile_loads m c t q k rpb hq hk hr r 1 _ (off3_val t r) (k0_off3_inb _ r) _ (fun j => off4_val t r j) (fun j => k0_off4_inb _ r j) p l
    _ rfl _ rfl _ rfl (fun j => scM1.view.readAt (Elt Ideal) (Rect.unit (s := S14x512x128) (k0_off4 (grid0.coords t) (BitVec.ofNat 32 r.val) (BitVec.ofNat 32 (2 * j.val))) S1x256x128.size (k0_off4_inb (grid0.coords t) r j)).toLoadRect ((Memref.isWhole_whole cc0_scratch1).unread (biasTable m c))) (fun _ => rfl)

/-- The attention's buffer at a point, as its stores leave it. -/
def attnBuf : S1024x512.Idx → EReal :=
  (scM0.view.readCov (attnPieces (F := Ideal) (grid0.coords t) (hs4 t) (hs5 t) (hs6 t) (Memref.isWhole_whole cc0_scratch1) (iblk m c 4 t) (iblk m c 5 t) (iblk m c 6 t) (biasTable m c))
    (Rect.unit ![0, 0] S1024x512.size inb_S1024x512_S1024x512_0_0).toLoadRect : Vec Ideal S1024x512 .bf16)

include hq hk hr in
theorem attnBuf_at (R : Fin 1024) (l : Fin 512) : attnBuf m c t (ix2 R l)
    = attn q k rpb (argV m c) ⟨t.val / 4, tok_lt t⟩ ⟨1024 * (t.val % 4) + R.val, by omega⟩ l := by
  unfold attnBuf
  rw [View.readCov_eq_canon']
  have hi : (Rect.unit (s := S1024x512) ![0, 0] S1024x512.size inb_S1024x512_S1024x512_0_0).toLoadRect.idx (ix2 R l) = ix2 R l := by
    funext a
    refine Fin.ext ?_
    show (![0, 0] : Fin 2 → ℕ) a + 1 * ((ix2 R l : S1024x512.Idx) a : ℕ) = _
    fin_cases a <;> simp
  show View.canon _ _ = _
  rw [hi]
  refine View.canon_eq_of_allAt _ _ _ ?_ ?_
  · by_cases hg : l.val < 256
    · refine ⟨_, List.mem_flatMap.mpr ⟨⟨R.val / 64, by omega⟩, (by decide : ∀ r : Fin 16, r ∈ ([15, 14, 13, 12, 11, 10, 9, 8, 7, 6, 5, 4, 3, 2, 1, 0] : List (Fin 16))) _,
        List.mem_cons_of_mem _ List.mem_cons_self⟩, (Rect.mem_set_unit (inb := inb_o _ 0)).mpr fun a => ?_⟩
      fin_cases a <;> simp [ix2] <;> omega
    · refine ⟨_, List.mem_flatMap.mpr ⟨⟨R.val / 64, by omega⟩, (by decide : ∀ r : Fin 16, r ∈ ([15, 14, 13, 12, 11, 10, 9, 8, 7, 6, 5, 4, 3, 2, 1, 0] : List (Fin 16))) _,
        List.mem_cons_self⟩, (Rect.mem_set_unit (inb := inb_o _ 1)).mpr fun a => ?_⟩
      fin_cases a <;> simp [ix2] <;> omega
  · intro P hP z hz
    obtain ⟨r, -, hP⟩ := List.mem_flatMap.mp hP
    have key : ∀ (g : Fin 2) (a : Fin 64) (b : Fin 256), (Rect.unit (s := S1024x512) ![64 * r.val, 256 * g.val] S64x256.size (inb_o r g)).emb (ix2 a b) = ix2 R l →
        attn q k rpb (argV m c) ⟨t.val / 4, tok_lt t⟩ ⟨1024 * (t.val % 4) + (64 * r.val + a.val), by omega⟩ ⟨256 * g.val + b.val, by omega⟩
          = attn q k rpb (argV m c) ⟨t.val / 4, tok_lt t⟩ ⟨1024 * (t.val % 4) + R.val, by omega⟩ l := by
      intro g a b hz
      have h0 := congrArg Fin.val (congrFun hz 0)
      have h1 := congrArg Fin.val (congrFun hz 1)
      change 64 * r.val + 1 * a.val = R.val at h0
      change 256 * g.val + 1 * b.val = l.val at h1
      congr 1
      · refine Fin.ext ?_; simp only []; omega
      · refine Fin.ext ?_; simp only []; omega
    rcases List.mem_cons.mp hP with rfl | hP
    · change S64x256.Idx at z
      obtain ⟨a, b, rfl⟩ : ∃ (a : Fin 64) (b : Fin 256), z = ix2 a b := ⟨z 0, z 1, eq_ix2 z⟩
      exact (tile1_at m c t q k rpb hq hk hr r a b).trans (key 1 a b hz)
    · obtain rfl := List.mem_singleton.mp hP
      change S64x256.Idx at z
      obtain ⟨a, b, rfl⟩ : ∃ (a : Fin 64) (b : Fin 256), z = ix2 a b := ⟨z 0, z 1, eq_ix2 z⟩
      exact (tile0_at m c t q k rpb hq hk hr r a b).trans (key 0 a b hz)

end Cert.KernelIdeal.Mix

end
-- ==== Proof.PoolVal.lean ====
module

public import Idealize.ShloMosaic.Lib.Pointwise
public import proofs.«01_k».proof.Proof.AttnOut

/-!
The pooled tokens that the body computes, read at an index: the window's mean minus the token.
-/

@[expose] public section

set_option maxRecDepth 16384

noncomputable section

namespace Cert.KernelIdeal.Mix

open Idealize.ShloMosaic Idealize.ShloMosaic.TcCoe Idealize.ShloMosaic.Tactic
open Cert.KernelIdeal.Gen

/-- The tile's tokens with sixteen on either side, nothing beyond the sequence's ends. -/
def halo (before after : BitVec 1) (x1 : Vec Ideal S1x1024x512 .bf16) (x2 x3 : Vec Ideal S1x16x512 .bf16) : FVec Ideal S1056x512 .f32 :=
  extf .f32 (concatenate S1056x512 0 [⟨S16x512, Scalar.select before (shapeCast S16x512 x2 shapeCasts_S1x16x512_S16x512) (broadcast S16x512 (Scalar.ofBits (F := Ideal) .bf16 0x0000#16))⟩,
    ⟨S1024x512, shapeCast S1024x512 x1 shapeCasts_S1x1024x512_S1024x512⟩,
    ⟨S16x512, Scalar.select after (shapeCast S16x512 x3 shapeCasts_S1x16x512_S16x512) (broadcast S16x512 (Scalar.ofBits (F := Ideal) .bf16 0x0000#16))⟩]
    concatenates_S16x512_S1024x512_S16x512_S1056x512_d0 : FVec Ideal S1056x512 .bf16) bitsLt_bf16_f32

/-- A token's number: the tile's first token plus the row. -/
def topTok (i : grid0.Coords) : IVec S8x1 32 :=
  addi (broadcast S8x1 (Scalar.muli (BitVec.ofNat 32 (i 1).val) 1024#32)) (iota .tc S8x1 32 [0] iota_S8x1_d0_w32)

/-- and the numbers of the tile's last eight. -/
def botTok (i : grid0.Coords) : IVec S8x1 32 := addi (topTok i) (broadcast S8x1 1016#32)

/-- How many tokens of the sequence the window of a token holds. -/
def count (half w : BitVec 32) (t : IVec S8x1 32) : IVec S8x1 32 :=
  subi (minsi (addi (subi t (broadcast S8x1 half)) (broadcast S8x1 w)) (broadcast S8x1 4096#32))
    (maxsi (subi t (broadcast S8x1 half)) (broadcast S8x1 0#32))

def invCount (half w : BitVec 32) (t : IVec S8x1 32) : FVec Ideal S8x128 .f32 :=
  broadcastTo S8x128 (divf (broadcast S8x1 (Scalar.ofBits (F := Ideal) .f32 0x3F800000#32)) (sitofp .f32 (count half w t))) broadcasts_S8x1_S8x128

/-- Each row plus the row `1`, `2` or `4` on. -/
def fwd (k : BitVec 32) (X : FVec Ideal S1056x128 .f32) : FVec Ideal S1056x128 .f32 := addf X (dynamicRotate 0 k none X rotates_S1056x128_d0)

/-- Each row of the tile plus the row `k` before it. -/
def back (k : BitVec 32) (X : FVec Ideal S1056x128 .f32) : FVec Ideal S1024x128 .f32 :=
  extractStridedSlice S1024x128 ![16, 0] (addf (dynamicRotate 0 k none X rotates_S1056x128_d0) X) slices_S1056x128_o16_0_S1024x128

/-- The sums divided by the counts, minus the tokens. -/
def lessMean (mid : BitVec 32) (top bot : FVec Ideal S8x128 .f32) (S : FVec Ideal S1024x128 .f32) (X : FVec Ideal S1056x128 .f32) : FVec Ideal S1024x128 .bf16 :=
  truncf .bf16 (subf (concatenate S1024x128 0 [⟨S8x128, mulf (extractStridedSlice S8x128 ![0, 0] S slices_S1024x128_o0_0_S8x128) top⟩,
      ⟨S1008x128, mulf (extractStridedSlice S1008x128 ![8, 0] S slices_S1024x128_o8_0_S1008x128) (broadcast S1008x128 (Scalar.ofBits (F := Ideal) .f32 mid))⟩,
      ⟨S8x128, mulf (extractStridedSlice S8x128 ![1016, 0] S slices_S1024x128_o1016_0_S8x128) bot⟩] concatenates_S8x128_S1008x128_S8x128_S1024x128_d0 : FVec Ideal S1024x128 .f32)
    (extractStridedSlice S1024x128 ![16, 0] X slices_S1056x128_o16_0_S1024x128)) bitsLt_bf16_f32

/-- The pooled tokens of the four groups, side by side. -/
def pooled (i : grid0.Coords) (H : FVec Ideal S1056x512 .f32) : FVec Ideal S1024x512 .bf16 :=
  have X0 : FVec Ideal S1056x128 .f32 := extractStridedSlice S1056x128 ![0, 0] H slices_S1056x512_o0_0_S1056x128
  have X1 : FVec Ideal S1056x128 .f32 := extractStridedSlice S1056x128 ![0, 128] H slices_S1056x512_o0_128_S1056x128
  have X2 : FVec Ideal S1056x128 .f32 := extractStridedSlice S1056x128 ![0, 256] H slices_S1056x512_o0_256_S1056x128
  have X3 : FVec Ideal S1056x128 .f32 := extractStridedSlice S1056x128 ![0, 384] H slices_S1056x512_o0_384_S1056x128
  concatenate S1024x512 1 [
    ⟨S1024x128, lessMean 0x3F000000#32 (invCount 1#32 2#32 (topTok i)) (invCount 1#32 2#32 (botTok i)) (back 1#32 X0) X0⟩,
    ⟨S1024x128, lessMean 0x3E800000#32 (invCount 2#32 4#32 (topTok i)) (invCount 2#32 4#32 (botTok i)) (back 2#32 (fwd 1055#32 X1)) X1⟩,
    ⟨S1024x128, lessMean 0x3E000000#32 (invCount 4#32 8#32 (topTok i)) (invCount 4#32 8#32 (botTok i)) (back 4#32 (fwd 1054#32 (fwd 1055#32 X2))) X2⟩,
    ⟨S1024x128, lessMean 0x3D800000#32 (invCount 8#32 16#32 (topTok i)) (invCount 8#32 16#32 (botTok i)) (back 8#32 (fwd 1052#32 (fwd 1054#32 (fwd 1055#32 X3)))) X3⟩]
    concatenates_S1024x128_S1024x128_S1024x128_S1024x128_S1024x512_d1

theorem pool_eq (c : Dev nD) (i : grid0.Coords)
    {arg3 : Memref sig .tc .vmem S1x1024x512 .bf16} (harg3 : arg3.IsWhole) {arg4 : Memref sig .tc .vmem S1x16x512 .bf16} (harg4 : arg4.IsWhole)
    {arg5 : Memref sig .tc .vmem S1x16x512 .bf16} (harg5 : arg5.IsWhole) (x1 : Vec Ideal S1x1024x512 .bf16) (x2 x3 : Vec Ideal S1x16x512 .bf16) :
    restRun.sl.v288 (F := Ideal) c i arg3 harg3 arg4 harg4 arg5 harg5 x1 x2 x3
      = pooled i (halo (Scalar.cmpi .sgt (BitVec.ofNat 32 (i 1).val) 0#32) (Scalar.cmpi .slt (BitVec.ofNat 32 (i 1).val) 3#32)
        (arg3.view.readAt (Elt Ideal) (Rect.unit (s := S1x1024x512) ![0, 0, 0] S1x1024x512.size inb_S1x1024x512_S1x1024x512_0_0_0).toLoadRect (harg3.unread x1))
        (arg4.view.readAt (Elt Ideal) (Rect.unit (s := S1x16x512) ![0, 0, 0] S1x16x512.size inb_S1x16x512_S1x16x512_0_0_0).toLoadRect (harg4.unread x2))
        (arg5.view.readAt (Elt Ideal) (Rect.unit (s := S1x16x512) ![0, 0, 0] S1x16x512.size inb_S1x16x512_S1x16x512_0_0_0).toLoadRect (harg5.unread x3))) := by
  sl_kernel_rfl

/-- How many tokens of 4096 the window of `n` holds. -/
def cnt (h n : ℕ) : ℕ := min (n + h) 4096 - (n - h)

theorem top_at (t : Fin cfg0.N) (s : Fin 8) : count 1#32 2#32 (topTok (grid0.coords t)) (ix2 s 0) = BitVec.ofNat 32 (cnt 1 (1024 * (t.val % 4) + s.val))
    ∧ count 2#32 4#32 (topTok (grid0.coords t)) (ix2 s 0) = BitVec.ofNat 32 (cnt 2 (1024 * (t.val % 4) + s.val))
    ∧ count 4#32 8#32 (topTok (grid0.coords t)) (ix2 s 0) = BitVec.ofNat 32 (cnt 4 (1024 * (t.val % 4) + s.val))
    ∧ count 8#32 16#32 (topTok (grid0.coords t)) (ix2 s 0) = BitVec.ofNat 32 (cnt 8 (1024 * (t.val % 4) + s.val)) := by
  have key : ∀ (t : Fin grid0.N) (s : Fin 8), count 1#32 2#32 (topTok (grid0.coords t)) (ix2 s 0) = BitVec.ofNat 32 (cnt 1 (1024 * (t.val % 4) + s.val))
    ∧ count 2#32 4#32 (topTok (grid0.coords t)) (ix2 s 0) = BitVec.ofNat 32 (cnt 2 (1024 * (t.val % 4) + s.val))
    ∧ count 4#32 8#32 (topTok (grid0.coords t)) (ix2 s 0) = BitVec.ofNat 32 (cnt 4 (1024 * (t.val % 4) + s.val))
    ∧ count 8#32 16#32 (topTok (grid0.coords t)) (ix2 s 0) = BitVec.ofNat 32 (cnt 8 (1024 * (t.val % 4) + s.val)) := by decide +kernel
  exact key t s

theorem bot_at (t : Fin cfg0.N) (s : Fin 8) : count 1#32 2#32 (botTok (grid0.coords t)) (ix2 s 0) = BitVec.ofNat 32 (cnt 1 (1024 * (t.val % 4) + (1016 + s.val)))
    ∧ count 2#32 4#32 (botTok (grid0.coords t)) (ix2 s 0) = BitVec.ofNat 32 (cnt 2 (1024 * (t.val % 4) + (1016 + s.val)))
    ∧ count 4#32 8#32 (botTok (grid0.coords t)) (ix2 s 0) = BitVec.ofNat 32 (cnt 4 (1024 * (t.val % 4) + (1016 + s.val)))
    ∧ count 8#32 16#32 (botTok (grid0.coords t)) (ix2 s 0) = BitVec.ofNat 32 (cnt 8 (1024 * (t.val % 4) + (1016 + s.val))) := by
  have key : ∀ (t : Fin grid0.N) (s : Fin 8), count 1#32 2#32 (botTok (grid0.coords t)) (ix2 s 0) = BitVec.ofNat 32 (cnt 1 (1024 * (t.val % 4) + (1016 + s.val)))
    ∧ count 2#32 4#32 (botTok (grid0.coords t)) (ix2 s 0) = BitVec.ofNat 32 (cnt 2 (1024 * (t.val % 4) + (1016 + s.val)))
    ∧ count 4#32 8#32 (botTok (grid0.coords t)) (ix2 s 0) = BitVec.ofNat 32 (cnt 4 (1024 * (t.val % 4) + (1016 + s.val)))
    ∧ count 8#32 16#32 (botTok (grid0.coords t)) (ix2 s 0) = BitVec.ofNat 32 (cnt 8 (1024 * (t.val % 4) + (1016 + s.val))) := by decide +kernel
  exact key t s

theorem inv_at (half w : BitVec 32) (T : IVec S8x1 32) (s : Fin 8) (l : Fin 128) (n : ℕ) (hn : n ≠ 0) (hlt : n < 4097)
    (h : count half w T (ix2 s 0) = BitVec.ofNat 32 n) : invCount half w T (ix2 s l) = (((n : ℝ)⁻¹ : ℝ) : EReal) := by
  pointwise [invCount]
  rw [h]
  have hs : (FloatOps.sitofp (F := Ideal) .f32 (BitVec.ofNat 32 n) : EReal) = ((n : ℝ) : EReal) := by
    show (((BitVec.ofNat 32 n).toInt : ℝ) : EReal) = _
    have hi : (BitVec.ofNat 32 n).toInt = (n : ℤ) := by
      rw [BitVec.toInt_eq_toNat_of_lt] <;> simp only [BitVec.toNat_ofNat] <;> omega
    rw [hi]
    rfl
  rw [hs]
  rw [Ideal.div_coe (by exact_mod_cast hn)]
  rw [one_mul, one_div]

theorem half_bits : Ideal.ofBits .f32 0x3F000000#32 = (((2 : ℕ) : ℝ)⁻¹ : ℝ) ∧ Ideal.ofBits .f32 0x3E800000#32 = (((4 : ℕ) : ℝ)⁻¹ : ℝ)
    ∧ Ideal.ofBits .f32 0x3E000000#32 = (((8 : ℕ) : ℝ)⁻¹ : ℝ) ∧ Ideal.ofBits .f32 0x3D800000#32 = (((16 : ℕ) : ℝ)⁻¹ : ℝ) := by
  refine ⟨?_, ?_, ?_, ?_⟩ <;> (simp [Ideal.ofBits, Ideal.ieee, -EReal.coe_mul]; try norm_num)

/-- The first `N` rows of a column are these numbers. -/
def Reads (l : Fin 128) (N : ℕ) (X : FVec Ideal S1056x128 .f32) (y : ℕ → ℝ) : Prop := ∀ j : Fin 1056, j.val < N → X (ix2 j l) = (y j.val : EReal)

theorem Reads.at {l : Fin 128} {N : ℕ} {X : FVec Ideal S1056x128 .f32} {y : ℕ → ℝ} (h : Reads l N X y) (a : Fin 1056) (b : ℕ) (hab : a.val = b) (hb : b < N) :
    X (ix2 a l) = (y b : EReal) := by
  subst hab; exact h a hb

theorem fwd_at (k : ℕ) (hk : 0 < k ∧ k < 1056) {l : Fin 128} {N : ℕ} {X : FVec Ideal S1056x128 .f32} {y : ℕ → ℝ} (hX : Reads l N X y) (hN : N ≤ 1056) :
    Reads l (N - k) (fwd (BitVec.ofNat 32 (1056 - k)) X) (fun j => y j + y (j + k)) := by
  intro j hj
  have e : (BitVec.ofNat 32 (1056 - k)).toNat = 1056 - k := by rw [BitVec.toNat_ofNat]; omega
  pointwise [fwd]
  rw [hX.at j j.val rfl (by omega), hX.at ⟨_, _⟩ (j.val + k) (by simp only [e]; omega) (by omega), ← EReal.coe_add]

theorem back_at (k : ℕ) (hk : 0 < k ∧ k ≤ 16) {l : Fin 128} {N : ℕ} {X : FVec Ideal S1056x128 .f32} {y : ℕ → ℝ} (hX : Reads l N X y) (hN : 1040 ≤ N) (j : Fin 1024) :
    back (BitVec.ofNat 32 k) X (ix2 j l) = ((y (j.val + 16 - k) + y (j.val + 16) : ℝ) : EReal) := by
  have e : (BitVec.ofNat 32 k).toNat = k := by rw [BitVec.toNat_ofNat]; omega
  pointwise [back]
  rw [hX.at ⟨(16 + j.val + 1056 - (BitVec.ofNat 32 k).toNat % 1056) % 1056, _⟩ (j.val + 16 - k) (by simp only [e]; omega) (by omega),
    hX.at ⟨16 + j.val, _⟩ (j.val + 16) (by simp only []; omega) (by omega), ← EReal.coe_add]

theorem less_at (h : ℕ) (hh : 0 < h ∧ h ≤ 8) (t : Fin cfg0.N) (l : Fin 128) (mid : BitVec 32) (hm : Ideal.ofBits .f32 mid = (((2 * h : ℕ) : ℝ)⁻¹ : ℝ))
    (top bot : FVec Ideal S8x128 .f32) (ht : ∀ s : Fin 8, top (ix2 s l) = (((cnt h (1024 * (t.val % 4) + s.val) : ℝ)⁻¹ : ℝ) : EReal))
    (hb : ∀ s : Fin 8, bot (ix2 s l) = (((cnt h (1024 * (t.val % 4) + (1016 + s.val)) : ℝ)⁻¹ : ℝ) : EReal))
    (S : FVec Ideal S1024x128 .f32) (z : ℕ → ℝ) (hS : ∀ R : Fin 1024, S (ix2 R l) = (z R.val : EReal))
    (X : FVec Ideal S1056x128 .f32) (y : ℕ → ℝ) (hX : Reads l 1056 X y) (R : Fin 1024) :
    lessMean mid top bot S X (ix2 R l) = ((z R.val * (cnt h (1024 * (t.val % 4) + R.val) : ℝ)⁻¹ - y (R.val + 16) : ℝ) : EReal) := by
  pointwise [lessMean]
  have hx := hX ⟨16 + R.val, by omega⟩ (by simp only []; omega)
  rw [hx, EReal.coe_sub]
  have e16 : (⟨16 + R.val, by omega⟩ : Fin 1056).val = R.val + 16 := by simp only []; omega
  rw [e16]
  congr 1
  have hR := R.isLt
  by_cases h1 : R.val < 8
  · rw [dif_pos h1, hS, ht, ← EReal.coe_mul]
  · rw [dif_neg h1]
    by_cases h2 : R.val - 8 < 1008
    · rw [dif_pos h2, hS, hm, ← EReal.coe_mul]
      have e1 : 8 + (R.val - 8) = R.val := by omega
      have e2 : cnt h (1024 * (t.val % 4) + R.val) = 2 * h := by unfold cnt; omega
      simp only [e1, e2]
    · rw [dif_neg h2, hS, hb, ← EReal.coe_mul]
      have e1 : 1016 + (R.val - 8 - 1008) = R.val := by omega
      simp only [e1]

/-- Token `n` of a column, nothing beyond the sequence's ends, the sequence beginning at row 16. -/
def padTok (f : Fin 4096 → ℝ) (n : ℕ) : ℝ := if h : 16 ≤ n ∧ n < 4112 then f ⟨n - 16, by omega⟩ else 0

/-- The window's sum. -/
def winSum (f : Fin 4096 → ℝ) (h n : ℕ) : ℝ := ∑ s : Fin 4096, if n ≤ s.val + h ∧ s.val < n + h then f s else 0

theorem winSum_eq (f : Fin 4096 → ℝ) (h n : ℕ) (hh : h ≤ 16) (hn : n < 4096) :
    ∑ i ∈ Finset.range (2 * h), padTok f (n + 16 - h + i) = winSum f h n := by
  have hr : ∑ i ∈ Finset.range (2 * h), padTok f (n + 16 - h + i) = ∑ j ∈ Finset.range 4128, if n + 16 - h ≤ j ∧ j < n + 16 + h then padTok f j else 0 := by
    rw [← Finset.sum_filter]
    refine Finset.sum_bij (fun i _ => n + 16 - h + i) ?_ ?_ ?_ ?_
    · intro i hi
      have := Finset.mem_range.mp hi
      exact Finset.mem_filter.mpr ⟨Finset.mem_range.mpr (by omega), by omega, by omega⟩
    · intro a _ b _ hab
      omega
    · intro j hj
      obtain ⟨_, h1, h2⟩ := Finset.mem_filter.mp hj
      exact ⟨j - (n + 16 - h), Finset.mem_range.mpr (by omega), by omega⟩
    · intro i _; rfl
  rw [hr]
  unfold winSum
  symm
  rw [← Finset.sum_filter, ← Finset.sum_filter]
  refine Finset.sum_bij_ne_zero (fun s _ _ => s.val + 16) ?_ ?_ ?_ ?_
  · intro s hs _
    obtain ⟨_, h1, h2⟩ := Finset.mem_filter.mp hs
    exact Finset.mem_filter.mpr ⟨Finset.mem_range.mpr (by omega), by omega, by omega⟩
  · intro a _ _ b _ _ hab
    exact Fin.ext (by omega)
  · intro j hj hne
    obtain ⟨_, h1, h2⟩ := Finset.mem_filter.mp hj
    have hin : 16 ≤ j ∧ j < 4112 := by
      by_contra hc
      exact hne (dif_neg hc)
    refine ⟨⟨j - 16, by omega⟩, Finset.mem_filter.mpr ⟨Finset.mem_univ _, ?_, ?_⟩, ?_, ?_⟩
    · simp only []; omega
    · simp only []; omega
    · unfold padTok at hne; rw [dif_pos hin] at hne; exact hne
    · simp only []; omega
  · intro s _ _
    unfold padTok
    rw [dif_pos (by omega)]
    congr 1

/-- The pooled token: the window's mean minus the token. -/
def poolTok (f : Fin 4096 → ℝ) (h : ℕ) (n : Fin 4096) : ℝ := winSum f h n.val * (cnt h n.val : ℝ)⁻¹ - f n

theorem cnt_pos (h n : ℕ) (hh : 0 < h) (hn : n < 4096) : cnt h n ≠ 0 := by unfold cnt; omega
theorem cnt_lt (h n : ℕ) (hh : h ≤ 8) : cnt h n < 4097 := by unfold cnt; omega

variable (m : (ℓ : Loc nD τ sig) → Buf (Elt Ideal) ℓ) (c : Dev nD) (t : Fin cfg0.N)
  (u : S8x4096x512.Idx → ℝ) (hu : ∀ i, argU m c i = (u i : EReal))

/-- The halo of a point's tile. -/
def haloAt : FVec Ideal S1056x512 .f32 :=
  halo (Scalar.cmpi .sgt (BitVec.ofNat 32 ((grid0.coords t) 1).val) 0#32) (Scalar.cmpi .slt (BitVec.ofNat 32 ((grid0.coords t) 1).val) 3#32)
    (iblk m c 1 t) (iblk m c 2 t) (iblk m c 3 t)

theorem before_at (t : Fin cfg0.N) : Scalar.cmpi .sgt (BitVec.ofNat 32 ((grid0.coords t) 1).val) 0#32 = if t.val % 4 = 0 then 0#1 else 1#1 :=
  (by decide +kernel : ∀ t : Fin grid0.N, Scalar.cmpi .sgt (BitVec.ofNat 32 ((grid0.coords t) 1).val) 0#32 = if t.val % 4 = 0 then 0#1 else 1#1) t
theorem after_at (t : Fin cfg0.N) : Scalar.cmpi .slt (BitVec.ofNat 32 ((grid0.coords t) 1).val) 3#32 = if t.val % 4 = 3 then 0#1 else 1#1 :=
  (by decide +kernel : ∀ t : Fin grid0.N, Scalar.cmpi .slt (BitVec.ofNat 32 ((grid0.coords t) 1).val) 3#32 = if t.val % 4 = 3 then 0#1 else 1#1) t

include hu in
theorem halo_at (j : Fin 1056) (l : Fin 512) : haloAt m c t (ix2 j l)
    = (padTok (fun n => u (ix3 ⟨t.val / 4, tok_lt t⟩ n l)) (1024 * (t.val % 4) + j.val) : EReal) := by
  unfold haloAt
  rw [before_at, after_at]
  pointwise [halo]
  have hj := j.isLt
  unfold padTok
  by_cases h1 : j.val < 16
  · rw [dif_pos h1, uprev_blk]
    by_cases h0 : t.val % 4 = 0
    · rw [if_pos h0, dif_neg (by omega)]; rfl
    · rw [if_neg h0, dif_pos (by omega), ← hu]
      refine congrArg (fun a => argU m c (ix3 ⟨t.val / 4, tok_lt t⟩ a l)) (Fin.ext ?_); simp only []; omega
  · rw [dif_neg h1]
    by_cases h2 : j.val - 16 < 1024
    · rw [dif_pos h2, u_blk, dif_pos (by omega), ← hu]
      refine congrArg (fun a => argU m c (ix3 ⟨t.val / 4, tok_lt t⟩ a l)) (Fin.ext ?_); simp only []; omega
    · rw [dif_neg h2, unext_blk]
      by_cases h3 : t.val % 4 = 3
      · rw [if_pos h3, dif_neg (by omega)]; rfl
      · rw [if_neg h3, dif_pos (by omega), ← hu]
        refine congrArg (fun a => argU m c (ix3 ⟨t.val / 4, tok_lt t⟩ a l)) (Fin.ext ?_); simp only []; omega

/-- The columns of group `g` of the halo. -/
theorem cols_at (g : Fin 4) (l : Fin 128) (X : FVec Ideal S1056x128 .f32) (hX : ∀ j : Fin 1056, X (ix2 j l) = haloAt m c t (ix2 j ⟨128 * g.val + l.val, by omega⟩))
    (hu : ∀ i, argU m c i = (u i : EReal)) :
    Reads l 1056 X (fun j => padTok (fun n => u (ix3 ⟨t.val / 4, tok_lt t⟩ n ⟨128 * g.val + l.val, by omega⟩)) (1024 * (t.val % 4) + j)) := fun j _ => by
  rw [hX, halo_at m c t u hu]

/-- One group's pooled tokens, from the window's sum and the counts. -/
theorem group_at (h : ℕ) (hh : 0 < h ∧ h ≤ 8) (f : Fin 4096 → ℝ) (l : Fin 128) (mid half w : BitVec 32) (hm : Ideal.ofBits .f32 mid = (((2 * h : ℕ) : ℝ)⁻¹ : ℝ))
    (ht : ∀ s : Fin 8, count half w (topTok (grid0.coords t)) (ix2 s 0) = BitVec.ofNat 32 (cnt h (1024 * (t.val % 4) + s.val)))
    (hb : ∀ s : Fin 8, count half w (botTok (grid0.coords t)) (ix2 s 0) = BitVec.ofNat 32 (cnt h (1024 * (t.val % 4) + (1016 + s.val))))
    (X : FVec Ideal S1056x128 .f32) (hX : Reads l 1056 X (fun j => padTok f (1024 * (t.val % 4) + j)))
    (S : FVec Ideal S1024x128 .f32) (hS : ∀ R : Fin 1024, S (ix2 R l) = ((∑ i ∈ Finset.range (2 * h), padTok f (1024 * (t.val % 4) + R.val + 16 - h + i) : ℝ) : EReal))
    (R : Fin 1024) :
    lessMean mid (invCount half w (topTok (grid0.coords t))) (invCount half w (botTok (grid0.coords t))) S X (ix2 R l)
      = (poolTok f h ⟨1024 * (t.val % 4) + R.val, by omega⟩ : EReal) := by
  have hmod : t.val % 4 < 4 := Nat.mod_lt _ (by decide)
  rw [less_at h hh t l mid hm _ _
    (fun s => inv_at _ _ _ s l _ (cnt_pos _ _ hh.1 (by omega)) (cnt_lt _ _ hh.2) (ht s))
    (fun s => inv_at _ _ _ s l _ (cnt_pos _ _ hh.1 (by omega)) (cnt_lt _ _ hh.2) (hb s))
    S (fun R => ∑ i ∈ Finset.range (2 * h), padTok f (1024 * (t.val % 4) + R + 16 - h + i)) hS X _ hX R]
  have hR := R.isLt
  rw [winSum_eq f h _ (by omega) (by omega)]
  unfold poolTok
  congr 2
  unfold padTok
  rw [dif_pos (by omega)]
  congr 1

include hu in
/-- A pooled token of the tile. -/
theorem pooled_at (R : Fin 1024) (g : Fin 4) (l : Fin 128) : pooled (grid0.coords t) (haloAt m c t) (ix2 R ⟨128 * g.val + l.val, by omega⟩)
    = (poolTok (fun n => u (ix3 ⟨t.val / 4, tok_lt t⟩ n ⟨128 * g.val + l.val, by omega⟩)) (2 ^ g.val) ⟨1024 * (t.val % 4) + R.val, by omega⟩ : EReal) := by
  have hx : ∀ (g : Fin 4) (X : FVec Ideal S1056x128 .f32), (∀ j : Fin 1056, X (ix2 j l) = haloAt m c t (ix2 j ⟨128 * g.val + l.val, by omega⟩)) →
      Reads l 1056 X (fun j => padTok (fun n => u (ix3 ⟨t.val / 4, tok_lt t⟩ n ⟨128 * g.val + l.val, by omega⟩)) (1024 * (t.val % 4) + j)) :=
    fun g X h => cols_at m c t u g l X h hu
  have h0 := hx 0 (extractStridedSlice S1056x128 ![0, 0] (haloAt m c t) slices_S1056x512_o0_0_S1056x128) (fun j => by pointwise)
  have h1 := hx 1 (extractStridedSlice S1056x128 ![0, 128] (haloAt m c t) slices_S1056x512_o0_128_S1056x128) (fun j => by pointwise)
  have h2 := hx 2 (extractStridedSlice S1056x128 ![0, 256] (haloAt m c t) slices_S1056x512_o0_256_S1056x128) (fun j => by pointwise)
  have h3 := hx 3 (extractStridedSlice S1056x128 ![0, 384] (haloAt m c t) slices_S1056x512_o0_384_S1056x128) (fun j => by pointwise)
  have p0 := group_at t 1 (by decide) _ l 0x3F000000#32 1#32 2#32 half_bits.1 (fun s => (top_at t s).1) (fun s => (bot_at t s).1) _ h0 (back 1#32 _)
    (fun R => (back_at 1 (by decide) h0 (by decide) R).trans (by
      simp only [Finset.sum_range_succ, Finset.sum_range_zero, show R.val + 16 - 1 = R.val + 15 by omega,
        show 1024 * (t.val % 4) + R.val + 16 - 1 = 1024 * (t.val % 4) + R.val + 15 by omega]
      congr 1; ring_nf)) R
  have h1' := fwd_at 1 (by decide) h1 (by decide)
  have p1 := group_at t 2 (by decide) _ l 0x3E800000#32 2#32 4#32 half_bits.2.1 (fun s => (top_at t s).2.1) (fun s => (bot_at t s).2.1) _ h1 (back 2#32 _)
    (fun R => (back_at 2 (by decide) h1' (by decide) R).trans (by
      simp only [Finset.sum_range_succ, Finset.sum_range_zero, show R.val + 16 - 2 = R.val + 14 by omega,
        show 1024 * (t.val % 4) + R.val + 16 - 2 = 1024 * (t.val % 4) + R.val + 14 by omega]
      congr 1; ring_nf)) R
  have h2' := fwd_at 1 (by decide) h2 (by decide)
  have h2'' := fwd_at 2 (by decide) h2' (by decide)
  have p2 := group_at t 4 (by decide) _ l 0x3E000000#32 4#32 8#32 half_bits.2.2.1 (fun s => (top_at t s).2.2.1) (fun s => (bot_at t s).2.2.1) _ h2 (back 4#32 _)
    (fun R => (back_at 4 (by decide) h2'' (by decide) R).trans (by
      simp only [Finset.sum_range_succ, Finset.sum_range_zero, show R.val + 16 - 4 = R.val + 12 by omega,
        show 1024 * (t.val % 4) + R.val + 16 - 4 = 1024 * (t.val % 4) + R.val + 12 by omega]
      congr 1; ring_nf)) R
  have h3' := fwd_at 1 (by decide) h3 (by decide)
  have h3'' := fwd_at 2 (by decide) h3' (by decide)
  have h3''' := fwd_at 4 (by decide) h3'' (by decide)
  have p3 := group_at t 8 (by decide) _ l 0x3D800000#32 8#32 16#32 half_bits.2.2.2 (fun s => (top_at t s).2.2.2) (fun s => (bot_at t s).2.2.2) _ h3 (back 8#32 _)
    (fun R => (back_at 8 (by decide) h3''' (by decide) R).trans (by
      simp only [Finset.sum_range_succ, Finset.sum_range_zero, show R.val + 16 - 8 = R.val + 8 by omega,
        show 1024 * (t.val % 4) + R.val + 16 - 8 = 1024 * (t.val % 4) + R.val + 8 by omega]
      congr 1; ring_nf)) R
  unfold pooled
  fin_cases g
  · pointwise
    exact p0.trans (congrArg (fun z : Fin 512 => ((poolTok (fun n => u (ix3 ⟨t.val / 4, tok_lt t⟩ n z)) 1 ⟨1024 * (t.val % 4) + R.val, by omega⟩ : ℝ) : EReal)) (Fin.ext (by simp)))
  · pointwise
    exact p1
  · pointwise
    rw [dif_neg (show ¬ (256 + l.val < 128) by omega), dif_neg (show ¬ (256 + l.val - 128 < 128) by omega), dif_pos (show 256 + l.val - 128 - 128 < 128 by omega), show (⟨256 + l.val - 128 - 128, by omega⟩ : Fin 128) = l from Fin.ext (by simp only []; omega)]
    exact p2
  · pointwise
    rw [dif_neg (show ¬ (384 + l.val < 128) by omega), dif_neg (show ¬ (384 + l.val - 128 < 128) by omega), dif_neg (show ¬ (384 + l.val - 128 - 128 < 128) by omega), show (⟨384 + l.val - 128 - 128 - 128, by omega⟩ : Fin 128) = l from Fin.ext (by simp only []; omega)]
    exact p3

end Cert.KernelIdeal.Mix

end
-- ==== Proof.MixOut.lean ====
module

public import Idealize.ShloMosaic.Lib.Pointwise
public import proofs.«01_k».proof.Proof.PoolVal

/-!
What the mixers' call leaves in its result, element by element: the input, plus the pooled tokens times the folded
weights, plus the attention times the projection's lower rows.
-/

@[expose] public section

set_option maxRecDepth 16384

noncomputable section

namespace Cert.KernelIdeal.Mix

open Idealize.ShloMosaic Idealize.ShloMosaic.TcCoe Idealize.ShloMosaic.Tactic
open Cert.KernelIdeal.Gen

/-- The pooled token of one column: the column's group gives the window. -/
def poolCol (u : S8x4096x512.Idx → ℝ) (b : Fin 8) (n : Fin 4096) (j : Fin 512) : ℝ :=
  poolTok (fun n => u (ix3 b n j)) (2 ^ (j.val / 128)) n

/-- An element of the result. -/
def elem (x : S8x4096x1024.Idx → EReal) (u q k : S8x4096x512.Idx → ℝ) (v : S8x4096x512.Idx → EReal) (W : S512x1024.Idx → EReal)
    (rpb : S1x8x15x31.Idx → ℝ) (o : S1x1024x1024.Idx → EReal) (b : Fin 8) (n : Fin 4096) (e : Fin 1024) : EReal :=
  (x (ix3 b n e) + ∑ j : Fin 512, (poolCol u b n j : EReal) * W (ix2 j e)) + ∑ l : Fin 512, attn q k rpb v b n l * o (ix3 0 ⟨512 + l.val, by omega⟩ e)

theorem sums_at (P : FVec Ideal S1024x512 .bf16) (W : FVec Ideal S512x1024 .bf16) (z : FVec Ideal S1024x1024 .f32) (hz : z = broadcast S1024x1024 (Scalar.ofBits (F := Ideal) .f32 0x00000000#32))
    (a : Vec Ideal S1024x512 .bf16) (w : Vec Ideal S512x1024 .bf16) (x : Vec Ideal S1x1024x1024 .f32) (R e : Fin 1024) :
    k0_pay2 (matmul dot_S1024x512_S512x1024_S1024x1024_1_0_0_1_n_n none P W z) a w x (ix3 0 R e)
      = (x (ix3 0 R e) + ∑ j : Fin 512, P (ix2 R j) * W (ix2 j e)) + ∑ l : Fin 512, a (ix2 R l) * w (ix2 l e) := by
  subst hz
  pointwise [k0_pay2]

variable (m : (ℓ : Loc nD τ sig) → Buf (Elt Ideal) ℓ) (c : Dev nD) (t : Fin cfg0.N) (u q k : S8x4096x512.Idx → ℝ) (rpb : S1x8x15x31.Idx → ℝ)
  (hu : ∀ i, argU m c i = (u i : EReal)) (hq : ∀ i, argQ m c i = (q i : EReal)) (hk : ∀ i, argK m c i = (k i : EReal)) (hr : ∀ i, argB m c i = (rpb i : EReal))

/-- A load of the whole block reads the block. -/
theorem whole_at {s : Shape} {e : EltTy} {mm : Memref sig .tc .vmem s e} (h : mm.IsWhole) (X : s.Idx → Elt Ideal e)
    (off : Fin s.rank → ℕ) (hoff : ∀ a, off a = 0) (inb : ∀ a, off a + s.size a ≤ s.size a) :
    mm.view.readAt (Elt Ideal) (Rect.unit (s := s) off s.size inb).toLoadRect (h.unread X) = X :=
  funext fun x => read_at h X off s.size inb x x fun a => by rw [hoff, Nat.zero_add]

include hu in
theorem pool_col (R : Fin 1024) (j : Fin 512) :
    restRun.sl.v288 (F := Ideal) c (grid0.coords t) (ms1 t) (hs1 t) (ms2 t) (hs2 t) (ms3 t) (hs3 t) (iblk m c 1 t) (iblk m c 2 t) (iblk m c 3 t) (ix2 R j)
      = (poolCol u ⟨t.val / 4, tok_lt t⟩ ⟨1024 * (t.val % 4) + R.val, by omega⟩ j : EReal) := by
  have z3 : ∀ a, (![0, 0, 0] : Fin 3 → ℕ) a = 0 := by decide
  rw [pool_eq, whole_at (hs1 t) _ _ z3, whole_at (hs2 t) _ _ z3, whole_at (hs3 t) _ _ z3]
  obtain ⟨g, l, rfl⟩ : ∃ (g : Fin 4) (l : Fin 128), j = ⟨128 * g.val + l.val, by omega⟩ :=
    ⟨⟨j.val / 128, by omega⟩, ⟨j.val % 128, by omega⟩, Fin.ext (by simp only []; omega)⟩
  refine (pooled_at m c t u hu R g l).trans ?_
  unfold poolCol
  rw [show (128 * g.val + l.val) / 128 = g.val by omega]

include hu hq hk hr in
theorem out_at (R e : Fin 1024) : (outBlock m c t : S1x1024x1024.Idx → EReal) (ix3 0 R e)
    = elem (argX m c) u q k (argV m c) (poolTable m c) rpb (argO m c) ⟨t.val / 4, tok_lt t⟩ ⟨1024 * (t.val % 4) + R.val, by omega⟩ e := by
  rw [outBlock_eq]
  refine read_pieces (ms12 t) _ _ _ ⟨_, List.mem_singleton.mpr rfl, (Rect.mem_set_unit (inb := inb_S1x1024x1024_S1x1024x1024_0_0_0)).mpr fun a => ?_⟩ ?_
  · fin_cases a <;> simp [ix3]
  · intro P hP z hz
    obtain rfl := List.mem_singleton.mp hP
    change S1x1024x1024.Idx at z
    obtain ⟨z0, z1, z2, rfl⟩ : ∃ (z0 : Fin 1) (z1 z2 : Fin 1024), z = ix3 z0 z1 z2 := ⟨z 0, z 1, z 2, eq_ix3 z⟩
    have h1 := congrArg Fin.val (congrFun hz 1)
    have h2 := congrArg Fin.val (congrFun hz 2)
    change 0 + 1 * z1.val = R.val at h1
    change 0 + 1 * z2.val = e.val at h2
    obtain rfl : z0 = 0 := Subsingleton.elim _ _
    obtain rfl : z1 = R := Fin.ext (by omega)
    obtain rfl : z2 = e := Fin.ext (by omega)
    refine (sums_at _ _ _ ?_ _ _ _ z1 z2).trans ?_
    · sl_kernel_rfl
    unfold elem
    refine congrArg₂ _ (congrArg₂ _ ?_ (Finset.sum_congr rfl fun j _ => congrArg₂ _ (pool_col m c t u hu z1 j) ?_)) (Finset.sum_congr rfl fun l _ => congrArg₂ _ (attnBuf_at m c t q k rpb hq hk hr z1 l) ?_)
    · rw [read_at (hs0 t) _ _ _ _ _ (ix3 0 z1 z2) (by intro a; fin_cases a <;> simp [ix3])]
      exact x_blk m c t z1 z2
    · exact read_at (Memref.isWhole_whole cc0_scratch2) _ _ _ _ _ (ix2 j z2) (by intro a; fin_cases a <;> simp [ix2])
    · rw [read_at (hs11 t) _ _ _ _ _ (ix2 ⟨512 + l.val, by omega⟩ z2) (by intro a; fin_cases a <;> simp [ix2])]
      exact wout_blk m c t _ z2

end Cert.KernelIdeal.Mix

end
-- ==== Proof.MixFinal.lean ====
module

public import Idealize.ShloMosaic.Lib.Pointwise
public import proofs.«01_k».proof.Proof.MixOut

/-!
The whole result of the mixers' call: every block puts its elements in their place.
-/

@[expose] public section

set_option maxRecDepth 16384

noncomputable section

namespace Cert.KernelIdeal.Mix

open Idealize.ShloMosaic Idealize.ShloMosaic.TcCoe Idealize.ShloMosaic.Tactic
open Cert.KernelIdeal.Gen

/-- The result, element by element. -/
def RES (x : S8x4096x1024.Idx → EReal) (u q k : S8x4096x512.Idx → ℝ) (v : S8x4096x512.Idx → EReal) (W : S512x1024.Idx → EReal)
    (rpb : S1x8x15x31.Idx → ℝ) (o : S1x1024x1024.Idx → EReal) : S8x4096x1024.Idx → EReal :=
  fun i => elem x u q k v W rpb o (i 0) (i 1) (i 2)

variable (m : (ℓ : Loc nD τ sig) → Buf (Elt Ideal) ℓ) (c : Dev nD) (u q k : S8x4096x512.Idx → ℝ) (rpb : S1x8x15x31.Idx → ℝ)
  (hu : ∀ i, argU m c i = (u i : EReal)) (hq : ∀ i, argQ m c i = (q i : EReal)) (hk : ∀ i, argK m c i = (k i : EReal)) (hr : ∀ i, argB m c i = (rpb i : EReal))

include hu hq hk hr in
theorem point (t : Fin cfg0.N) (y : S1x1024x1024.Idx) :
    (outBlock m c t : S1x1024x1024.Idx → EReal) y
      = RES (argX m c) u q k (argV m c) (poolTable m c) rpb (argO m c) (((cfg0.win 12).blk t).view.emb y) := by
  obtain ⟨a, R, e, rfl⟩ : ∃ (a : Fin 1) (R : Fin 1024) (e : Fin 1024), y = ix3 a R e := ⟨y 0, y 1, y 2, eq_ix3 y⟩
  obtain rfl : a = 0 := Subsingleton.elim _ _
  refine (out_at m c t u q k rpb hu hq hk hr R e).trans ?_
  unfold RES
  congr 1
  · refine Fin.ext ?_
    blk_simp [idx_val t]
    simp
  · refine Fin.ext ?_
    blk_simp [idx_val t]
    simp only []
    omega
  · refine Fin.ext ?_
    blk_simp [idx_val t]

include hu hq hk hr in
theorem final : (dats m 0 c).arrAt 12 (cfgs 0).N
    = RES (argX m c) u q k (argV m c) (poolTable m c) rpb (argO m c) := by
  refine (dats m 0 c).arrAt_eq_of_covers 12 _ (by decide +kernel) fun t _ y => ?_
  blk_simp
  rw [after12]
  exact point m c u q k rpb hu hq hk hr t y

end Cert.KernelIdeal.Mix

end
-- ==== Proof.RefWord.lean ====
module

public import Idealize.ShloMosaic.Lib.Pointwise
public import proofs.«01_k».proof.Proof.Gen.ReferenceIdeal.Run
public import proofs.«01_k».proof.Proof.AttnOut

/-!
The reference's rows, columns and distances of the tokens, as words, read at an index.
-/

@[expose] public section

set_option maxRecDepth 16384

noncomputable section

namespace Cert.ReferenceIdeal.Value

open Idealize.ShloMosaic Idealize.ShloMosaic.TcCoe Idealize.ShloMosaic.Tactic
open Cert.ReferenceIdeal.Gen
open Cert.KernelIdeal.Mix (row0 InCol Near)

variable (V0 : Valuation τ sig (Elt Ideal))

theorem iota_at (n : Fin 4096) : res_main_v151 V0 (ix1 n) = BitVec.ofNat 32 n.val := by pointwise [res_main_v151]

theorem row_at (n : Fin 4096) : res_main_v152 V0 (ix1 n) = BitVec.ofNat 32 (n.val / 64) := by
  pointwise [res_main_v152, res_main_call4_v2, res_main_call4_v0, iota_at]
  revert n; decide +kernel

theorem col_at (n : Fin 4096) : res_main_v153 V0 (ix1 n) = BitVec.ofNat 32 (n.val % 64) := by
  pointwise [res_main_v153, res_main_call5_v4, res_main_call5_v2, res_main_call5_v0, iota_at]
  revert n; decide +kernel

theorem row0_at (n : Fin 4096) : res_main_v156 V0 (ix1 n) = BitVec.ofNat 32 (row0 (n.val / 64)) := by
  pointwise [res_main_v156, row_at]
  have key : ∀ a : Fin 64, IntOp.minsi 56#32 (IntOp.maxsi 0#32 (IntOp.subi (BitVec.ofNat 32 a.val) 4#32)) = BitVec.ofNat 32 (row0 a.val) := by decide +kernel
  exact key ⟨n.val / 64, by omega⟩

theorem col0_at (n : Fin 4096) : res_main_v159 V0 (ix1 n) = BitVec.ofNat 32 (min 48 (n.val % 64 - 8)) := by
  pointwise [res_main_v159, col_at]
  have key : ∀ a : Fin 64, IntOp.minsi 48#32 (IntOp.maxsi 0#32 (IntOp.subi (BitVec.ofNat 32 a.val) 8#32)) = BitVec.ofNat 32 (min 48 (a.val - 8)) := by decide +kernel
  exact key ⟨n.val % 64, by omega⟩

theorem dr_at (n x : Fin 4096) : res_main_v196 V0 (ix2 n x) = BitVec.ofNat 32 (min 14 (x.val / 64 + 7 - n.val / 64)) := by
  pointwise [res_main_v196, row_at]
  have key : ∀ a b : Fin 64, IntOp.minsi 14#32 (IntOp.maxsi 0#32 (IntOp.subi (IntOp.addi (IntOp.subi (BitVec.ofNat 32 b.val) (BitVec.ofNat 32 a.val)) 8#32) 1#32))
      = BitVec.ofNat 32 (min 14 (b.val + 7 - a.val)) := by decide +kernel
  exact key ⟨n.val / 64, by omega⟩ ⟨x.val / 64, by omega⟩

theorem dc_at (n x : Fin 4096) : res_main_v206 V0 (ix2 n x) = BitVec.ofNat 32 (min 30 (x.val % 64 + 15 - n.val % 64)) := by
  pointwise [res_main_v206, col_at]
  have key : ∀ a b : Fin 64, IntOp.minsi 30#32 (IntOp.maxsi 0#32 (IntOp.subi (IntOp.addi (IntOp.subi (BitVec.ofNat 32 b.val) (BitVec.ofNat 32 a.val)) 16#32) 1#32))
      = BitVec.ofNat 32 (min 30 (b.val + 15 - a.val)) := by decide +kernel
  exact key ⟨n.val % 64, by omega⟩ ⟨x.val % 64, by omega⟩

end Cert.ReferenceIdeal.Value

end
-- ==== Proof.RefVal.lean ====
module

public import Idealize.ShloMosaic.Lib.Pointwise
public import proofs.«01_k».proof.Proof.Gen.ReferenceIdeal.Run
public import proofs.«01_k».proof.Proof.RefWord

/-!
The reference's masked scores and attention, read at an index.
-/

@[expose] public section

set_option maxRecDepth 16384

noncomputable section

namespace Cert.ReferenceIdeal.Value

open Idealize.ShloMosaic Idealize.ShloMosaic.TcCoe Idealize.ShloMosaic.Tactic
open Cert.ReferenceIdeal.Gen
open Cert.KernelIdeal.Mix (row0 InCol Near)

variable (V0 : Valuation τ sig (Elt Ideal))

/-- The arguments' contents, as arrays of extended reals. -/
abbrev arg0 : S8x4096x1024.Idx → EReal := V0 (Proc.tc.devRef main_arg0)
abbrev arg1 : S8x4096x512.Idx → EReal := V0 (Proc.tc.devRef main_arg1)
abbrev arg2 : S8x4096x512.Idx → EReal := V0 (Proc.tc.devRef main_arg2)
abbrev arg3 : S8x4096x512.Idx → EReal := V0 (Proc.tc.devRef main_arg3)
abbrev arg4 : S8x4096x512.Idx → EReal := V0 (Proc.tc.devRef main_arg4)
abbrev arg5 : S1x4x128x128.Idx → EReal := V0 (Proc.tc.devRef main_arg5)
abbrev arg6 : S1x512.Idx → EReal := V0 (Proc.tc.devRef main_arg6)
abbrev arg7 : S1x8x15x31.Idx → EReal := V0 (Proc.tc.devRef main_arg7)
abbrev arg8 : S1x1024x1024.Idx → EReal := V0 (Proc.tc.devRef main_arg8)

/-- The bias table read at the two distances. -/
theorem gather_at (T : S8x15x31.Idx → EReal) (I : IVec S4096x4096x2 32) (h : Fin 8) (n x : Fin 4096) (a : Fin 15) (b : Fin 31)
    (ha : I (ix3 n x 0) = BitVec.ofNat 32 a.val) (hb : I (ix3 n x 1) = BitVec.ofNat 32 b.val) :
    Host.gather gather_S8x15x31_S4096x4096x2_S8x4096x4096_0_12_n_n_12_2_811 T I (ix3 h n x) = T (ix3 h a b) := by
  have w : ∀ k : ℕ, k < 31 → (BitVec.ofNat 32 k).toInt.toNat = k := by decide +kernel
  unfold Host.gather
  congr 1
  funext d
  refine Fin.ext ?_
  show GatherDims.start _ _ I d + GatherDims.batchCoord _ _ d + GatherDims.offCoord _ _ d = _
  rw [GatherDims.batchCoord_eq_zero _ _ _ List.not_mem_nil, Nat.add_zero]
  have hd : d = 0 ∨ d = 1 ∨ d = 2 := by revert d; decide
  rcases hd with rfl | rfl | rfl
  · unfold GatherDims.start
    rw [dif_neg (by decide), Nat.zero_add]
    rfl
  · rw [GatherDims.offCoord_eq_zero _ _ _ (by decide), Nat.add_zero]
    unfold GatherDims.start
    rw [dif_pos (by decide)]
    have hs : GatherDims.siIdx gather_S8x15x31_S4096x4096x2_S8x4096x4096_0_12_n_n_12_2_811 (ix3 h n x) ⟨List.idxOf (1 : Fin 3) [1, 2], by decide⟩ = ix3 n x 0 := by
      funext e; refine Fin.ext ?_
      match e with
      | ⟨0, _⟩ => rfl
      | ⟨1, _⟩ => rfl
      | ⟨2, _⟩ => rfl
    refine (congrArg (fun z => min (I z).toInt.toNat _) hs).trans ?_
    rw [ha, w _ (by omega)]
    show min a.val (15 - 1) = a.val
    omega
  · rw [GatherDims.offCoord_eq_zero _ _ _ (by decide), Nat.add_zero]
    unfold GatherDims.start
    rw [dif_pos (by decide)]
    have hs : GatherDims.siIdx gather_S8x15x31_S4096x4096x2_S8x4096x4096_0_12_n_n_12_2_811 (ix3 h n x) ⟨List.idxOf (2 : Fin 3) [1, 2], by decide⟩ = ix3 n x 1 := by
      funext e; refine Fin.ext ?_
      match e with
      | ⟨0, _⟩ => rfl
      | ⟨1, _⟩ => rfl
      | ⟨2, _⟩ => rfl
    refine (congrArg (fun z => min (I z).toInt.toNat _) hs).trans ?_
    rw [hb, w _ b.isLt]
    show min b.val (31 - 1) = b.val
    omega

theorem inside (a b : Fin 64) : IntOp.cmpi .sge (BitVec.ofNat 32 b.val) (BitVec.ofNat 32 (row0 a.val)) = (if row0 a.val ≤ b.val then 1#1 else 0#1)
    ∧ IntOp.cmpi .slt (BitVec.ofNat 32 b.val) (IntOp.addi (BitVec.ofNat 32 (row0 a.val)) 8#32) = (if b.val < row0 a.val + 8 then 1#1 else 0#1)
    ∧ IntOp.cmpi .sge (BitVec.ofNat 32 b.val) (BitVec.ofNat 32 (min 48 (a.val - 8))) = (if min 48 (a.val - 8) ≤ b.val then 1#1 else 0#1)
    ∧ IntOp.cmpi .slt (BitVec.ofNat 32 b.val) (IntOp.addi (BitVec.ofNat 32 (min 48 (a.val - 8))) 16#32) = (if b.val < min 48 (a.val - 8) + 16 then 1#1 else 0#1) := by
  revert a b; decide +kernel

theorem both (p q r s : Prop) [Decidable p] [Decidable q] [Decidable r] [Decidable s] (A B : EReal) :
    Scalar.select (IntOp.andi (IntOp.andi (IntOp.andi (if p then 1#1 else 0#1) (if q then 1#1 else 0#1)) (if r then 1#1 else 0#1)) (if s then 1#1 else 0#1)) A B
      = if p ∧ q ∧ r ∧ s then A else B := by
  by_cases hp : p <;> by_cases hq : q <;> by_cases hr : r <;> by_cases hs : s <;> simp [hp, hq, hr, hs, Scalar.select, IntOp.andi]

variable (q k : S8x4096x512.Idx → ℝ) (rpb : S1x8x15x31.Idx → ℝ)
  (hq : ∀ i, arg2 V0 i = (q i : EReal)) (hk : ∀ i, arg3 V0 i = (k i : EReal))
  (hr : ∀ i, arg7 V0 i = (rpb i : EReal))

/-- A distance that the wrap of negative indices leaves alone. -/
theorem nowrap (N : ℕ) (hN : N < 32) (w : BitVec 32) : Scalar.select (IntOp.cmpi .slt (BitVec.ofNat 32 N) 0#32) w (BitVec.ofNat 32 N) = BitVec.ofNat 32 N := by
  have : ∀ N : Fin 32, IntOp.cmpi .slt (BitVec.ofNat 32 N.val) 0#32 = 0#1 := by decide +kernel
  rw [this ⟨N, hN⟩]; rfl

include hq hk hr in
theorem score_at (b h : Fin 8) (n x : Fin 4096) : (res_main_v229 V0 : S8x8x4096x4096.Idx → EReal) (ix4 b h n x)
    = if Near n.val x.val then ((Cert.KernelIdeal.Mix.sc q k rpb b h n.val n.isLt x * Real.log 2 : ℝ) : EReal) else ⊥ := by
  pointwise [res_main_v229, row_at, col_at, row0_at, col0_at]
  obtain ⟨h1, h2, -, -⟩ := inside ⟨n.val / 64, by omega⟩ ⟨x.val / 64, by omega⟩
  obtain ⟨-, -, h3, h4⟩ := inside ⟨n.val % 64, by omega⟩ ⟨x.val % 64, by omega⟩
  simp only [] at h1 h2 h3 h4
  rw [h1, h2, h3, h4, both]
  rw [gather_at _ _ h n x ⟨min 14 (x.val / 64 + 7 - n.val / 64), by omega⟩ ⟨min 30 (x.val % 64 + 15 - n.val % 64), by omega⟩
    (by pointwise [dr_at]; exact nowrap _ (by omega) _) (by pointwise [dc_at]; exact nowrap _ (by omega) _)]
  have hn : (Ideal.ofBits .f32 0xFF800000#32) = ⊥ := by simp [Ideal.ofBits, Ideal.ieee]
  have hl : Ideal.log (Ideal.ofBits .f32 0x40000000#32) = ((Real.log 2 : ℝ) : EReal) := by
    rw [show Ideal.ofBits .f32 0x40000000#32 = ((2 : ℝ) : EReal) by simp [Ideal.ofBits, Ideal.ieee, -EReal.coe_mul]; norm_num]
    show (if (2 : ℝ) ≤ 0 then ⊥ else (Real.log 2 : EReal)) = _
    rw [if_neg (by norm_num)]
  refine if_congr (by unfold Near InCol; omega) ?_ hn
  pointwise
  rw [hl]
  unfold Cert.KernelIdeal.Mix.sc
  have hs : ∀ d : Fin 64, arg2 V0 (ix3 b n ⟨h.val * 64 + d.val, by omega⟩)
      * arg3 V0 (ix3 b x ⟨h.val * 64 + d.val, by omega⟩)
      = ((q (ix3 b ⟨n.val, n.isLt⟩ ⟨64 * h.val + d.val, by omega⟩) * k (ix3 b x ⟨64 * h.val + d.val, by omega⟩) : ℝ) : EReal) := fun d => by
    rw [hq, hk, ← EReal.coe_mul]
    simp only [Nat.mul_comm h.val 64]
  refine (congrArg₂ (fun A B : EReal => A * ((Real.log 2 : ℝ) : EReal) + B) ((Finset.sum_congr rfl fun d _ => hs d).trans (Cert.Soft.sum_coe _ _)) (hr _)).trans ?_
  rw [← EReal.coe_mul, ← EReal.coe_add, add_mul, mul_assoc, inv_mul_cancel₀ (Real.log_pos (by norm_num)).ne', mul_one]

end Cert.ReferenceIdeal.Value

end
-- ==== Proof.RefAttn.lean ====
module

public import Idealize.ShloMosaic.Lib.Pointwise
public import proofs.«01_k».proof.Proof.RefVal

/-!
The reference's softmax and its attention, read at an index.
-/

@[expose] public section

set_option maxRecDepth 16384

noncomputable section

namespace Cert.ReferenceIdeal.Value

open Idealize.ShloMosaic Idealize.ShloMosaic.TcCoe Idealize.ShloMosaic.Tactic
open Cert.ReferenceIdeal.Gen
open Cert.KernelIdeal.Mix (Near attn near_self sc)

theorem ninf : (Ideal.ofBits .f32 0xFF800000#32) = ⊥ := by simp [Ideal.ofBits, Ideal.ieee]

section rows
variable {A B N K : ℕ}

/-- A maximum along the last of four axes. -/
theorem rowMax_at (S : FVec Ideal ⟨4, ![A, B, N, K]⟩ .f32) (h : (⟨4, ![A, B, N, K]⟩ : Shape).ReducesTo [3] ⟨3, ![A, B, N]⟩)
    (hu : 0 < S_.numel) (a : Fin A) (b : Fin B) (n : Fin N) :
    Host.reduce FloatOps.maximumf S (constant S_ .f32 0xFF800000#32) h hu (ix3 a b n)
      = Finset.fold max ⊥ (fun y : Fin K => S (ix4 a b n y)) Finset.univ := by
  rw [← ninf]
  pointwise

/-- A sum along the last of four axes. -/
theorem rowSum_at (S : FVec Ideal ⟨4, ![A, B, N, K]⟩ .f32) (h : (⟨4, ![A, B, N, K]⟩ : Shape).ReducesTo [3] ⟨3, ![A, B, N]⟩)
    (hu : 0 < S_.numel) (a : Fin A) (b : Fin B) (n : Fin N) :
    Host.reduceAdd S (constant S_ .f32 0x00000000#32) h hu (ix3 a b n) = ∑ y : Fin K, S (ix4 a b n y) := by
  pointwise

end rows

/-- The scores' exponentials off a given row value. -/
def expsOff (S : FVec Ideal S8x8x4096x4096 .f32) (M : FVec Ideal S8x8x4096 .f32) : FVec Ideal S8x8x4096x4096 .f32 :=
  Host.exp (subf S (broadcastInDim S8x8x4096x4096 ![0, 1, 2, 3] bcast_S8x8x4096x1_S8x8x4096x4096_0_1_2_3 (broadcastInDim S8x8x4096x1 ![0, 1, 2] bcast_S8x8x4096_S8x8x4096x1_0_1_2
    (maximumf (broadcastInDim S8x8x4096 ![] bcast_S_S8x8x4096 (constant S_ .f32 0xFF800000#32)) M))))

/-- The heads' values by given weights and their rows' divisors. -/
def headsOver (v : FVec Ideal S8x4096x512 .bf16) (E : FVec Ideal S8x8x4096x4096 .f32) (D : FVec Ideal S8x8x4096 .f32) : FVec Ideal S8x4096x512 .f32 :=
  shapeCast _ (transpose S8x4096x8x64 [0, 3, 1, 2] (Host.dotGeneral dot_S8x4096x8x64_S8x8x4096x4096_S8x8x64x4096_1_3_3_2_02_01 none (shapeCast _ (extf .f32 v bitsLt_bf16_f32) shapeCasts_S8x4096x512_S8x4096x8x64)
    (Host.divf E (broadcastInDim S8x8x4096x4096 ![0, 1, 2, 3] bcast_S8x8x4096x1_S8x8x4096x4096_0_1_2_3 (broadcastInDim S8x8x4096x1 ![0, 1, 2] bcast_S8x8x4096_S8x8x4096x1_0_1_2 D)))) transposes_S8x8x64x4096_S8x4096x8x64_0_3_1_2) shapeCasts_S8x4096x8x64_S8x4096x512

theorem expsOff_at (S : FVec Ideal S8x8x4096x4096 .f32) (M : FVec Ideal S8x8x4096 .f32) (b h : Fin 8) (n x : Fin 4096) :
    expsOff S M (ix4 b h n x) = Ideal.exp (S (ix4 b h n x) - M (ix3 b h n)) := by
  pointwise [expsOff]
  rw [ninf, max_eq_right bot_le]

theorem headsOver_at (v : FVec Ideal S8x4096x512 .bf16) (E : FVec Ideal S8x8x4096x4096 .f32) (D : FVec Ideal S8x8x4096 .f32) (b : Fin 8) (n : Fin 4096) (l : Fin 512) :
    headsOver v E D (ix3 b n l) = ∑ x : Fin 4096, v (ix3 b x l) * Ideal.div (E (ix4 b ⟨l.val / 64, by omega⟩ n x)) (D (ix3 b ⟨l.val / 64, by omega⟩ n)) := by
  pointwise [headsOver]

/-- The scores' exponentials off their row's maximum. -/
def expsOf (S : FVec Ideal S8x8x4096x4096 .f32) : FVec Ideal S8x8x4096x4096 .f32 :=
  expsOff S (Host.reduce FloatOps.maximumf S (constant S_ .f32 0xFF800000#32) reducesTo_S8x8x4096x4096_S8x8x4096_d3 h_S_)

/-- The heads' values by given scores. -/
def headsOf (v : FVec Ideal S8x4096x512 .bf16) (E : FVec Ideal S8x8x4096x4096 .f32) : FVec Ideal S8x4096x512 .f32 :=
  headsOver v E (Host.reduceAdd E (constant S_ .f32 0x00000000#32) reducesTo_S8x8x4096x4096_S8x8x4096_d3 h_S_)

theorem expsOf_at (S : FVec Ideal S8x8x4096x4096 .f32) (b h : Fin 8) (n x : Fin 4096) :
    expsOf S (ix4 b h n x) = Ideal.exp (S (ix4 b h n x) - Finset.fold max ⊥ (fun y : Fin 4096 => S (ix4 b h n y)) Finset.univ) := by
  unfold expsOf
  rw [expsOff_at, rowMax_at]

theorem headsOf_at (v : FVec Ideal S8x4096x512 .bf16) (E : FVec Ideal S8x8x4096x4096 .f32) (b : Fin 8) (n : Fin 4096) (l : Fin 512) :
    headsOf v E (ix3 b n l) = ∑ x : Fin 4096, v (ix3 b x l) * Ideal.div (E (ix4 b ⟨l.val / 64, by omega⟩ n x)) (∑ y : Fin 4096, E (ix4 b ⟨l.val / 64, by omega⟩ n y)) := by
  unfold headsOf
  rw [headsOver_at, rowSum_at]

/-- The attention of scores that are a real number near their token and minus infinity elsewhere. -/
theorem attn_any (v : FVec Ideal S8x4096x512 .bf16) (S : FVec Ideal S8x8x4096x4096 .f32) (q k : S8x4096x512.Idx → ℝ) (rpb : S1x8x15x31.Idx → ℝ)
    (hS : ∀ (b h : Fin 8) (n x : Fin 4096), S (ix4 b h n x) = if Near n.val x.val then ((sc q k rpb b h n.val n.isLt x * Real.log 2 : ℝ) : EReal) else ⊥)
    (b : Fin 8) (n : Fin 4096) (l : Fin 512) : headsOf v (expsOf S) (ix3 b n l) = attn q k rpb v b n l := by
  rw [headsOf_at]
  simp only [expsOf_at]
  exact Cert.Soft.baseE (fun x : Fin 4096 => Near n.val x.val) (fun x : Fin 4096 => S (ix4 b ⟨l.val / 64, by omega⟩ n x)) (sc q k rpb b ⟨l.val / 64, by omega⟩ n.val n.isLt)
    (fun x => hS b _ n x) ⟨n, near_self n⟩ (fun x : Fin 4096 => v (ix3 b x l))

end Cert.ReferenceIdeal.Value

end
-- ==== Proof.RefPool.lean ====
module

public import Idealize.ShloMosaic.Lib.Pointwise
public import proofs.«01_k».proof.Proof.RefVal
public import proofs.«01_k».proof.Proof.MixOut

/-!
The reference's pooled tokens, read at an index: of each group of lanes the mean of a window less the token itself,
times the group's weights.
-/

@[expose] public section

set_option maxRecDepth 16384

noncomputable section

namespace Cert.ReferenceIdeal.Value

open Idealize.ShloMosaic Idealize.ShloMosaic.TcCoe Idealize.ShloMosaic.Tactic
open Cert.ReferenceIdeal.Gen
open Cert.KernelIdeal.Mix (winSum cnt poolTok cnt_pos)

/-- A window's first token, as a word. -/
def loWord (h : BitVec 32) : IVec S4096 32 :=
  maxsi (subi (iotaInDim S4096 32 0) (broadcastInDim S4096 ![] bcast_S_S4096 (constantI S_ 32 h))) (broadcastInDim S4096 ![] bcast_S_S4096 (constantI S_ 32 0#32))

/-- The token after a window's last, as a word. -/
def hiWord (h w : BitVec 32) : IVec S4096 32 :=
  minsi (addi (subi (iotaInDim S4096 32 0) (broadcastInDim S4096 ![] bcast_S_S4096 (constantI S_ 32 h))) (broadcastInDim S4096 ![] bcast_S_S4096 (constantI S_ 32 w))) (broadcastInDim S4096 ![] bcast_S_S4096 (constantI S_ 32 4096#32))

/-- One group's means less their tokens. -/
def meanOf (u : FVec Ideal S8x4096x128 .f32) (lo hi : IVec S4096 32) : FVec Ideal S8x4096x128 .f32 :=
  subf (Host.divf (transpose S8x4096x128 [0, 2, 1] (Host.dotGeneral dot_S8x4096x128_S4096x4096_S8x128x4096_1_1_02_0_n_n none u (select (andi (cmpi .sge (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 lo))) (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 hi)))) (broadcastInDim S4096x4096 ![] bcast_S_S4096x4096 (constant S_ .f32 0x3F800000#32)) (broadcastInDim S4096x4096 ![] bcast_S_S4096x4096 (constant S_ .f32 0x00000000#32)))) transposes_S8x128x4096_S8x4096x128_0_2_1) (broadcastInDim S8x4096x128 ![0, 1, 2] bcast_S1x4096x1_S8x4096x128_0_1_2 (broadcastInDim S1x4096x1 ![1] bcast_S4096_S1x4096x1_1 (sitofp .f32 (subi hi lo))))) u

theorem lo_at (g : Fin 4) (n : Fin 4096) : loWord (BitVec.ofNat 32 (2 ^ g.val)) (ix1 n) = BitVec.ofNat 32 (n.val - 2 ^ g.val) := by
  pointwise [loWord]
  revert n g; decide +kernel

theorem hi_at (g : Fin 4) (n : Fin 4096) :
    hiWord (BitVec.ofNat 32 (2 ^ g.val)) (BitVec.ofNat 32 (2 * 2 ^ g.val)) (ix1 n) = BitVec.ofNat 32 (min (n.val + 2 ^ g.val) 4096) := by
  pointwise [hiWord]
  revert n g; decide +kernel

theorem toInt_small (n : ℕ) (hn : n < 5000) : (BitVec.ofNat 32 n).toInt = (n : ℤ) := by
  rw [BitVec.toInt_eq_toNat_of_lt] <;> simp only [BitVec.toNat_ofNat] <;> omega

/-- A token lies in the window. -/
theorem in_window (a b s : ℕ) (ha : a < 5000) (hb : b < 5000) (hs : s < 5000) (A B : EReal) :
    Scalar.select (IntOp.andi (IntOp.cmpi .sge (BitVec.ofNat 32 s) (BitVec.ofNat 32 a)) (IntOp.cmpi .slt (BitVec.ofNat 32 s) (BitVec.ofNat 32 b))) A B
      = if a ≤ s ∧ s < b then A else B := by
  simp only [IntOp.cmpi, BitVec.sle, BitVec.slt, toInt_small a ha, toInt_small b hb, toInt_small s hs, Nat.cast_le, Nat.cast_lt]
  by_cases h1 : a ≤ s <;> by_cases h2 : s < b <;> simp [h1, h2, IntOp.andi, Scalar.select]

theorem sub_word (a b : ℕ) (hab : a ≤ b) (hb : b < 5000) : IntOp.subi (BitVec.ofNat 32 b) (BitVec.ofNat 32 a) = BitVec.ofNat 32 (b - a) := by
  unfold IntOp.subi
  apply BitVec.eq_of_toNat_eq
  simp only [BitVec.toNat_sub, BitVec.toNat_ofNat]
  omega

/-- A group's mean less its token, the window `h` tokens to either side. -/
theorem mean_at (u : FVec Ideal S8x4096x128 .f32) (f : S8x4096x128.Idx → ℝ) (hf : ∀ i, u i = (f i : EReal)) (lo hi : IVec S4096 32) (h : ℕ) (h0 : 0 < h) (h8 : h ≤ 8)
    (hlo : ∀ n : Fin 4096, lo (ix1 n) = BitVec.ofNat 32 (n.val - h)) (hhi : ∀ n : Fin 4096, hi (ix1 n) = BitVec.ofNat 32 (min (n.val + h) 4096))
    (b : Fin 8) (n : Fin 4096) (l : Fin 128) :
    meanOf u lo hi (ix3 b n l) = (poolTok (fun s => f (ix3 b s l)) h n : EReal) := by
  pointwise [meanOf, hlo, hhi, hf]
  rw [sub_word _ _ (by omega) (by omega)]
  have hs : (FloatOps.sitofp (F := Ideal) .f32 (BitVec.ofNat 32 (min (n.val + h) 4096 - (n.val - h))) : EReal) = ((cnt h n.val : ℝ) : EReal) := by
    show (((BitVec.ofNat 32 (min (n.val + h) 4096 - (n.val - h))).toInt : ℝ) : EReal) = _
    rw [toInt_small _ (by omega)]
    rfl
  have hw : ∀ x : Fin 4096, Scalar.select (IntOp.andi (IntOp.cmpi .sge (BitVec.ofNat 32 x.val) (BitVec.ofNat 32 (n.val - h))) (IntOp.cmpi .slt (BitVec.ofNat 32 x.val) (BitVec.ofNat 32 (min (n.val + h) 4096))))
      (f (ix3 b x l) : EReal) 0 = ((if n.val ≤ x.val + h ∧ x.val < n.val + h then f (ix3 b x l) else 0 : ℝ) : EReal) := fun x => by
    rw [in_window _ _ _ (by omega) (by omega) (by omega)]
    by_cases hx : n.val ≤ x.val + h ∧ x.val < n.val + h
    · rw [if_pos hx, if_pos (by omega)]
    · rw [if_neg hx, if_neg (by omega)]; rfl
  rw [hs, Finset.sum_congr rfl fun x _ => hw x, Cert.Soft.sum_coe, Ideal.div_coe (by exact_mod_cast cnt_pos h n.val h0 n.isLt), ← EReal.coe_mul, one_div, ← EReal.coe_sub]
  rfl

end Cert.ReferenceIdeal.Value

end
-- ==== Proof.RefOut.lean ====
module

public import Idealize.ShloMosaic.Lib.Pointwise
public import proofs.«01_k».proof.Proof.RefAttn
public import proofs.«01_k».proof.Proof.RefPool

/-!
The reference's result, element by element: the input plus the pooled lanes and the attention's lanes, each times its
rows of the projection.
-/

@[expose] public section

set_option maxRecDepth 16384

noncomputable section

namespace Cert.ReferenceIdeal.Value

open Idealize.ShloMosaic Idealize.ShloMosaic.TcCoe Idealize.ShloMosaic.Tactic
open Cert.ReferenceIdeal.Gen
open Cert.KernelIdeal.Mix (poolTok poolCol elem)

/-- One group's product with its weights. -/
def prodOf (P : FVec Ideal S8x4096x128 .f32) (W : FVec Ideal S1x128x128 .f32) : FVec Ideal S8x4096x128 .f32 :=
  Host.dotGeneral dot_S8x4096x128_S128x128_S8x4096x128_2_0_01_1_n_n none P (shapeCast _ W shapeCasts_S1x128x128_S128x128)

theorem prodOf_at (P : FVec Ideal S8x4096x128 .f32) (W : FVec Ideal S1x128x128 .f32) (b : Fin 8) (n : Fin 4096) (d : Fin 128) :
    prodOf P W (ix3 b n d) = ∑ c : Fin 128, P (ix3 b n c) * W (ix3 0 c d) := by
  pointwise [prodOf]

/-- Four groups of lanes side by side. -/
def side (P : Fin 4 → FVec Ideal S8x4096x128 .f32) : FVec Ideal S8x4096x512 .f32 :=
  concatenate S8x4096x512 2 [⟨S8x4096x128, P 0⟩, ⟨S8x4096x128, P 1⟩, ⟨S8x4096x128, P 2⟩, ⟨S8x4096x128, P 3⟩] concatenates_S8x4096x128_S8x4096x128_S8x4096x128_S8x4096x128_S8x4096x512_d2

theorem side_at (P : Fin 4 → FVec Ideal S8x4096x128 .f32) (b : Fin 8) (n : Fin 4096) (g : Fin 4) (d : Fin 128) :
    side P (ix3 b n ⟨128 * g.val + d.val, by omega⟩) = P g (ix3 b n d) := by
  fin_cases g <;> pointwise [side]
  · rw [dif_neg (show ¬ 256 + d.val < 128 by omega), dif_neg (show ¬ 256 + d.val - 128 < 128 by omega), dif_pos (show 256 + d.val - 128 - 128 < 128 by omega)]
    rw [show (⟨256 + d.val - 128 - 128, by omega⟩ : Fin 128) = d from Fin.ext (by simp only []; omega)]
  · rw [dif_neg (show ¬ 384 + d.val < 128 by omega), dif_neg (show ¬ 384 + d.val - 128 < 128 by omega), dif_neg (show ¬ 384 + d.val - 128 - 128 < 128 by omega)]
    rw [show (⟨384 + d.val - 128 - 128 - 128, by omega⟩ : Fin 128) = d from Fin.ext (by simp only []; omega)]

/-- The last product. -/
def outOf (x : FVec Ideal S8x4096x1024 .f32) (P : FVec Ideal S8x4096x512 .f32) (s : FVec Ideal S1x512 .f32) (A : FVec Ideal S8x4096x512 .f32) (o : FVec Ideal S1x1024x1024 .f32) :
    FVec Ideal S8x4096x1024 .f32 :=
  addf x (Host.dotGeneral dot_S8x4096x1024_S1024x1024_S8x4096x1024_2_0_01_1_n_n none (concatenate S8x4096x1024 2 [⟨S8x4096x512, mulf P (broadcastInDim S8x4096x512 ![0, 1, 2] bcast_S1x1x512_S8x4096x512_0_1_2 (broadcastInDim S1x1x512 ![2] bcast_S512_S1x1x512_2 (shapeCast _ s shapeCasts_S1x512_S512)))⟩, ⟨S8x4096x512, A⟩] concatenates_S8x4096x512_S8x4096x512_S8x4096x1024_d2) (shapeCast _ o shapeCasts_S1x1024x1024_S1024x1024))

theorem outOf_at (x : FVec Ideal S8x4096x1024 .f32) (P : FVec Ideal S8x4096x512 .f32) (s : FVec Ideal S1x512 .f32) (A : FVec Ideal S8x4096x512 .f32) (o : FVec Ideal S1x1024x1024 .f32)
    (b : Fin 8) (n : Fin 4096) (e : Fin 1024) :
    outOf x P s A o (ix3 b n e) = x (ix3 b n e) + (∑ j : Fin 512, (P (ix3 b n j) * s (ix2 0 j)) * o (ix3 0 ⟨j.val, by omega⟩ e)
      + ∑ l : Fin 512, A (ix3 b n l) * o (ix3 0 ⟨512 + l.val, by omega⟩ e)) := by
  pointwise [outOf]

section group
variable (u : S8x4096x512.Idx → ℝ) (w : S1x4x128x128.Idx → EReal)

theorem group_at (g : Fin 4) (ug : FVec Ideal S8x4096x128 .f32) (wg : FVec Ideal S1x128x128 .f32)
    (hug : ∀ (b : Fin 8) (s : Fin 4096) (c : Fin 128), ug (ix3 b s c) = (u (ix3 b s ⟨128 * g.val + c.val, by omega⟩) : EReal))
    (hwg : ∀ c d : Fin 128, wg (ix3 0 c d) = w (ix4 0 g c d)) (b : Fin 8) (n : Fin 4096) (d : Fin 128) :
    prodOf (meanOf ug (loWord (BitVec.ofNat 32 (2 ^ g.val))) (hiWord (BitVec.ofNat 32 (2 ^ g.val)) (BitVec.ofNat 32 (2 * 2 ^ g.val)))) wg (ix3 b n d)
      = ∑ c : Fin 128, (poolCol u b n ⟨128 * g.val + c.val, by omega⟩ : EReal) * w (ix4 0 g c d) := by
  rw [prodOf_at]
  refine Finset.sum_congr rfl fun c _ => congrArg₂ _ ((mean_at ug (fun i => u (ix3 (i 0) (i 1) ⟨128 * g.val + (i 2).val, by have := (i 2).isLt; change (i 2).val < 128 at this; omega⟩))
    (fun i => ?_) _ _ (2 ^ g.val) (by positivity) (by fin_cases g <;> decide) (lo_at g) (hi_at g) b n c).trans ?_) (hwg c d)
  · obtain ⟨b, s, c, rfl⟩ : ∃ (b : Fin 8) (s : Fin 4096) (c : Fin 128), i = ix3 b s c := ⟨i 0, i 1, i 2, eq_ix3 i⟩
    exact hug b s c
  · unfold poolCol
    simp only [show (128 * g.val + c.val) / 128 = g.val by omega]
    rfl
end group

/-- A group's products in either order: the tokens times weights first, or the weights times the projection first. -/
theorem swap {N : ℕ} (p s o : Fin N → ℝ) (w : Fin N → Fin N → ℝ) :
    ∑ d, ((∑ c, (p c : EReal) * (w c d : EReal)) * (s d : EReal)) * (o d : EReal)
      = ∑ c, (p c : EReal) * ∑ d, ((w c d : EReal) * (s d : EReal)) * (o d : EReal) := by
  simp only [← EReal.coe_mul, Cert.Soft.sum_coe]
  congr 1
  simp only [Finset.sum_mul, Finset.mul_sum]
  rw [Finset.sum_comm]
  exact Finset.sum_congr rfl fun c _ => Finset.sum_congr rfl fun d _ => by ring

/-- A sum over the lanes, group by group. -/
theorem tiles (f : Fin 512 → EReal) : ∑ j, f j = ∑ g : Fin 4, ∑ d : Fin 128, f ⟨128 * g.val + d.val, by omega⟩ :=
  (Fin.sum_univ_tiles 4 128 rfl f).trans (Finset.sum_congr rfl fun g _ => Finset.sum_congr rfl fun d _ => congrArg f (Fin.ext (by simp only []; omega)))

variable (V0 : Valuation τ sig (Elt Ideal))

/-- One group's lanes, as the reference computes them. -/
def lanes (g : Fin 4) : FVec Ideal S8x4096x128 .f32 :=
  match g with
  | 0 => prodOf (meanOf (res_main_v10 V0) (res_main_v14 V0) (res_main_v20 V0)) (extractStridedSlice S1x128x128 ![0, 0, 0] (res_main_v7 V0) slices_S4x128x128_S1x128x128_0_0_0)
  | 1 => prodOf (meanOf (res_main_v44 V0) (res_main_v48 V0) (res_main_v54 V0)) (extractStridedSlice S1x128x128 ![1, 0, 0] (res_main_v7 V0) slices_S4x128x128_S1x128x128_1_0_0)
  | 2 => prodOf (meanOf (res_main_v78 V0) (res_main_v82 V0) (res_main_v88 V0)) (extractStridedSlice S1x128x128 ![2, 0, 0] (res_main_v7 V0) slices_S4x128x128_S1x128x128_2_0_0)
  | 3 => prodOf (meanOf (res_main_v112 V0) (res_main_v116 V0) (res_main_v122 V0)) (extractStridedSlice S1x128x128 ![3, 0, 0] (res_main_v7 V0) slices_S4x128x128_S1x128x128_3_0_0)

theorem pool_eq : res_main_v146 V0 = side (lanes V0) := rfl

section values
variable (u q k : S8x4096x512.Idx → ℝ) (rpb : S1x8x15x31.Idx → ℝ) (w : S1x4x128x128.Idx → ℝ) (s : S1x512.Idx → ℝ) (o : Fin 512 → Fin 1024 → ℝ)
  (hu : ∀ i, arg1 V0 i = (u i : EReal)) (hq : ∀ i, arg2 V0 i = (q i : EReal)) (hk : ∀ i, arg3 V0 i = (k i : EReal)) (hr : ∀ i, arg7 V0 i = (rpb i : EReal))
  (hw : ∀ i, arg5 V0 i = (w i : EReal)) (hs : ∀ i, arg6 V0 i = (s i : EReal)) (ho : ∀ j e, arg8 V0 (ix3 0 ⟨j.val, by omega⟩ e) = (o j e : EReal))

include hu in
theorem lanes_at (g : Fin 4) (b : Fin 8) (n : Fin 4096) (d : Fin 128) :
    lanes V0 g (ix3 b n d) = ∑ c : Fin 128, (poolCol u b n ⟨128 * g.val + c.val, by omega⟩ : EReal) * arg5 V0 (ix4 0 g c d) := by
  fin_cases g
  · exact group_at u (arg5 V0) 0 _ _ (fun b s c => by pointwise [res_main_v10, res_main_v0]; exact hu _) (fun c d => by pointwise [res_main_v7]) b n d
  · exact group_at u (arg5 V0) 1 _ _ (fun b s c => by pointwise [res_main_v44, res_main_v0]; exact hu _) (fun c d => by pointwise [res_main_v7]) b n d
  · exact group_at u (arg5 V0) 2 _ _ (fun b s c => by pointwise [res_main_v78, res_main_v0]; exact hu _) (fun c d => by pointwise [res_main_v7]) b n d
  · exact group_at u (arg5 V0) 3 _ _ (fun b s c => by pointwise [res_main_v112, res_main_v0]; exact hu _) (fun c d => by pointwise [res_main_v7]) b n d

include hu hw hs ho in
/-- The pooled lanes times the projection's upper rows, in the kernel's order of the products. -/
theorem pool_sum (b : Fin 8) (n : Fin 4096) (e : Fin 1024) :
    ∑ j : Fin 512, (side (lanes V0) (ix3 b n j) * arg6 V0 (ix2 0 j)) * arg8 V0 (ix3 0 ⟨j.val, by omega⟩ e)
      = ∑ g : Fin 4, ∑ c : Fin 128, (poolCol u b n ⟨128 * g.val + c.val, by omega⟩ : EReal)
          * ∑ d : Fin 128, (arg5 V0 (ix4 0 g c d) * arg6 V0 (ix2 0 ⟨128 * g.val + d.val, by omega⟩)) * arg8 V0 (ix3 0 ⟨128 * g.val + d.val, by omega⟩ e) := by
  rw [tiles fun j : Fin 512 => (side (lanes V0) (ix3 b n j) * arg6 V0 (ix2 0 j)) * arg8 V0 (ix3 0 ⟨j.val, by omega⟩ e)]
  refine Finset.sum_congr rfl fun g _ => ?_
  have key := swap (fun c : Fin 128 => poolCol u b n ⟨128 * g.val + c.val, by omega⟩) (fun d : Fin 128 => s (ix2 0 ⟨128 * g.val + d.val, by omega⟩))
    (fun d : Fin 128 => o ⟨128 * g.val + d.val, by omega⟩ e) (fun c d => w (ix4 0 g c d))
  refine Eq.trans (Finset.sum_congr rfl fun d _ => ?_) (key.trans (Finset.sum_congr rfl fun c _ => congrArg₂ _ rfl (Finset.sum_congr rfl fun d _ => ?_)))
  · rw [side_at, lanes_at V0 u hu, hs, Finset.sum_congr rfl fun c _ => congrArg₂ _ rfl (hw (ix4 0 g c d))]
    exact congrArg₂ _ rfl (ho ⟨128 * g.val + d.val, by omega⟩ e)
  · rw [hw, hs]
    exact congrArg₂ _ rfl (ho ⟨128 * g.val + d.val, by omega⟩ e).symm

include hu hw hs ho hq hk hr in
/-- The reference's result is the kernel's, when the folded weights `W` are the products of the weights, the scales and the projection. -/
theorem ref_at (W : Cert.KernelIdeal.S512x1024.Idx → EReal)
    (hW : ∀ (g : Fin 4) (c : Fin 128) (e : Fin 1024), W (ix2 ⟨128 * g.val + c.val, by omega⟩ e)
      = ∑ d : Fin 128, (arg5 V0 (ix4 0 g c d) * arg6 V0 (ix2 0 ⟨128 * g.val + d.val, by omega⟩)) * arg8 V0 (ix3 0 ⟨128 * g.val + d.val, by omega⟩ e))
    (b : Fin 8) (n : Fin 4096) (e : Fin 1024) :
    outOf (arg0 V0) (res_main_v146 V0) (arg6 V0) (headsOf (arg4 V0) (res_main_v236 V0)) (arg8 V0) (ix3 b n e)
      = elem (arg0 V0) u q k (arg4 V0) W rpb (arg8 V0) b n e := by
  rw [outOf_at, pool_eq, pool_sum V0 u w s o hu hw hs ho]
  unfold elem
  rw [add_assoc, tiles fun j : Fin 512 => (poolCol u b n j : EReal) * W (ix2 j e)]
  refine congrArg₂ _ rfl (congrArg₂ _ (Finset.sum_congr rfl fun g _ => Finset.sum_congr rfl fun c _ => congrArg₂ _ rfl (hW g c e).symm) (Finset.sum_congr rfl fun l _ => congrArg₂ _ ?_ rfl))
  exact attn_any (arg4 V0) (res_main_v229 V0) q k rpb (score_at V0 q k rpb hq hk hr) b n l
end values

end Cert.ReferenceIdeal.Value

end
-- ==== Proof.Finite.lean ====
module

public import Idealize.ShloMosaic.Lib.Pointwise
public import proofs.«01_k».proof.Pre_finite

/-!
The precondition read: the arrays it names hold real numbers.
-/

@[expose] public section

noncomputable section

namespace Cert.Finite

open Idealize.ShloMosaic Idealize.ShloMosaic.TcCoe Idealize.ShloMosaic.Tactic

theorem inf32 : Ideal.ofBits .f32 0x7F800000#32 = ⊤ := by simp [Ideal.ofBits, Ideal.ieee]
theorem inf16 : Ideal.ofBits .bf16 0x7F80#16 = ⊤ := by simp [Ideal.ofBits, Ideal.ieee]

/-- Elements of absolute value below infinity are real numbers. -/
theorem real_of {s : Shape} {φ : FTy} (a b : FVec Ideal s φ) (hb : ∀ i, b i = (⊤ : EReal)) (h : cmpf .olt (Host.absf a) b = fun _ => 1#1) :
    ∃ f : s.Idx → ℝ, ∀ i, a i = (f i : EReal) := by
  refine ⟨fun i => EReal.toReal (a i), fun i => ?_⟩
  have hi := congrFun h i
  pointwise at hi
  rw [hb] at hi
  have hlt : (FloatOps.absf (a i) : EReal) < ⊤ := by
    by_contra hn
    rw [decide_eq_false hn] at hi
    exact absurd hi (by decide)
  change max (a i : EReal) (-(a i)) < ⊤ at hlt
  have h1 := max_lt_iff.mp hlt
  refine (EReal.coe_toReal (ne_of_lt h1.1) fun hbot => ?_).symm
  rw [hbot] at h1
  exact absurd h1.2 (by simp)

variable [Cert.Pre_finite.Facts]

section args
variable (x : FVec Ideal Cert.Pre_finite.S8x4096x1024 .f32) (u q k v : FVec Ideal Cert.Pre_finite.S8x4096x512 .bf16) (w : FVec Ideal Cert.Pre_finite.S1x4x128x128 .f32)
  (s : FVec Ideal Cert.Pre_finite.S1x512 .f32) (r : FVec Ideal Cert.Pre_finite.S1x8x15x31 .f32) (o : FVec Ideal Cert.Pre_finite.S1x1024x1024 .f32)

theorem u_real (h : (Cert.Pre_finite.fn x u q k v w s r o).1 = fun _ => 1#1) : ∃ f : Cert.Pre_finite.S8x4096x512.Idx → ℝ, ∀ i, u i = (f i : EReal) :=
  real_of u _ (fun _ => inf16) h
theorem q_real (h : (Cert.Pre_finite.fn x u q k v w s r o).2.1 = fun _ => 1#1) : ∃ f : Cert.Pre_finite.S8x4096x512.Idx → ℝ, ∀ i, q i = (f i : EReal) :=
  real_of q _ (fun _ => inf16) h
theorem k_real (h : (Cert.Pre_finite.fn x u q k v w s r o).2.2.1 = fun _ => 1#1) : ∃ f : Cert.Pre_finite.S8x4096x512.Idx → ℝ, ∀ i, k i = (f i : EReal) :=
  real_of k _ (fun _ => inf16) h
theorem w_real (h : (Cert.Pre_finite.fn x u q k v w s r o).2.2.2.1 = fun _ => 1#1) : ∃ f : Cert.Pre_finite.S1x4x128x128.Idx → ℝ, ∀ i, w i = (f i : EReal) :=
  real_of w _ (fun _ => inf32) h
theorem s_real (h : (Cert.Pre_finite.fn x u q k v w s r o).2.2.2.2.1 = fun _ => 1#1) : ∃ f : Cert.Pre_finite.S1x512.Idx → ℝ, ∀ i, s i = (f i : EReal) :=
  real_of s _ (fun _ => inf32) h
theorem r_real (h : (Cert.Pre_finite.fn x u q k v w s r o).2.2.2.2.2.1 = fun _ => 1#1) : ∃ f : Cert.Pre_finite.S1x8x15x31.Idx → ℝ, ∀ i, r i = (f i : EReal) :=
  real_of r _ (fun _ => inf32) h
/-- The projection's upper rows. -/
def upper (o : FVec Ideal Cert.Pre_finite.S1x1024x1024 .f32) : FVec Ideal Cert.Pre_finite.S1x512x1024 .f32 :=
  extractStridedSlice Cert.Pre_finite.S1x512x1024 ![0, 0, 0] o Cert.Pre_finite.Facts.slices_S1x1024x1024_S1x512x1024_0_0_0

theorem o_real (h : (Cert.Pre_finite.fn x u q k v w s r o).2.2.2.2.2.2 = fun _ => 1#1) :
    ∃ f : Fin 512 → Fin 1024 → ℝ, ∀ (j : Fin 512) (e : Fin 1024), o (ix3 0 ⟨j.val, by omega⟩ e) = (f j e : EReal) := by
  obtain ⟨f, hf⟩ := real_of (upper o) _ (fun _ => inf32) h
  refine ⟨fun j e => f (ix3 0 j e), fun j e => ?_⟩
  have hj := hf (ix3 0 j e)
  pointwise [upper] at hj
  exact hj
end args

end Cert.Finite

end
-- ==== Proof.MlpRow.lean ====
/-
  The block `cc0_mlp` computes, read row by row at the ideal instance: every row of the result is one function
  `MlpRow.out` of that row of the tokens and of the weights.
-/
module

public import Idealize.ShloMosaic.Lib.Pointwise
public import proofs.«01_k».proof.Proof.Gen.MlpIdeal.Frame

@[expose] public section

set_option maxRecDepth 16384

noncomputable section

open Idealize.ShloMosaic Idealize.ShloMosaic.TcCoe

namespace Cert.MlpIdeal.Row

open Cert.MlpIdeal Cert.MlpIdeal.Gen

/-- The reciprocal root mean square of a row. -/
def inv (x : Fin 1024 → EReal) : EReal :=
  Ideal.rsqrt (Ideal.div (∑ k, x k * x k) (Ideal.ofBits .f32 0x44800000#32) + Ideal.ofBits .f32 0x358637BD#32)

/-- The squared rectifier. -/
def sq (p : EReal) : EReal := max p 0 * max p 0

/-- One hidden value as the kernel computes it: `y` the row times the gain, `u` the column of the up projection,
    `s` the row's reciprocal root mean square, multiplied in after the contraction. -/
def hid (y u : Fin 1024 → EReal) (s : EReal) : EReal := sq ((∑ d, y d * u d) * s)

/-- The last norm of a row. -/
def last (a : Fin 1024 → EReal) (fg : Fin 1024 → EReal) (e : Fin 1024) : EReal := a e * inv a * fg e

theorem pay2_at (v0 : FVec Ideal S1x1024x1024 .f32) (r e : Fin 1024) :
    k0_pay2 (F := Ideal) v0 (ix2 r e) = v0 (ix3 0 r e) := by
  pointwise [k0_pay2]

theorem pay3_at (v0 : FVec Ideal S1x1024x1024 .f32) (r : Fin 1024) :
    k0_pay3 (F := Ideal) v0 (ix2 r 0) = inv fun k => v0 (ix3 0 r k) := by
  pointwise [k0_pay3, k0_pay2, inv]

theorem pay4_at (v0 : FVec Ideal S1x1024x1024 .f32) (g : FVec Ideal S1x1024 .f32) (r d : Fin 1024) :
    k0_pay4 (F := Ideal) v0 g (ix2 r d) = v0 (ix3 0 r d) * g (ix2 0 d) := by
  pointwise [k0_pay4, k0_pay2]

theorem pay5_at (v0 : FVec Ideal S1x1024x1024 .f32) (g : FVec Ideal S1x1024 .f32)
    (u : FVec Ideal S1024x1024 .bf16) (r f : Fin 1024) :
    k0_pay5 (F := Ideal) v0 g u u u u (ix2 r f)
      = hid (fun d => v0 (ix3 0 r d) * g (ix2 0 d)) (fun d => u (ix2 d f)) (inv fun k => v0 (ix3 0 r k)) := by
  pointwise [k0_pay5, pay4_at, pay3_at]
  by_cases h1 : (r : ℕ) < 256
  · simp only [dif_pos h1]; rfl
  by_cases h2 : (r : ℕ) - 256 < 256
  · have hr : 256 + ((r : ℕ) - 256) = r := by omega
    simp only [dif_neg h1, dif_pos h2, hr]; rfl
  by_cases h3 : (r : ℕ) - 256 - 256 < 256
  · have hr : 512 + ((r : ℕ) - 256 - 256) = r := by omega
    simp only [dif_neg h1, dif_neg h2, dif_pos h3, hr]; rfl
  · have hr : 768 + ((r : ℕ) - 256 - 256 - 256) = r := by omega
    simp only [dif_neg h1, dif_neg h2, dif_neg h3, hr]; rfl

theorem pay6_at (v1 : FVec Ideal S1024x1024 .f32) (v9 : FVec Ideal S1024x1 .f32) (v14 : FVec Ideal S1024x1024 .bf16)
    (v36 : FVec Ideal S1024x1024 .f32) (d0 u1 d1 u2 d2 : FVec Ideal S1024x1024 .bf16) (r e : Fin 1024) :
    k0_pay6 (F := Ideal) v1 v9 v14 v36 d0 u1 d1 u2 d2 (ix2 r e)
      = v1 (ix2 r e) + (∑ f : Fin 1024, v36 (ix2 r f) * d0 (ix2 f e))
        + (∑ f : Fin 1024, hid (fun d => v14 (ix2 r d)) (fun d => u1 (ix2 d f)) (v9 (ix2 r 0)) * d1 (ix2 f e))
        + (∑ f : Fin 1024, hid (fun d => v14 (ix2 r d)) (fun d => u2 (ix2 d f)) (v9 (ix2 r 0)) * d2 (ix2 f e)) := by
  pointwise [k0_pay6, hid, sq]

/-- A row after its fourth chunk, from what it held after three. -/
def fin (y : Fin 1024 → EReal) (s : EReal) (a : Fin 1024 → EReal) (u d : FVec Ideal S1024x1024 .bf16)
    (e : Fin 1024) : EReal :=
  a e + ∑ f : Fin 1024, hid y (fun k => u (ix2 k f)) s * d (ix2 f e)

section blocks
variable (v9 : FVec Ideal S1024x1 .f32) (v14 : FVec Ideal S1024x1024 .bf16) (v67 : FVec Ideal S1024x1024 .f32)
  (u d : FVec Ideal S1024x1024 .bf16) (fg : FVec Ideal S1x1024 .f32)

/-- What a store writes for row `R` of the block. -/
abbrev rowOut (R : Fin 1024) (e : Fin 1024) : EReal :=
  last (fin (fun k => v14 (ix2 R k)) (v9 (ix2 R 0)) (fun e => v67 (ix2 R e)) u d) (fun e => fg (ix2 0 e)) e

theorem block0 (r : Fin 256) (e : Fin 1024) :
    k0_pay9 (F := Ideal) v67 (k0_pay7 v9 v14 u) (k0_pay8 (F := Ideal)) d fg (ix3 0 r e)
      = rowOut v9 v14 v67 u d fg ⟨r.val, by omega⟩ e := by
  pointwise [k0_pay9, k0_pay7, k0_pay8, rowOut, last, inv, fin, hid, sq]

theorem block1 (r : Fin 256) (e : Fin 1024) :
    k0_pay11 (F := Ideal) (k0_pay10 v9 v14 v67 u d) fg (ix3 0 r e)
      = rowOut v9 v14 v67 u d fg ⟨256 + r.val, by omega⟩ e := by
  pointwise [k0_pay11, k0_pay10, rowOut, last, inv, fin, hid, sq]

theorem block2 (r : Fin 256) (e : Fin 1024) :
    k0_pay14 (F := Ideal) (k0_pay12 v9 v14 v67 u d) (k0_pay13 v9 v14 v67 u d) fg (ix3 0 r e)
      = rowOut v9 v14 v67 u d fg ⟨512 + r.val, by omega⟩ e := by
  pointwise [k0_pay14, k0_pay12, k0_pay13, rowOut, last, inv, fin, hid, sq]

theorem block3 (r : Fin 256) (e : Fin 1024) :
    k0_pay1 (F := Ideal) (k0_pay15 v9 v14 v67 u d fg) (ix3 0 r e)
      = rowOut v9 v14 v67 u d fg ⟨768 + r.val, by omega⟩ e := by
  pointwise [k0_pay1, k0_pay15, rowOut, last, inv, fin, hid, sq]

end blocks

end Cert.MlpIdeal.Row

end
-- ==== Proof.MlpOut.lean ====
/-
  What one grid point of `cc0_mlp` leaves in its result block, at the ideal instance: row `R` is `Row.out` of the
  block's row `R`. The four chunks of the hidden width become one sum.
-/
module

public import Idealize.ShloMosaic.Lib.Pipeline.ValueKit
public import Idealize.ShloMosaic.Lib.Claim
public import proofs.«01_k».proof.Proof.MlpRow

@[expose] public section

set_option maxRecDepth 16384

noncomputable section

open Idealize.ShloMosaic Idealize.ShloMosaic.TcCoe

namespace Cert.MlpIdeal.Row

open Cert.MlpIdeal Cert.MlpIdeal.Gen

/-- A row of the tokens after the multilayer perceptron's residual. -/
def acc (x g : Fin 1024 → EReal) (u : Fin 1024 → Fin 4096 → EReal) (dn : Fin 4096 → Fin 1024 → EReal)
    (e : Fin 1024) : EReal :=
  x e + ∑ f, hid (fun d => x d * g d) (fun d => u d f) (inv x) * dn f e

/-- A row of the result. -/
def out (x g : Fin 1024 → EReal) (u : Fin 1024 → Fin 4096 → EReal) (dn : Fin 4096 → Fin 1024 → EReal)
    (fg : Fin 1024 → EReal) (e : Fin 1024) : EReal :=
  last (acc x g u dn) fg e

/-- A sum over the hidden width, added chunk by chunk to what is there. -/
theorem chunks (a : EReal) (f : Fin 4096 → EReal) :
    a + (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩)
      = a + ∑ k, f k := by
  rw [Fin.sum_univ_tiles 4 1024 rfl f, Fin.sum_univ_four]
  simp only [add_assoc]
  refine congrArg _ (congrArg₂ _ ?_ (congrArg₂ _ ?_ (congrArg₂ _ ?_ ?_)))
  all_goals exact Finset.sum_congr rfl fun k _ => congrArg f (Fin.ext (by simp))

section
variable (x0 : FVec Ideal S1x1024x1024 .f32) (x1 : FVec Ideal S1x1024 .f32) (x2 : FVec Ideal S1024x4096 .bf16)
  (x3 : FVec Ideal S4096x1024 .bf16) (x4 : FVec Ideal S1x1024 .f32)

abbrev blockOut (R e : Fin 1024) : EReal :=
  out (fun d => x0 (ix3 0 R d)) (fun d => x1 (ix2 0 d)) (fun d f => x2 (ix2 d f)) (fun f e => x3 (ix2 f e))
    (fun e => x4 (ix2 0 e)) e

theorem pay16_at (R : Fin 1024) : k0_pay16 (F := Ideal) x0 x1 x2 x3 x4 (ix2 R 0) = inv fun d => x0 (ix3 0 R d) := by
  unfold k0_pay16
  rw [pay3_at]
  pointwise

theorem pay17_at (R d : Fin 1024) :
    k0_pay17 (F := Ideal) x0 x1 x2 x3 x4 (ix2 R d) = x0 (ix3 0 R d) * x1 (ix2 0 d) := by
  unfold k0_pay17
  rw [pay4_at]
  pointwise

/-- The row after three of the four chunks. -/
theorem rowOut_eq (R e : Fin 1024) :
    rowOut (k0_pay16 (F := Ideal) x0 x1 x2 x3 x4) (k0_pay17 x0 x1 x2 x3 x4) (k0_pay18 x0 x1 x2 x3 x4)
        (View.ld (Val := Elt Ideal) (e' := .bf16) x2 r0_8) (View.ld (Val := Elt Ideal) (e' := .bf16) x3 r0_9) (View.ld (Val := Elt Ideal) (e' := .f32) x4 r0_1) R e
      = blockOut x0 x1 x2 x3 x4 R e := by
  have hA : fin (fun k => k0_pay17 (F := Ideal) x0 x1 x2 x3 x4 (ix2 R k)) (k0_pay16 (F := Ideal) x0 x1 x2 x3 x4 (ix2 R 0))
      (fun e => k0_pay18 (F := Ideal) x0 x1 x2 x3 x4 (ix2 R e)) (View.ld (Val := Elt Ideal) (e' := .bf16) x2 r0_8) (View.ld (Val := Elt Ideal) (e' := .bf16) x3 r0_9)
      = acc (fun d => x0 (ix3 0 R d)) (fun d => x1 (ix2 0 d)) (fun d f => x2 (ix2 d f)) (fun f e => x3 (ix2 f e)) := by
    funext e
    unfold fin acc k0_pay18
    simp only [pay6_at, pay5_at, pay2_at, pay16_at, pay17_at]
    refine Eq.trans ?_ (chunks _ _)
    pointwise
  unfold rowOut blockOut out
  rw [hA]
  pointwise [last]

theorem out_at (R e : Fin 1024) :
    out0_5 (F := Ideal) x0 x1 x2 x3 x4 (ix3 0 R e) = blockOut x0 x1 x2 x3 x4 R e := by
  rw [← rowOut_eq]
  unfold out0_5
  canon_tiles x h
  all_goals
    obtain ⟨a, r, e', rfl⟩ : ∃ (a : Fin 1) (r : Fin 256) (e' : Fin 1024), x = ix3 a r e' := ⟨x 0, x 1, x 2, eq_ix3 x⟩
    obtain rfl : a = 0 := Subsingleton.elim _ _
    obtain rfl : e = e' := Fin.ext h2
  · rw [show R = ⟨768 + r.val, by omega⟩ from Fin.ext h1]
    exact block3 _ _ _ _ _ _ r e
  · rw [show R = ⟨512 + r.val, by omega⟩ from Fin.ext h1]
    exact block2 _ _ _ _ _ _ r e
  · rw [show R = ⟨256 + r.val, by omega⟩ from Fin.ext h1]
    exact block1 _ _ _ _ _ _ r e
  · rw [show R = ⟨r.val, by omega⟩ from Fin.ext h1]
    exact block0 _ _ _ _ _ _ r e
end

variable (m : (ℓ : Loc nD τ sig) → Buf (Elt Ideal) ℓ)

theorem idx_val : ∀ t : Fin cfg0.N, win0_0.index t = ![t.val / 4, t.val % 4, 0] ∧ win0_1.index t = ![0, 0]
    ∧ win0_2.index t = ![0, 0] ∧ win0_3.index t = ![0, 0] ∧ win0_4.index t = ![0, 0]
    ∧ win0_5.index t = ![t.val / 4, t.val % 4, 0] :=
  (by decide +kernel : ∀ t : Fin grid0.N, _)

/-- The result, element by element, from the argument arrays. -/
def RES (x : FVec Ideal S8x4096x1024 .f32) (g : FVec Ideal S1x1024 .f32) (u : FVec Ideal S1x1024x4096 .f32)
    (dn : FVec Ideal S1x4096x1024 .f32) (fg : FVec Ideal S1024 .f32) : FVec Ideal S8x4096x1024 .f32 := fun j =>
  out (fun d => x (ix3 (j 0) (j 1) d)) (fun d => g (ix2 0 d)) (fun d f => u (ix3 0 d f)) (fun f e => dn (ix3 0 f e))
    (fun e => fg (ix1 e)) (j 2)

theorem point (c : Dev nD) (t : Fin cfg0.N) (y : S1x1024x1024.Idx) :
    out0_5 (F := Ideal) (iblk m c 0 t) (iblk m c 1 t) (iblk m c 2 t) (iblk m c 3 t) (iblk m c 4 t) y
      = RES (m ((c : Thread nD τ).loc main_arg0)) (m ((c : Thread nD τ).loc main_arg1))
          (m ((c : Thread nD τ).loc main_arg2)) (m ((c : Thread nD τ).loc main_arg3))
          (m ((c : Thread nD τ).loc main_arg4)) (((cfg0.win 5).blk t).view.emb y) := by
  obtain ⟨a, R, e, rfl⟩ : ∃ (a : Fin 1) (R : Fin 1024) (e : Fin 1024), y = ix3 a R e := ⟨y 0, y 1, y 2, eq_ix3 y⟩
  obtain rfl : a = 0 := Subsingleton.elim _ _
  refine (out_at _ _ _ _ _ R e).trans ?_
  unfold blockOut RES
  congr 1
  · funext d; blk_point [iblk, V, idx_val t]
  · funext d; blk_point [iblk, V, idx_val t]
  · funext d f; blk_point [iblk, V, idx_val t]
  · funext f e; blk_point [iblk, V, idx_val t]
  · funext e; blk_point [iblk, V, idx_val t]
  · refine Fin.ext ?_
    blk_simp [idx_val t]

theorem final (c : Dev nD) : (dats m 0 c).arrAt 5 (cfgs 0).N
    = RES (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]
  exact point m c t y

end Cert.MlpIdeal.Row

end
-- ==== Proof.MlpMath.lean ====
/-
  The reference's row: the same function of the row, with the reciprocal root mean square multiplied into the tokens
  before the up projection instead of after it. A sum may be multiplied by it on either side because it is a
  nonnegative real number, whatever the tokens are.
-/
module

public import proofs.«01_k».proof.Proof.MlpOut
public import proofs.«01_k».proof.Proof.Gen.MlpRefIdeal.Run

@[expose] public section

set_option maxRecDepth 16384

noncomputable section

open Idealize.ShloMosaic Idealize.ShloMosaic.TcCoe

namespace Cert.MlpIdeal.Row

theorem n_eq : Ideal.ofBits .f32 0x44800000#32 = ((1024 : ℝ) : EReal) := by
  simp [Ideal.ofBits, Ideal.ieee, -EReal.coe_mul]; norm_num

theorem eps_eq : ∃ r : ℝ, 0 < r ∧ Ideal.ofBits .f32 0x358637BD#32 = (r : EReal) := by
  refine ⟨8796093 * 2 ^ (-43 : ℤ), by positivity, ?_⟩
  simp [Ideal.ofBits, Ideal.ieee, -EReal.coe_mul]

theorem self_mul_nonneg (a : EReal) : 0 ≤ a * a := by
  rcases le_total 0 a with h | h
  · exact mul_nonneg h h
  · rw [← neg_mul_neg]
    exact mul_nonneg (EReal.neg_nonneg.2 h) (EReal.neg_nonneg.2 h)

theorem inv_spec (x : Fin 1024 → EReal) : 0 ≤ inv x ∧ inv x ≠ ⊤ := by
  obtain ⟨r, hr, he⟩ := eps_eq
  have hS : 0 ≤ ∑ k, x k * x k := Finset.sum_nonneg fun k _ => self_mul_nonneg (x k)
  unfold inv
  rw [n_eq, he, Ideal.div_coe (by norm_num)]
  generalize (∑ k, x k * x k) = S at hS
  induction S using EReal.rec with
  | bot => exact absurd hS (by simp)
  | top =>
    rw [EReal.top_mul_coe_of_pos (by norm_num), EReal.top_add_coe]
    simp
  | coe s =>
    have hs : 0 ≤ s := EReal.coe_nonneg.1 hS
    rw [← EReal.coe_mul, ← EReal.coe_add, Ideal.rsqrt_coe]
    have hp : 0 < s * (1 / 1024) + r := by positivity
    rw [if_neg hp.not_gt, if_neg hp.ne']
    exact ⟨EReal.coe_nonneg.2 (by positivity), EReal.coe_ne_top _⟩

/-- A finite sum times a nonnegative real. -/
theorem sum_mul_right {ι : Type*} (s : Finset ι) (f : ι → EReal) {a : EReal} (h0 : 0 ≤ a) (ht : a ≠ ⊤) :
    (∑ i ∈ s, f i) * a = ∑ i ∈ s, f i * a := by
  classical
  induction s using Finset.induction_on with
  | empty => simp
  | insert i s hi ih =>
    rw [Finset.sum_insert hi, Finset.sum_insert hi, EReal.right_distrib_of_nonneg_of_ne_top h0 ht, ih]

theorem hid_eq (x g u : Fin 1024 → EReal) :
    hid (fun d => x d * g d) u (inv x) = sq (∑ d, x d * inv x * g d * u d) := by
  unfold hid
  rw [sum_mul_right _ _ (inv_spec x).1 (inv_spec x).2]
  refine congrArg sq (Finset.sum_congr rfl fun d _ => ?_)
  rw [mul_right_comm (x d) (inv x), mul_right_comm (x d * g d)]

end Cert.MlpIdeal.Row

namespace Cert.MlpRefIdeal.Value

open Cert.MlpRefIdeal Cert.MlpRefIdeal.Gen

section
variable (x : FVec Ideal S8x4096x1024 .f32) (g : FVec Ideal S1x1024 .f32) (u : FVec Ideal S1x1024x4096 .f32)
  (dn : FVec Ideal S1x4096x1024 .f32) (fg : FVec Ideal S1024 .f32)

/-- The reciprocal root mean square of every row, over the row. -/
def rinv : FVec Ideal S8x4096x1024 .f32 :=
  broadcastInDim S8x4096x1024 ![0, 1, 2] bcast_S8x4096x1_S8x4096x1024_0_1_2 (Host.rsqrt (addf (Host.divf
    (broadcastInDim S8x4096x1 ![0, 1] bcast_S8x4096_S8x4096x1_0_1
      (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))

/-- The normed tokens. -/
def rnorm : FVec Ideal S8x4096x1024 .f32 :=
  mulf (mulf x (rinv x)) (broadcastInDim S8x4096x1024 ![0, 1, 2] bcast_S1x1x1024_S8x4096x1024_0_1_2
    (broadcastInDim S1x1x1024 ![2] bcast_S1024_S1x1x1024_2 (shapeCast _ g shapeCasts_S1x1024_S1024)))

/-- The rectified hidden values. -/
def rhid : FVec Ideal S8x4096x4096 .f32 :=
  maximumf (Host.dotGeneral dot_S8x4096x1024_S1024x4096_S8x4096x4096_2_0_01_1_n_n none (rnorm x g)
      (shapeCast _ u shapeCasts_S1x1024x4096_S1024x4096 : FVec Ideal S1024x4096 .f32))
    (broadcastInDim S8x4096x4096 ![] bcast_S_S8x4096x4096 (constant S_ .f32 0x00000000#32))

/-- The tokens after the residual. -/
def racc : FVec Ideal S8x4096x1024 .f32 :=
  addf x (Host.dotGeneral dot_S8x4096x4096_S4096x1024_S8x4096x1024_2_0_01_1_n_n none
    (mulf (rhid x g u) (rhid x g u)) (shapeCast _ dn shapeCasts_S1x4096x1024_S4096x1024 : FVec Ideal S4096x1024 .f32))

/-- The result. -/
def rout : FVec Ideal S8x4096x1024 .f32 :=
  mulf (mulf (racc x g u dn) (rinv (racc x g u dn)))
    (broadcastInDim S8x4096x1024 ![0, 1, 2] bcast_S1x1x1024_S8x4096x1024_0_1_2
      (broadcastInDim S1x1x1024 ![2] bcast_S1024_S1x1x1024_2 fg))

theorem rinv_at (b : Fin 8) (r : Fin 4096) (d : Fin 1024) :
    rinv x (ix3 b r d) = Cert.MlpIdeal.Row.inv fun k => x (ix3 b r k) := by
  pointwise [rinv, Cert.MlpIdeal.Row.inv]

theorem rnorm_at (b : Fin 8) (r : Fin 4096) (d : Fin 1024) :
    rnorm x g (ix3 b r d) = x (ix3 b r d) * (Cert.MlpIdeal.Row.inv fun k => x (ix3 b r k)) * g (ix2 0 d) := by
  pointwise [rnorm, rinv_at]

theorem rhid_at (b : Fin 8) (r f : Fin 4096) :
    rhid x g u (ix3 b r f) = max (∑ d : Fin 1024, x (ix3 b r d) * (Cert.MlpIdeal.Row.inv fun k => x (ix3 b r k))
      * g (ix2 0 d) * u (ix3 0 d f)) 0 := by
  pointwise [rhid, rnorm_at]

theorem racc_at (b : Fin 8) (r : Fin 4096) (e : Fin 1024) :
    racc x g u dn (ix3 b r e) = Cert.MlpIdeal.Row.acc (fun d => x (ix3 b r d)) (fun d => g (ix2 0 d))
      (fun d f => u (ix3 0 d f)) (fun f e => dn (ix3 0 f e)) e := by
  unfold Cert.MlpIdeal.Row.acc
  simp only [Cert.MlpIdeal.Row.hid_eq]
  pointwise [racc, rhid_at, Cert.MlpIdeal.Row.sq]

theorem rout_eq : rout x g u dn fg = Cert.MlpIdeal.Row.RES x g u dn fg := by
  funext j
  idx_vars j
  unfold Cert.MlpIdeal.Row.RES Cert.MlpIdeal.Row.out Cert.MlpIdeal.Row.last
  pointwise [rout, rinv_at, racc_at]
end

variable (m : (ℓ : Loc nD τ sig) → Buf (Elt Ideal) ℓ)

theorem res_eq (c : Dev nD) : (res_out0 m c : FVec Ideal S8x4096x1024 .f32)
    = Cert.MlpIdeal.Row.RES (m ((c : Thread nD τ).loc main_arg0)) (m ((c : Thread nD τ).loc main_arg1))
        (m ((c : Thread nD τ).loc main_arg2)) (m ((c : Thread nD τ).loc main_arg3))
        (m ((c : Thread nD τ).loc main_arg4)) :=
  (rfl : _ = rout (m ((c : Thread nD τ).loc main_arg0)) (m ((c : Thread nD τ).loc main_arg1))
        (m ((c : Thread nD τ).loc main_arg2)) (m ((c : Thread nD τ).loc main_arg3))
        (m ((c : Thread nD τ).loc main_arg4))).trans (rout_eq _ _ _ _ _)

end Cert.MlpRefIdeal.Value

end
-- ==== Proof.InRow.lean ====
/-
  The input projection, read row by row at the ideal instance: what every store of `cc0_in_proj` writes for a row of
  its block is that row times the gain, contracted with a column of the weight, times the row's reciprocal root mean
  square. The queries carry a constant factor as well.
-/
module

public import Idealize.ShloMosaic.Lib.Pointwise
public import proofs.«01_k».proof.Proof.Gen.InIdeal.Frame
public import proofs.«01_k».proof.Proof.MlpRow

@[expose] public section

set_option maxRecDepth 16384

noncomputable section

open Idealize.ShloMosaic Idealize.ShloMosaic.TcCoe

namespace Cert.InIdeal.Row

open Cert.InIdeal Cert.InIdeal.Gen

/-- One element of the projection of a row `x` with the gain `g`, scaled by `s` after the contraction. -/
def proj (x g w : Fin 1024 → EReal) (s : EReal) : EReal := (∑ d, x d * g d * w d) * s

/-- The factor the queries carry. -/
def qs : EReal := Named.named (F := Ideal) (φ := .f32) κ "query_scale" 0x3E38AA3B#32

section
variable (X : FVec Ideal S1x512x1024 .f32) (G : FVec Ideal S1x1024 .f32) (W : FVec Ideal S1024x2048 .bf16)

/-- What the store of row `r` writes at column `e` of the projection. -/
abbrev row (r : Fin 512) (e : Fin 2048) : EReal :=
  proj (fun d => X (ix3 0 r d)) (fun d => G (ix2 0 d)) (fun d => W (ix2 d e)) (Cert.MlpIdeal.Row.inv fun d => X (ix3 0 r d))

/-- The same for the queries. -/
abbrev rowQ (r : Fin 512) (e : Fin 2048) : EReal :=
  proj (fun d => X (ix3 0 r d)) (fun d => G (ix2 0 d)) (fun d => W (ix2 d e)) (Cert.MlpIdeal.Row.inv (fun d => X (ix3 0 r d)) * qs)

theorem u0 (r e : Fin 512) : k0_pay13 (F := Ideal) (k0_pay10 X) (k0_pay11 G X) W (ix3 0 r e) = row X G W r ⟨e.val, by omega⟩ := by
  pointwise [k0_pay13, k0_pay10, k0_pay11, k0_pay12, k0_pay8, k0_pay9, row, proj, Cert.MlpIdeal.Row.inv]

theorem u1 (r e : Fin 512) : k0_pay21 (F := Ideal) (k0_pay8 G) (k0_pay17 X) (k0_pay18 X) W (ix3 0 r e) = row X G W r ⟨e.val, by omega⟩ := by
  pointwise [k0_pay21, k0_pay19, k0_pay20, k0_pay8, k0_pay17, k0_pay18, row, proj, Cert.MlpIdeal.Row.inv]

theorem u2 (r e : Fin 512) : k0_pay29 (F := Ideal) (k0_pay8 G) X W (ix3 0 r e) = row X G W r ⟨e.val, by omega⟩ := by
  pointwise [k0_pay29, k0_pay26, k0_pay27, k0_pay28, k0_pay8, row, proj, Cert.MlpIdeal.Row.inv]

theorem u3 (r e : Fin 512) : k0_pay37 (F := Ideal) (k0_pay8 G) X W (ix3 0 r e) = row X G W r ⟨e.val, by omega⟩ := by
  pointwise [k0_pay37, k0_pay34, k0_pay35, k0_pay36, k0_pay8, row, proj, Cert.MlpIdeal.Row.inv]

theorem q0 (r e : Fin 512) : k0_pay14 (F := Ideal) (k0_pay10 X) (k0_pay11 G X) W (ix3 0 r e) = rowQ X G W r ⟨512 + e.val, by omega⟩ := by
  pointwise [k0_pay14, k0_pay10, k0_pay11, k0_pay12, k0_pay8, k0_pay9, rowQ, proj, Cert.MlpIdeal.Row.inv, qs]

theorem q1 (r e : Fin 512) : k0_pay22 (F := Ideal) (k0_pay8 G) (k0_pay17 X) (k0_pay18 X) W (ix3 0 r e) = rowQ X G W r ⟨512 + e.val, by omega⟩ := by
  pointwise [k0_pay22, k0_pay19, k0_pay20, k0_pay8, k0_pay17, k0_pay18, rowQ, proj, Cert.MlpIdeal.Row.inv, qs]

theorem q2 (r e : Fin 512) : k0_pay30 (F := Ideal) (k0_pay8 G) X W (ix3 0 r e) = rowQ X G W r ⟨512 + e.val, by omega⟩ := by
  pointwise [k0_pay30, k0_pay26, k0_pay27, k0_pay28, k0_pay8, rowQ, proj, Cert.MlpIdeal.Row.inv, qs]

theorem q3 (r e : Fin 512) : k0_pay1 (F := Ideal) (k0_pay38 (k0_pay8 G) X W) (ix3 0 r e) = rowQ X G W r ⟨512 + e.val, by omega⟩ := by
  pointwise [k0_pay1, k0_pay38, k0_pay34, k0_pay35, k0_pay36, k0_pay8, rowQ, proj, Cert.MlpIdeal.Row.inv, qs]

theorem k0 (r e : Fin 512) : k0_pay15 (F := Ideal) (k0_pay10 X) (k0_pay11 G X) W (ix3 0 r e) = row X G W r ⟨1024 + e.val, by omega⟩ := by
  pointwise [k0_pay15, k0_pay10, k0_pay11, k0_pay12, k0_pay8, k0_pay9, row, proj, Cert.MlpIdeal.Row.inv]

theorem k1 (r e : Fin 512) : k0_pay23 (F := Ideal) (k0_pay8 G) (k0_pay17 X) (k0_pay18 X) W (ix3 0 r e) = row X G W r ⟨1024 + e.val, by omega⟩ := by
  pointwise [k0_pay23, k0_pay19, k0_pay20, k0_pay8, k0_pay17, k0_pay18, row, proj, Cert.MlpIdeal.Row.inv]

theorem k2 (r e : Fin 512) : k0_pay32 (F := Ideal) (k0_pay31 (k0_pay8 G) X W) (ix3 0 r e) = row X G W r ⟨1024 + e.val, by omega⟩ := by
  pointwise [k0_pay32, k0_pay31, k0_pay26, k0_pay27, k0_pay28, k0_pay8, row, proj, Cert.MlpIdeal.Row.inv]

theorem k3 (r e : Fin 512) : k0_pay2 (F := Ideal) (k0_pay35 X) (k0_pay36 (k0_pay8 G) X W) (ix3 0 r e) = row X G W r ⟨1024 + e.val, by omega⟩ := by
  pointwise [k0_pay2, k0_pay34, k0_pay35, k0_pay36, k0_pay8, row, proj, Cert.MlpIdeal.Row.inv]

theorem v0 (r e : Fin 512) : k0_pay16 (F := Ideal) (k0_pay10 X) (k0_pay11 G X) W (ix3 0 r e) = row X G W r ⟨1536 + e.val, by omega⟩ := by
  pointwise [k0_pay16, k0_pay10, k0_pay11, k0_pay12, k0_pay8, k0_pay9, row, proj, Cert.MlpIdeal.Row.inv]

theorem v1 (r e : Fin 512) : k0_pay25 (F := Ideal) (k0_pay24 (k0_pay8 G) (k0_pay17 X) (k0_pay18 X) W) (ix3 0 r e) = row X G W r ⟨1536 + e.val, by omega⟩ := by
  pointwise [k0_pay25, k0_pay24, k0_pay19, k0_pay20, k0_pay8, k0_pay17, k0_pay18, row, proj, Cert.MlpIdeal.Row.inv]

theorem v2 (r e : Fin 512) : k0_pay33 (F := Ideal) (k0_pay27 X) (k0_pay28 (k0_pay8 G) X W) (ix3 0 r e) = row X G W r ⟨1536 + e.val, by omega⟩ := by
  pointwise [k0_pay33, k0_pay26, k0_pay27, k0_pay28, k0_pay8, row, proj, Cert.MlpIdeal.Row.inv]

theorem v3 (r e : Fin 512) : k0_pay3 (F := Ideal) (k0_pay35 X) (k0_pay36 (k0_pay8 G) X W) (ix3 0 r e) = row X G W r ⟨1536 + e.val, by omega⟩ := by
  pointwise [k0_pay3, k0_pay34, k0_pay35, k0_pay36, k0_pay8, row, proj, Cert.MlpIdeal.Row.inv]

end

end Cert.InIdeal.Row

end
-- ==== Proof.InOut.lean ====
/-
  What one grid point of `cc0_in_proj` leaves in its seven result blocks, at the ideal instance. The weight is read from
  the scratch that the first point fills, so at every point the scratch holds the whole weight. The four row blocks of
  a tile hold the same function of their rows.
-/
module

public import Idealize.ShloMosaic.Lib.Pipeline.ValueKit
public import Idealize.ShloMosaic.Lib.Pipeline.ReadBack
public import Idealize.ShloMosaic.Lib.Claim
public import proofs.«01_k».proof.Proof.InRow

@[expose] public section

set_option maxRecDepth 16384

noncomputable section

open Idealize.ShloMosaic Idealize.ShloMosaic.TcCoe

namespace Cert.InIdeal.Row

open Cert.InIdeal Cert.InIdeal.Gen

/-- A tile from its four row blocks, the last first. -/
def tile (p3 p2 p1 p0 : FVec Ideal S1x512x512 .bf16) : FVec Ideal S1x2048x512 .bf16 :=
  View.canon
    ([⟨Rect.unit ![0, 1536, 0] ![1, 512, 512] inb_S1x2048x512_S1x512x512_0_1536_0, p3⟩,
     ⟨Rect.unit ![0, 1024, 0] ![1, 512, 512] inb_S1x2048x512_S1x512x512_0_1024_0, p2⟩,
     ⟨Rect.unit ![0, 512, 0] ![1, 512, 512] inb_S1x2048x512_S1x512x512_0_512_0, p1⟩,
     ⟨Rect.unit ![0, 0, 0] ![1, 512, 512] inb_S1x2048x512_S1x512x512_0_0_0, p0⟩] : List (View.Piece (Elt Ideal) S1x2048x512 .bf16))

theorem tile_at (p3 p2 p1 p0 : FVec Ideal S1x512x512 .bf16) (f : Fin 2048 → Fin 512 → EReal)
    (h0 : ∀ r e : Fin 512, p0 (ix3 0 r e) = f ⟨r.val, by omega⟩ e)
    (h1 : ∀ r e : Fin 512, p1 (ix3 0 r e) = f ⟨512 + r.val, by omega⟩ e)
    (h2 : ∀ r e : Fin 512, p2 (ix3 0 r e) = f ⟨1024 + r.val, by omega⟩ e)
    (h3 : ∀ r e : Fin 512, p3 (ix3 0 r e) = f ⟨1536 + r.val, by omega⟩ e) (R : Fin 2048) (e : Fin 512) :
    tile p3 p2 p1 p0 (ix3 0 R e) = f R e := by
  unfold tile
  canon_tiles x hx
  all_goals
    obtain ⟨a, r, e', rfl⟩ : ∃ (a : Fin 1) (r e' : Fin 512), x = ix3 a r e' := ⟨x 0, x 1, x 2, eq_ix3 x⟩
    obtain rfl : a = 0 := Subsingleton.elim _ _
    obtain rfl : e = e' := Fin.ext ‹_›
  · rw [show R = ⟨1536 + r.val, by omega⟩ from Fin.ext ‹_›]
    exact h3 r e
  · rw [show R = ⟨1024 + r.val, by omega⟩ from Fin.ext ‹_›]
    exact h2 r e
  · rw [show R = ⟨512 + r.val, by omega⟩ from Fin.ext ‹_›]
    exact h1 r e
  · rw [show R = ⟨r.val, by omega⟩ from Fin.ext ‹_›]
    exact h0 r e

section
variable (X : FVec Ideal S1x2048x1024 .f32) (G : FVec Ideal S1x1024 .f32) (W : FVec Ideal S1024x2048 .bf16)

/-- The four row blocks of the tokens. -/
def x0 : FVec Ideal S1x512x1024 .f32 :=
  View.ld (Val := Elt Ideal) (e' := .f32) X (Rect.unit ![0, 0, 0] ![1, 512, 1024] inb_S1x2048x1024_S1x512x1024_0_0_0)
def x1 : FVec Ideal S1x512x1024 .f32 :=
  View.ld (Val := Elt Ideal) (e' := .f32) X (Rect.unit ![0, 512, 0] ![1, 512, 1024] inb_S1x2048x1024_S1x512x1024_0_512_0)
def x2 : FVec Ideal S1x512x1024 .f32 :=
  View.ld (Val := Elt Ideal) (e' := .f32) X (Rect.unit ![0, 1024, 0] ![1, 512, 1024] inb_S1x2048x1024_S1x512x1024_0_1024_0)
def x3 : FVec Ideal S1x512x1024 .f32 :=
  View.ld (Val := Elt Ideal) (e' := .f32) X (Rect.unit ![0, 1536, 0] ![1, 512, 1024] inb_S1x2048x1024_S1x512x1024_0_1536_0)

theorem x0_at (r : Fin 512) (d : Fin 1024) : x0 X (ix3 0 r d) = X (ix3 0 ⟨r.val, by omega⟩ d) := by pointwise [x0]
theorem x1_at (r : Fin 512) (d : Fin 1024) : x1 X (ix3 0 r d) = X (ix3 0 ⟨512 + r.val, by omega⟩ d) := by pointwise [x1]
theorem x2_at (r : Fin 512) (d : Fin 1024) : x2 X (ix3 0 r d) = X (ix3 0 ⟨1024 + r.val, by omega⟩ d) := by pointwise [x2]
theorem x3_at (r : Fin 512) (d : Fin 1024) : x3 X (ix3 0 r d) = X (ix3 0 ⟨1536 + r.val, by omega⟩ d) := by pointwise [x3]

/-- The four results of a tile, as the body stores them. -/
def tu : FVec Ideal S1x2048x512 .bf16 :=
  tile (k0_pay37 (k0_pay8 G) (x3 X) W) (k0_pay29 (k0_pay8 G) (x2 X) W)
    (k0_pay21 (k0_pay8 G) (k0_pay17 (x1 X)) (k0_pay18 (x1 X)) W) (k0_pay13 (k0_pay10 (x0 X)) (k0_pay11 G (x0 X)) W)
def tq : FVec Ideal S1x2048x512 .bf16 :=
  tile (k0_pay1 (k0_pay38 (k0_pay8 G) (x3 X) W)) (k0_pay30 (k0_pay8 G) (x2 X) W)
    (k0_pay22 (k0_pay8 G) (k0_pay17 (x1 X)) (k0_pay18 (x1 X)) W) (k0_pay14 (k0_pay10 (x0 X)) (k0_pay11 G (x0 X)) W)
def tk : FVec Ideal S1x2048x512 .bf16 :=
  tile (k0_pay2 (k0_pay35 (x3 X)) (k0_pay36 (k0_pay8 G) (x3 X) W)) (k0_pay32 (k0_pay31 (k0_pay8 G) (x2 X) W))
    (k0_pay23 (k0_pay8 G) (k0_pay17 (x1 X)) (k0_pay18 (x1 X)) W) (k0_pay15 (k0_pay10 (x0 X)) (k0_pay11 G (x0 X)) W)
def tv : FVec Ideal S1x2048x512 .bf16 :=
  tile (k0_pay3 (k0_pay35 (x3 X)) (k0_pay36 (k0_pay8 G) (x3 X) W)) (k0_pay33 (k0_pay27 (x2 X)) (k0_pay28 (k0_pay8 G) (x2 X) W))
    (k0_pay25 (k0_pay24 (k0_pay8 G) (k0_pay17 (x1 X)) (k0_pay18 (x1 X)) W)) (k0_pay16 (k0_pay10 (x0 X)) (k0_pay11 G (x0 X)) W)

/-- One element of a tile's projection; `f` is applied to the row's reciprocal root mean square. -/
abbrev at2 (f : EReal → EReal) (R e : Fin 2048) : EReal :=
  proj (fun d => X (ix3 0 R d)) (fun d => G (ix2 0 d)) (fun d => W (ix2 d e)) (f (Cert.MlpIdeal.Row.inv fun d => X (ix3 0 R d)))

theorem tu_at (R : Fin 2048) (e : Fin 512) : tu X G W (ix3 0 R e) = at2 X G W id R ⟨e.val, by omega⟩ :=
  tile_at _ _ _ _ (fun R e => at2 X G W id R ⟨e.val, by omega⟩)
    (fun r e => by rw [u0]; simp only [row, x0_at]; rfl) (fun r e => by rw [u1]; simp only [row, x1_at]; rfl)
    (fun r e => by rw [u2]; simp only [row, x2_at]; rfl) (fun r e => by rw [u3]; simp only [row, x3_at]; rfl) R e

theorem tq_at (R : Fin 2048) (e : Fin 512) : tq X G W (ix3 0 R e) = at2 X G W (· * qs) R ⟨512 + e.val, by omega⟩ :=
  tile_at _ _ _ _ (fun R e => at2 X G W (· * qs) R ⟨512 + e.val, by omega⟩)
    (fun r e => by rw [q0]; simp only [rowQ, x0_at]) (fun r e => by rw [q1]; simp only [rowQ, x1_at])
    (fun r e => by rw [q2]; simp only [rowQ, x2_at]) (fun r e => by rw [q3]; simp only [rowQ, x3_at]) R e

theorem tk_at (R : Fin 2048) (e : Fin 512) : tk X G W (ix3 0 R e) = at2 X G W id R ⟨1024 + e.val, by omega⟩ :=
  tile_at _ _ _ _ (fun R e => at2 X G W id R ⟨1024 + e.val, by omega⟩)
    (fun r e => by rw [k0]; simp only [row, x0_at]; rfl) (fun r e => by rw [k1]; simp only [row, x1_at]; rfl)
    (fun r e => by rw [k2]; simp only [row, x2_at]; rfl) (fun r e => by rw [k3]; simp only [row, x3_at]; rfl) R e

theorem tv_at (R : Fin 2048) (e : Fin 512) : tv X G W (ix3 0 R e) = at2 X G W id R ⟨1536 + e.val, by omega⟩ :=
  tile_at _ _ _ _ (fun R e => at2 X G W id R ⟨1536 + e.val, by omega⟩)
    (fun r e => by rw [v0]; simp only [row, x0_at]; rfl) (fun r e => by rw [v1]; simp only [row, x1_at]; rfl)
    (fun r e => by rw [v2]; simp only [row, x2_at]; rfl) (fun r e => by rw [v3]; simp only [row, x3_at]; rfl) R e
end

variable (m : (ℓ : Loc nD τ sig) → Buf (Elt Ideal) ℓ)

theorem idx_val : ∀ t : Fin cfg0.N, win0_0.index t = ![t.val / 2, t.val % 2, 0] ∧ win0_1.index t = ![0, 0]
    ∧ win0_2.index t = ![0, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] ∧ win0_9.index t = ![t.val / 2, t.val % 2, 0]
    ∧ win0_10.index t = ![t.val / 2, t.val % 2, 0] ∧ win0_11.index t = ![t.val / 2, t.val % 2, 0]
    ∧ win0_12.index t = ![t.val / 2, t.val % 2, 0] :=
  (by decide +kernel : ∀ t : Fin grid0.N, _)

/-- The weight every point contracts with: the argument, as bf16. -/
def wt (w : FVec Ideal S1x1024x2048 .f32) : FVec Ideal S1024x2048 .bf16 := fun j => w (ix3 0 (j 0) (j 1))

theorem cast_eq (c : Dev nD) (t : Fin cfg0.N) :
    k0_pay4 (F := Ideal) (iblk m c 2 t) = wt (m ((c : Thread nD τ).loc main_arg2)) := by
  funext j
  idx_vars j
  pointwise [k0_pay4, wt]
  blk_point [iblk, V, idx_val t]

theorem scratch_first (c : Dev nD) (t : Fin cfg0.N) (h0 : t.val % 16 = 0) :
    (outsAt0 m c t.val t.isLt).2.2.2.2.2.2.2 = k0_pay4 (iblk m c 2 t) := by
  rw [outsAt0_A m c t h0]
  frame_out

theorem scratch_rest (c : Dev nD) (t : Fin cfg0.N) (h0 : ¬t.val % 16 = 0) :
    (outsAt0 m c t.val t.isLt).2.2.2.2.2.2.2
      = (outsAt0 m c (t.val - 1) (Nat.lt_of_le_of_lt (Nat.sub_le _ _) t.isLt)).2.2.2.2.2.2.2 := by
  rw [outsAt0_B m c t h0]
  dsimp only [sout0_B_0]

theorem scratch_eq (c : Dev nD) (n : ℕ) : ∀ h : n < cfg0.N,
    (outsAt0 m c n h).2.2.2.2.2.2.2 = wt (m ((c : Thread nD τ).loc main_arg2)) := by
  induction n with
  | zero => exact fun h => (scratch_first m c ⟨0, h⟩ rfl).trans (cast_eq m c _)
  | succ n ih =>
    intro h
    by_cases h0 : (n + 1) % 16 = 0
    · exact (scratch_first m c ⟨n + 1, h⟩ h0).trans (cast_eq m c _)
    · exact (scratch_rest m c ⟨n + 1, h⟩ h0).trans (ih _)

section
variable (c : Dev nD) (t : Fin cfg0.N)

theorem u_eq : (outsAt0 m c t.val t.isLt).2.2.2.1
    = tu (iblk m c 0 t) (iblk m c 1 t) (wt (m ((c : Thread nD τ).loc main_arg2))) := by
  by_cases h0 : t.val % 16 = 0
  · rw [← cast_eq m c t, outsAt0_A m c t h0]
    frame_out
    rfl
  · rw [← scratch_eq m c (t.val - 1) (Nat.lt_of_le_of_lt (Nat.sub_le _ _) t.isLt), outsAt0_B m c t h0]
    frame_out
    generalize (outsAt0 m c (t.val - 1) _).2.2.2.2.2.2.2 = W
    simp only [read_unread_whole]
    rfl

theorem q_eq : (outsAt0 m c t.val t.isLt).2.2.2.2.1
    = tq (iblk m c 0 t) (iblk m c 1 t) (wt (m ((c : Thread nD τ).loc main_arg2))) := by
  by_cases h0 : t.val % 16 = 0
  · rw [← cast_eq m c t, outsAt0_A m c t h0]
    frame_out
    rfl
  · rw [← scratch_eq m c (t.val - 1) (Nat.lt_of_le_of_lt (Nat.sub_le _ _) t.isLt), outsAt0_B m c t h0]
    frame_out
    generalize (outsAt0 m c (t.val - 1) _).2.2.2.2.2.2.2 = W
    simp only [read_unread_whole]
    rfl

theorem k_eq : (outsAt0 m c t.val t.isLt).2.2.2.2.2.1
    = tk (iblk m c 0 t) (iblk m c 1 t) (wt (m ((c : Thread nD τ).loc main_arg2))) := by
  by_cases h0 : t.val % 16 = 0
  · rw [← cast_eq m c t, outsAt0_A m c t h0]
    frame_out
    rfl
  · rw [← scratch_eq m c (t.val - 1) (Nat.lt_of_le_of_lt (Nat.sub_le _ _) t.isLt), outsAt0_B m c t h0]
    frame_out
    generalize (outsAt0 m c (t.val - 1) _).2.2.2.2.2.2.2 = W
    simp only [read_unread_whole]
    rfl

theorem v_eq : (outsAt0 m c t.val t.isLt).2.2.2.2.2.2.1
    = tv (iblk m c 0 t) (iblk m c 1 t) (wt (m ((c : Thread nD τ).loc main_arg2))) := by
  by_cases h0 : t.val % 16 = 0
  · rw [← cast_eq m c t, outsAt0_A m c t h0]
    frame_out
    rfl
  · rw [← scratch_eq m c (t.val - 1) (Nat.lt_of_le_of_lt (Nat.sub_le _ _) t.isLt), outsAt0_B m c t h0]
    frame_out
    generalize (outsAt0 m c (t.val - 1) _).2.2.2.2.2.2.2 = W
    simp only [read_unread_whole]
    rfl

theorem w0_eq : (outsAt0 m c t.val t.isLt).1 = k0_pay5 (iblk m c 3 t) := by
  by_cases h0 : t.val % 16 = 0
  · rw [outsAt0_A m c t h0]
    frame_out
  · rw [outsAt0_B m c t h0]
    frame_out

theorem w1_eq : (outsAt0 m c t.val t.isLt).2.1 = k0_pay6 (iblk m c 4 t) := by
  by_cases h0 : t.val % 16 = 0
  · rw [outsAt0_A m c t h0]
    frame_out
  · rw [outsAt0_B m c t h0]
    frame_out

theorem w2_eq : (outsAt0 m c t.val t.isLt).2.2.1 = k0_pay7 (iblk m c 5 t) := by
  by_cases h0 : t.val % 16 = 0
  · rw [outsAt0_A m c t h0]
    frame_out
  · rw [outsAt0_B m c t h0]
    frame_out

end

/-- A column of a part that starts at column `o`. -/
def col (o : ℕ) (ho : o + 512 ≤ 2048) (e : Fin 512) : Fin 2048 := ⟨o + e.val, by omega⟩

/-- One of the four parts of the projection, element by element, from the argument arrays: `o` is where its columns
    start, `f` is applied to the row's reciprocal root mean square. -/
def part (o : ℕ) (ho : o + 512 ≤ 2048) (f : EReal → EReal) (x : FVec Ideal S8x4096x1024 .f32) (g : FVec Ideal S1x1024 .f32)
    (w : FVec Ideal S1x1024x2048 .f32) : FVec Ideal S8x4096x512 .bf16 := fun j =>
  proj (fun d => x (ix3 (j 0) (j 1) d)) (fun d => g (ix2 0 d)) (fun d => w (ix3 0 d (col o ho (j 2))))
    (f (Cert.MlpIdeal.Row.inv fun d => x (ix3 (j 0) (j 1) d)))

/-- A weight as bf16, without its leading axis. -/
def W0 (w : FVec Ideal S1x1024x1024 .f32) : FVec Ideal S1024x1024 .bf16 := fun j => w (ix3 0 (j 0) (j 1))
def W1 (w : FVec Ideal S1x1024x4096 .f32) : FVec Ideal S1024x4096 .bf16 := fun j => w (ix3 0 (j 0) (j 1))
def W2 (w : FVec Ideal S1x4096x1024 .f32) : FVec Ideal S4096x1024 .bf16 := fun j => w (ix3 0 (j 0) (j 1))

theorem final_u (c : Dev nD) : (dats m 0 c).arrAt 9 (cfgs 0).N
    = part 0 (by norm_num) id (m ((c : Thread nD τ).loc main_arg0)) (m ((c : Thread nD τ).loc main_arg1))
        (m ((c : Thread nD τ).loc main_arg2)) := by
  refine (dats m 0 c).arrAt_eq_of_covers 9 _ (by decide +kernel) fun t _ y => ?_
  blk_simp
  rw [after0_9, u_eq]
  obtain ⟨a, R, e, rfl⟩ : ∃ (a : Fin 1) (R : Fin 2048) (e : Fin 512), y = ix3 a R e := ⟨y 0, y 1, y 2, eq_ix3 y⟩
  obtain rfl : a = 0 := Subsingleton.elim _ _
  refine (tu_at _ _ _ R e).trans ?_
  unfold at2 part
  have hx : ∀ d, (iblk m c 0 t : FVec Ideal S1x2048x1024 .f32) (ix3 0 R d) = (m ((c : Thread nD τ).loc main_arg0) : FVec Ideal S8x4096x1024 .f32)
      (ix3 (((cfg0.win 9).blk t).view.emb (ix3 0 R e) 0) (((cfg0.win 9).blk t).view.emb (ix3 0 R e) 1) d) := by
    intro d; blk_point [iblk, V, idx_val t]
  have hg : ∀ d, (iblk m c 1 t : FVec Ideal S1x1024 .f32) (ix2 0 d) = (m ((c : Thread nD τ).loc main_arg1) : FVec Ideal S1x1024 .f32) (ix2 0 d) := by
    intro d; blk_point [iblk, V, idx_val t]
  simp only [hx, hg]
  congr 1
  funext d
  unfold wt col
  blk_point [idx_val t]

theorem final_q (c : Dev nD) : (dats m 0 c).arrAt 10 (cfgs 0).N
    = part 512 (by norm_num) (· * qs) (m ((c : Thread nD τ).loc main_arg0)) (m ((c : Thread nD τ).loc main_arg1))
        (m ((c : Thread nD τ).loc main_arg2)) := by
  refine (dats m 0 c).arrAt_eq_of_covers 10 _ (by decide +kernel) fun t _ y => ?_
  blk_simp
  rw [after0_10, q_eq]
  obtain ⟨a, R, e, rfl⟩ : ∃ (a : Fin 1) (R : Fin 2048) (e : Fin 512), y = ix3 a R e := ⟨y 0, y 1, y 2, eq_ix3 y⟩
  obtain rfl : a = 0 := Subsingleton.elim _ _
  refine (tq_at _ _ _ R e).trans ?_
  unfold at2 part
  have hx : ∀ d, (iblk m c 0 t : FVec Ideal S1x2048x1024 .f32) (ix3 0 R d) = (m ((c : Thread nD τ).loc main_arg0) : FVec Ideal S8x4096x1024 .f32)
      (ix3 (((cfg0.win 10).blk t).view.emb (ix3 0 R e) 0) (((cfg0.win 10).blk t).view.emb (ix3 0 R e) 1) d) := by
    intro d; blk_point [iblk, V, idx_val t]
  have hg : ∀ d, (iblk m c 1 t : FVec Ideal S1x1024 .f32) (ix2 0 d) = (m ((c : Thread nD τ).loc main_arg1) : FVec Ideal S1x1024 .f32) (ix2 0 d) := by
    intro d; blk_point [iblk, V, idx_val t]
  simp only [hx, hg]
  congr 1
  funext d
  unfold wt col
  blk_point [idx_val t]

theorem final_k (c : Dev nD) : (dats m 0 c).arrAt 11 (cfgs 0).N
    = part 1024 (by norm_num) id (m ((c : Thread nD τ).loc main_arg0)) (m ((c : Thread nD τ).loc main_arg1))
        (m ((c : Thread nD τ).loc main_arg2)) := by
  refine (dats m 0 c).arrAt_eq_of_covers 11 _ (by decide +kernel) fun t _ y => ?_
  blk_simp
  rw [after0_11, k_eq]
  obtain ⟨a, R, e, rfl⟩ : ∃ (a : Fin 1) (R : Fin 2048) (e : Fin 512), y = ix3 a R e := ⟨y 0, y 1, y 2, eq_ix3 y⟩
  obtain rfl : a = 0 := Subsingleton.elim _ _
  refine (tk_at _ _ _ R e).trans ?_
  unfold at2 part
  have hx : ∀ d, (iblk m c 0 t : FVec Ideal S1x2048x1024 .f32) (ix3 0 R d) = (m ((c : Thread nD τ).loc main_arg0) : FVec Ideal S8x4096x1024 .f32)
      (ix3 (((cfg0.win 11).blk t).view.emb (ix3 0 R e) 0) (((cfg0.win 11).blk t).view.emb (ix3 0 R e) 1) d) := by
    intro d; blk_point [iblk, V, idx_val t]
  have hg : ∀ d, (iblk m c 1 t : FVec Ideal S1x1024 .f32) (ix2 0 d) = (m ((c : Thread nD τ).loc main_arg1) : FVec Ideal S1x1024 .f32) (ix2 0 d) := by
    intro d; blk_point [iblk, V, idx_val t]
  simp only [hx, hg]
  congr 1
  funext d
  unfold wt col
  blk_point [idx_val t]

theorem final_v (c : Dev nD) : (dats m 0 c).arrAt 12 (cfgs 0).N
    = part 1536 (by norm_num) id (m ((c : Thread nD τ).loc main_arg0)) (m ((c : Thread nD τ).loc main_arg1))
        (m ((c : Thread nD τ).loc main_arg2)) := by
  refine (dats m 0 c).arrAt_eq_of_covers 12 _ (by decide +kernel) fun t _ y => ?_
  blk_simp
  rw [after0_12, v_eq]
  obtain ⟨a, R, e, rfl⟩ : ∃ (a : Fin 1) (R : Fin 2048) (e : Fin 512), y = ix3 a R e := ⟨y 0, y 1, y 2, eq_ix3 y⟩
  obtain rfl : a = 0 := Subsingleton.elim _ _
  refine (tv_at _ _ _ R e).trans ?_
  unfold at2 part
  have hx : ∀ d, (iblk m c 0 t : FVec Ideal S1x2048x1024 .f32) (ix3 0 R d) = (m ((c : Thread nD τ).loc main_arg0) : FVec Ideal S8x4096x1024 .f32)
      (ix3 (((cfg0.win 12).blk t).view.emb (ix3 0 R e) 0) (((cfg0.win 12).blk t).view.emb (ix3 0 R e) 1) d) := by
    intro d; blk_point [iblk, V, idx_val t]
  have hg : ∀ d, (iblk m c 1 t : FVec Ideal S1x1024 .f32) (ix2 0 d) = (m ((c : Thread nD τ).loc main_arg1) : FVec Ideal S1x1024 .f32) (ix2 0 d) := by
    intro d; blk_point [iblk, V, idx_val t]
  simp only [hx, hg]
  congr 1
  funext d
  unfold wt col
  blk_point [idx_val t]

theorem final_w0 (c : Dev nD) : (dats m 0 c).arrAt 6 (cfgs 0).N = W0 (m ((c : Thread nD τ).loc main_arg3)) := by
  refine (dats m 0 c).arrAt_eq_of_covers 6 _ (by decide +kernel) fun t _ y => ?_
  blk_simp
  rw [after0_6, w0_eq]
  obtain ⟨a, b, rfl⟩ : ∃ (a : Fin 64) (b : Fin 1024), y = ix2 a b := ⟨y 0, y 1, eq_ix2 y⟩
  unfold W0
  pointwise [k0_pay5]
  blk_point [iblk, V, idx_val t]

theorem final_w1 (c : Dev nD) : (dats m 0 c).arrAt 7 (cfgs 0).N = W1 (m ((c : Thread nD τ).loc main_arg4)) := by
  refine (dats m 0 c).arrAt_eq_of_covers 7 _ (by decide +kernel) fun t _ y => ?_
  blk_simp
  rw [after0_7, w1_eq]
  obtain ⟨a, b, rfl⟩ : ∃ (a : Fin 64) (b : Fin 4096), y = ix2 a b := ⟨y 0, y 1, eq_ix2 y⟩
  unfold W1
  pointwise [k0_pay6]
  blk_point [iblk, V, idx_val t]

theorem final_w2 (c : Dev nD) : (dats m 0 c).arrAt 8 (cfgs 0).N = W2 (m ((c : Thread nD τ).loc main_arg5)) := by
  refine (dats m 0 c).arrAt_eq_of_covers 8 _ (by decide +kernel) fun t _ y => ?_
  blk_simp
  rw [after0_8, w2_eq]
  obtain ⟨a, b, rfl⟩ : ∃ (a : Fin 256) (b : Fin 1024), y = ix2 a b := ⟨y 0, y 1, eq_ix2 y⟩
  unfold W2
  pointwise [k0_pay7]
  blk_point [iblk, V, idx_val t]

end Cert.InIdeal.Row

end
-- ==== Proof.InMath.lean ====
/-
  The reference's projection is the kernel's: the reciprocal root mean square of a row, multiplied into the row before
  the contraction by the reference and after it by the kernel, is a nonnegative real number, so that a sum may be
  multiplied by it on either side. The factor of the queries, `1 / 8` over `log 2`, is `1 / log 256`.
-/
module

public import proofs.«01_k».proof.Proof.InOut
public import proofs.«01_k».proof.Proof.MlpMath
public import proofs.«01_k».proof.Proof.Gen.InRefIdeal.Run

@[expose] public section

set_option maxRecDepth 16384

noncomputable section

open Idealize.ShloMosaic Idealize.ShloMosaic.TcCoe

namespace Cert.InIdeal.Row

open Cert.InIdeal

theorem qs_eq : qs = (((Real.log 256)⁻¹ : ℝ) : EReal) := rfl

theorem proj_inv (x g w : Fin 1024 → EReal) :
    proj x g w (Cert.MlpIdeal.Row.inv x) = ∑ d, x d * Cert.MlpIdeal.Row.inv x * g d * w d := by
  unfold proj
  rw [Cert.MlpIdeal.Row.sum_mul_right _ _ (Cert.MlpIdeal.Row.inv_spec x).1 (Cert.MlpIdeal.Row.inv_spec x).2]
  refine Finset.sum_congr rfl fun d _ => ?_
  rw [mul_right_comm (x d) (Cert.MlpIdeal.Row.inv x), mul_right_comm (x d * g d)]

theorem proj_inv_qs (x g w : Fin 1024 → EReal) :
    proj x g w (Cert.MlpIdeal.Row.inv x * qs) = proj x g w (Cert.MlpIdeal.Row.inv x) * qs := by
  unfold proj
  rw [mul_assoc]

end Cert.InIdeal.Row

namespace Cert.InRefIdeal.Value

open Cert.InRefIdeal Cert.InRefIdeal.Gen

theorem eighth_eq : Ideal.ofBits .f32 0x3E000000#32 = ((1 / 8 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- The reference's factor of the queries. -/
theorem scale_eq (a : EReal) :
    Ideal.div (a * Ideal.ofBits .f32 0x3E000000#32) (Ideal.log (Ideal.ofBits .f32 0x40000000#32)) = a * Cert.InIdeal.Row.qs := by
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have h2 : (0 : ℝ) < Real.log 2 := Real.log_pos (by norm_num)
  rw [eighth_eq, two_eq, hl, Ideal.div_coe h2.ne', mul_assoc, ← EReal.coe_mul, Cert.InIdeal.Row.qs_eq]
  have h : Real.log 256 = 8 * Real.log 2 := by
    rw [show (256 : ℝ) = 2 ^ 8 by norm_num, Real.log_pow]; norm_num
  rw [h]
  congr 2
  field_simp

section
variable (x : FVec Ideal S8x4096x1024 .f32) (g : FVec Ideal S1x1024 .f32) (w : FVec Ideal S1x1024x2048 .f32)

/-- The reciprocal root mean square of every row, over the row. -/
def rinv : FVec Ideal S8x4096x1024 .f32 :=
  broadcastInDim S8x4096x1024 ![0, 1, 2] bcast_S8x4096x1_S8x4096x1024_0_1_2 (Host.rsqrt (addf (Host.divf
    (broadcastInDim S8x4096x1 ![0, 1] bcast_S8x4096_S8x4096x1_0_1
      (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))

/-- The normed tokens. -/
def rnorm : FVec Ideal S8x4096x1024 .f32 :=
  mulf (mulf x (rinv x)) (broadcastInDim S8x4096x1024 ![0, 1, 2] bcast_S1x1x1024_S8x4096x1024_0_1_2
    (broadcastInDim S1x1x1024 ![2] bcast_S1024_S1x1x1024_2 (shapeCast _ g shapeCasts_S1x1024_S1024)))

/-- The projection. -/
def rproj : FVec Ideal S8x4096x2048 .f32 :=
  Host.dotGeneral dot_S8x4096x1024_S1024x2048_S8x4096x2048_2_0_01_1_n_n none (rnorm x g)
    (shapeCast _ w shapeCasts_S1x1024x2048_S1024x2048 : FVec Ideal S1024x2048 .f32)

/-- Its columns after the pool's. -/
def rqkv : FVec Ideal S8x4096x1536 .f32 :=
  extractStridedSlice S8x4096x1536 ![0, 0, 512] (rproj x g w) slices_S8x4096x2048_S8x4096x1536_0_0_512

def ru : FVec Ideal S8x4096x512 .bf16 :=
  truncf .bf16 (extractStridedSlice S8x4096x512 ![0, 0, 0] (rproj x g w) slices_S8x4096x2048_S8x4096x512_0_0_0) bitsLt_bf16_f32
def rq : FVec Ideal S8x4096x512 .bf16 :=
  truncf .bf16 (Host.divf
    (mulf (extractStridedSlice S8x4096x512 ![0, 0, 0] (rqkv x g w) slices_S8x4096x1536_S8x4096x512_0_0_0)
      (broadcastInDim S8x4096x512 ![] bcast_S_S8x4096x512 (constant S_ .f32 0x3E000000#32)))
    (broadcastInDim S8x4096x512 ![] bcast_S_S8x4096x512 (Host.log (constant S_ .f32 0x40000000#32)))) bitsLt_bf16_f32
def rk : FVec Ideal S8x4096x512 .bf16 :=
  truncf .bf16 (extractStridedSlice S8x4096x512 ![0, 0, 512] (rqkv x g w) slices_S8x4096x1536_S8x4096x512_0_0_512) bitsLt_bf16_f32
def rv : FVec Ideal S8x4096x512 .bf16 :=
  truncf .bf16 (extractStridedSlice S8x4096x512 ![0, 0, 1024] (rqkv x g w) slices_S8x4096x1536_S8x4096x512_0_0_1024) bitsLt_bf16_f32

theorem rinv_at (b : Fin 8) (r : Fin 4096) (d : Fin 1024) :
    rinv x (ix3 b r d) = Cert.MlpIdeal.Row.inv fun k => x (ix3 b r k) := by
  pointwise [rinv, Cert.MlpIdeal.Row.inv]

theorem rnorm_at (b : Fin 8) (r : Fin 4096) (d : Fin 1024) :
    rnorm x g (ix3 b r d) = x (ix3 b r d) * (Cert.MlpIdeal.Row.inv fun k => x (ix3 b r k)) * g (ix2 0 d) := by
  pointwise [rnorm, rinv_at]

/-- One element of the projection. -/
abbrev pj (b : Fin 8) (r : Fin 4096) (e : Fin 2048) : EReal :=
  Cert.InIdeal.Row.proj (fun d => x (ix3 b r d)) (fun d => g (ix2 0 d)) (fun d => w (ix3 0 d e))
    (Cert.MlpIdeal.Row.inv fun d => x (ix3 b r d))

theorem pj_congr (b : Fin 8) (r : Fin 4096) {e e' : Fin 2048} (h : e.val = e'.val) : pj x g w b r e = pj x g w b r e' := by
  rw [Fin.ext h]

theorem rproj_at (b : Fin 8) (r : Fin 4096) (e : Fin 2048) : rproj x g w (ix3 b r e) = pj x g w b r e := by
  unfold pj
  rw [Cert.InIdeal.Row.proj_inv]
  pointwise [rproj, rnorm_at]

theorem rqkv_at (b : Fin 8) (r : Fin 4096) (e : Fin 1536) :
    rqkv x g w (ix3 b r e) = pj x g w b r ⟨512 + e.val, by omega⟩ := by
  pointwise [rqkv, rproj_at]

theorem ru_eq : ru x g w = Cert.InIdeal.Row.part 0 (by norm_num) id x g w := by
  funext j
  idx_vars j
  unfold Cert.InIdeal.Row.part Cert.InIdeal.Row.col
  pointwise [ru, rproj_at]
  exact pj_congr x g w _ _ (by dsimp only)
theorem rq_eq : rq x g w = Cert.InIdeal.Row.part 512 (by norm_num) (· * Cert.InIdeal.Row.qs) x g w := by
  funext j
  idx_vars j
  unfold Cert.InIdeal.Row.part Cert.InIdeal.Row.col
  simp only [Cert.InIdeal.Row.proj_inv_qs]
  pointwise [rq, rqkv_at]
  exact scale_eq _
theorem rk_eq : rk x g w = Cert.InIdeal.Row.part 1024 (by norm_num) id x g w := by
  funext j
  idx_vars j
  unfold Cert.InIdeal.Row.part Cert.InIdeal.Row.col
  pointwise [rk, rqkv_at]
  exact pj_congr x g w _ _ (by dsimp only; omega)
theorem rv_eq : rv x g w = Cert.InIdeal.Row.part 1536 (by norm_num) id x g w := by
  funext j
  idx_vars j
  unfold Cert.InIdeal.Row.part Cert.InIdeal.Row.col
  pointwise [rv, rqkv_at]
  exact pj_congr x g w _ _ (by dsimp only; omega)
end

theorem w0_eq (w : FVec Ideal S1x1024x1024 .f32) :
    truncf .bf16 (shapeCast S1024x1024 w shapeCasts_S1x1024x1024_S1024x1024) bitsLt_bf16_f32 = Cert.InIdeal.Row.W0 w := by
  funext j
  idx_vars j
  pointwise [Cert.InIdeal.Row.W0]
theorem w1_eq (w : FVec Ideal S1x1024x4096 .f32) :
    truncf .bf16 (shapeCast S1024x4096 w shapeCasts_S1x1024x4096_S1024x4096) bitsLt_bf16_f32 = Cert.InIdeal.Row.W1 w := by
  funext j
  idx_vars j
  pointwise [Cert.InIdeal.Row.W1]
theorem w2_eq (w : FVec Ideal S1x4096x1024 .f32) :
    truncf .bf16 (shapeCast S4096x1024 w shapeCasts_S1x4096x1024_S4096x1024) bitsLt_bf16_f32 = Cert.InIdeal.Row.W2 w := by
  funext j
  idx_vars j
  pointwise [Cert.InIdeal.Row.W2]

end Cert.InRefIdeal.Value

end
-- ==== Proof.lean ====
module

public import proofs.«01_k».proof.Defs
public import proofs.«01_k».proof.Proof.Gen.Kernel
public import proofs.«01_k».proof.Proof.Gen.KernelIdeal
public import proofs.«01_k».proof.Proof.Gen.Mlp
public import proofs.«01_k».proof.Proof.Gen.MlpIdeal.Value
public import proofs.«01_k».proof.Proof.Gen.MlpRefIdeal.Run
public import proofs.«01_k».proof.Proof.Gen.ReferenceIdeal.Run
public import proofs.«01_k».proof.Proof.Gen.In
public import proofs.«01_k».proof.Proof.Gen.InIdeal.Value
public import proofs.«01_k».proof.Proof.Gen.InRefIdeal.Run
public import proofs.«01_k».proof.Proof.MixFrame
public import proofs.«01_k».proof.Proof.MixFinal
public import proofs.«01_k».proof.Proof.RefOut
public import proofs.«01_k».proof.Proof.Finite
public import proofs.«01_k».proof.Proof.MlpMath
public import proofs.«01_k».proof.Proof.InMath
public import Idealize.ShloMosaic.Adequacy
public import Idealize.ShloMosaic.Init

@[expose] public section

noncomputable section

namespace Cert.Proof

open Idealize.ShloMosaic Idealize.SL.Sem

/-- A named constant read at `Bits` is the float word it replaces. -/
@[reducible] def wordNamed : Named Bits := ⟨fun _ _ φ bits => FloatOps.ofBits φ bits⟩

/-- The mixers' frame of the compiled program: the run of the idealized one, its named constant read as the word. -/
theorem frame_kernel : Cert.quiescent_Kernel :=
  letI := wordNamed
  Eq.mp (by sl_kernel_rfl) (fun (m : (ℓ : Loc Cert.KernelIdeal.nD Cert.KernelIdeal.τ Cert.KernelIdeal.sig) → Buf (Elt Bits) ℓ) (ρ : Dev Cert.KernelIdeal.nD → PrngReg) (_ : True) =>
    Cert.KernelIdeal.Mix.frame_any m ρ)

theorem frame_ideal : Cert.quiescent_KernelIdeal := fun m ρ _ => Cert.KernelIdeal.Mix.frame_any m ρ

theorem preserves_kernel : Cert.preserves_Kernel_KernelIdeal :=
  IdealRules.named_const.statement Cert.KernelIdeal.κ "log2e" .f32 0x3FB8AA3B#32 _ rfl

/-- The reference declares no semaphore. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem finite_facts : Cert.Pre_finite.Facts :=
  ⟨by decide, by decide, by decide, by decide, by decide, by decide⟩

theorem frame_ideal_finite : @Cert.quiescent_KernelIdeal_pre_finite _ finite_facts := fun m ρ _ => Cert.KernelIdeal.Mix.frame_any m ρ

theorem frame_ref_finite : @Cert.quiescent_ReferenceIdeal_pre_finite _ finite_facts := fun m ρ _ => frame_ref m ρ trivial

section mixers
open Cert.KernelIdeal.Mix

/-- The reference's result on equal, real arguments is the kernel's. -/
theorem mix_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (h0 : Cert.ReferenceIdeal.Value.arg0 V0 = argX m c) (h1 : Cert.ReferenceIdeal.Value.arg1 V0 = argU m c) (h2 : Cert.ReferenceIdeal.Value.arg2 V0 = argQ m c)
    (h3 : Cert.ReferenceIdeal.Value.arg3 V0 = argK m c) (h4 : Cert.ReferenceIdeal.Value.arg4 V0 = argV m c) (h5 : Cert.ReferenceIdeal.Value.arg5 V0 = argW m c)
    (h6 : Cert.ReferenceIdeal.Value.arg6 V0 = argS m c) (h7 : Cert.ReferenceIdeal.Value.arg7 V0 = argB m c) (h8 : Cert.ReferenceIdeal.Value.arg8 V0 = argO m c)
    (hu : ∃ f : Cert.KernelIdeal.S8x4096x512.Idx → ℝ, ∀ i, argU m c i = (f i : EReal)) (hq : ∃ f : Cert.KernelIdeal.S8x4096x512.Idx → ℝ, ∀ i, argQ m c i = (f i : EReal))
    (hk : ∃ f : Cert.KernelIdeal.S8x4096x512.Idx → ℝ, ∀ i, argK m c i = (f i : EReal)) (hw : ∃ f : Cert.KernelIdeal.S1x4x128x128.Idx → ℝ, ∀ i, argW m c i = (f i : EReal))
    (hs : ∃ f : Cert.KernelIdeal.S1x512.Idx → ℝ, ∀ i, argS m c i = (f i : EReal)) (hr : ∃ f : Cert.KernelIdeal.S1x8x15x31.Idx → ℝ, ∀ i, argB m c i = (f i : EReal))
    (ho : ∃ f : Fin 512 → Fin 1024 → ℝ, ∀ (j : Fin 512) (e : Fin 1024), argO m c (ix3 0 ⟨j.val, by omega⟩ e) = (f j e : EReal)) :
    Cert.ReferenceIdeal.Value.outOf (argX m c) (Cert.ReferenceIdeal.Value.res_main_v146 V0) (Cert.ReferenceIdeal.Value.arg6 V0)
        (Cert.ReferenceIdeal.Value.headsOf (Cert.ReferenceIdeal.Value.arg4 V0) (Cert.ReferenceIdeal.Value.res_main_v236 V0)) (argO m c)
      = (dats m 0 c).arrAt 12 (Cert.KernelIdeal.cfgs 0).N := by
  obtain ⟨u, hu⟩ := hu
  obtain ⟨q, hq⟩ := hq
  obtain ⟨k, hk⟩ := hk
  obtain ⟨w, hw⟩ := hw
  obtain ⟨s, hs⟩ := hs
  obtain ⟨r, hr⟩ := hr
  obtain ⟨o, ho⟩ := ho
  rw [final m c u q k r hu hq hk hr]
  funext i
  obtain ⟨b, n, e, rfl⟩ : ∃ (b : Fin 8) (n : Fin 4096) (e : Fin 1024), i = ix3 b n e := ⟨i 0, i 1, i 2, eq_ix3 i⟩
  rw [← h0, ← h8]
  refine (Cert.ReferenceIdeal.Value.ref_at V0 u q k r w s o (h1 ▸ hu) (h2 ▸ hq) (h3 ▸ hk) (h7 ▸ hr) (h5 ▸ hw) (h6 ▸ hs) (h8 ▸ ho) (poolTable m c)
    (fun g j e => by rw [h5, h6, h8]; exact pool_at m c g j e) b n e).trans ?_
  rw [h0, h4, h8]
  rfl
end mixers

set_option maxRecDepth 4096 in
theorem algebraic_mix : @Cert.algebraic_KernelIdeal_ReferenceIdeal_pre_finite _ _ finite_facts := by
  letI := finite_facts
  intro m g m' g' hpre hagree
  refine ⟨fun c => (Cert.KernelIdeal.Mix.dats m 0 c).arrAt 12 (Cert.KernelIdeal.cfgs 0).N, ?_, ?_⟩
  · exact (θ_run Cert.KernelIdeal.defs _ _).mono (fun r h c => ⟨(h.1 c).1 12, h.2.1 c⟩)
      (θ_run_and (Cert.KernelIdeal.Mix.run_main m g) (Cert.KernelIdeal.Mix.frame_any m g))
  · run_from Cert.ReferenceIdeal.Value.run m' g'
    exact mix_eq m c (StableHlo.launchContents m' c) (hagree c).1 (hagree c).2.1 (hagree c).2.2.1 (hagree c).2.2.2.1 (hagree c).2.2.2.2.1
      (hagree c).2.2.2.2.2.1 (hagree c).2.2.2.2.2.2.1 (hagree c).2.2.2.2.2.2.2.1 (hagree c).2.2.2.2.2.2.2.2
      (Cert.Finite.u_real _ _ _ _ _ _ _ _ _ (hpre c).1) (Cert.Finite.q_real _ _ _ _ _ _ _ _ _ (hpre c).2.1)
      (Cert.Finite.k_real _ _ _ _ _ _ _ _ _ (hpre c).2.2.1) (Cert.Finite.w_real _ _ _ _ _ _ _ _ _ (hpre c).2.2.2.1)
      (Cert.Finite.s_real _ _ _ _ _ _ _ _ _ (hpre c).2.2.2.2.1) (Cert.Finite.r_real _ _ _ _ _ _ _ _ _ (hpre c).2.2.2.2.2.1)
      (Cert.Finite.o_real _ _ _ _ _ _ _ _ _ (hpre c).2.2.2.2.2.2)

/-- The MLP's frame of the compiled program: that of the idealized one, which has the same text. -/
theorem frame_mlp : Cert.quiescent_Mlp :=
  Eq.mp (by sl_kernel_rfl) (fun (m : (ℓ : Loc Cert.MlpIdeal.nD Cert.MlpIdeal.τ Cert.MlpIdeal.sig) → Buf (Elt Bits) ℓ) (ρ : Dev Cert.MlpIdeal.nD → PrngReg) (_ : True) =>
    Cert.MlpIdeal.Gen.frame m ρ)

theorem frame_mlp_ideal : Cert.quiescent_MlpIdeal := fun m ρ _ => Cert.MlpIdeal.Gen.frame m ρ

/-- The reference declares no semaphore. -/
theorem frame_mlp_ref : Cert.quiescent_MlpRefIdeal := fun m ρ _ =>
  (θ_run Cert.MlpRefIdeal.defs _ _).mono (fun r h => ⟨fun c => (h c).2, Idealize.ShloMosaic.sem_eq_zero_of_no_sems (by decide) r.2⟩)
    (Cert.MlpRefIdeal.Value.run (F := Ideal) m ρ)

set_option maxRecDepth 4096 in
theorem algebraic_mlp : Cert.algebraic_MlpIdeal_MlpRefIdeal := by
  pair_intro
  · run_from Cert.MlpIdeal.Gen.run_main m g
  · run_from Cert.MlpRefIdeal.Value.run m' g'
    exact (Cert.MlpRefIdeal.Value.res_eq m' c).trans (by
      rw [(hagree c).1, (hagree c).2.1, (hagree c).2.2.1, (hagree c).2.2.2.1, (hagree c).2.2.2.2]
      exact (Cert.MlpIdeal.Row.final m c).symm)

/-- The input projection's frame of the compiled program: that of the idealized one, its named constant read as the word. -/
theorem frame_in : Cert.quiescent_In :=
  letI := wordNamed
  Eq.mp (by sl_kernel_rfl) (fun (m : (ℓ : Loc Cert.InIdeal.nD Cert.InIdeal.τ Cert.InIdeal.sig) → Buf (Elt Bits) ℓ) (ρ : Dev Cert.InIdeal.nD → PrngReg) (_ : True) =>
    Cert.InIdeal.Gen.frame m ρ)

theorem frame_in_ideal : Cert.quiescent_InIdeal := fun m ρ _ => Cert.InIdeal.Gen.frame m ρ

/-- The reference declares no semaphore. -/
theorem frame_in_ref : Cert.quiescent_InRefIdeal := fun m ρ _ =>
  (θ_run Cert.InRefIdeal.defs _ _).mono (fun r h => ⟨fun c => (h c).2.2.2.2.2.2.2, Idealize.ShloMosaic.sem_eq_zero_of_no_sems (by decide) r.2⟩)
    (Cert.InRefIdeal.Value.run (F := Ideal) m ρ)

theorem preserves_in : Cert.preserves_In_InIdeal :=
  IdealRules.named_const.statement Cert.InIdeal.κ "query_scale" .f32 0x3E38AA3B#32 _ rfl

section input
open Cert.InIdeal.Row

set_option maxRecDepth 4096 in
theorem algebraic_in : Cert.algebraic_InIdeal_InRefIdeal := by
  intro m g m' g' hpre hagree
  refine ⟨fun c => (Cert.InIdeal.Gen.dats m 0 c).arrAt 9 (Cert.InIdeal.cfgs 0).N, fun c => (Cert.InIdeal.Gen.dats m 0 c).arrAt 10 (Cert.InIdeal.cfgs 0).N,
    fun c => (Cert.InIdeal.Gen.dats m 0 c).arrAt 11 (Cert.InIdeal.cfgs 0).N, fun c => (Cert.InIdeal.Gen.dats m 0 c).arrAt 12 (Cert.InIdeal.cfgs 0).N,
    fun c => (Cert.InIdeal.Gen.dats m 0 c).arrAt 6 (Cert.InIdeal.cfgs 0).N, fun c => (Cert.InIdeal.Gen.dats m 0 c).arrAt 7 (Cert.InIdeal.cfgs 0).N,
    fun c => (Cert.InIdeal.Gen.dats m 0 c).arrAt 8 (Cert.InIdeal.cfgs 0).N, ?_, ?_⟩
  · exact (θ_run Cert.InIdeal.defs _ _).mono (fun r h c => ⟨(h.1 c).1 9, (h.1 c).1 10, (h.1 c).1 11, (h.1 c).1 12, (h.1 c).1 6, (h.1 c).1 7, (h.1 c).1 8, h.2.1 c⟩)
      (θ_run_and (Cert.InIdeal.Gen.run_main m g) (Cert.InIdeal.Gen.frame m g))
  · refine (θ_run Cert.InRefIdeal.defs _ _).mono (fun r h c => ?_) (Cert.InRefIdeal.Value.run (F := Ideal) m' g')
    obtain ⟨a0, a1, a2, a3, a4, a5⟩ := hagree c
    obtain ⟨hu, hq, hk, hv, h0, h1, h2, hargs⟩ := h c
    rw [a0, a1, a2] at hu hq hk hv
    rw [a3] at h0
    rw [a4] at h1
    rw [a5] at h2
    exact ⟨hu.trans ((Cert.InRefIdeal.Value.ru_eq _ _ _).trans (final_u m c).symm), hq.trans ((Cert.InRefIdeal.Value.rq_eq _ _ _).trans (final_q m c).symm),
      hk.trans ((Cert.InRefIdeal.Value.rk_eq _ _ _).trans (final_k m c).symm), hv.trans ((Cert.InRefIdeal.Value.rv_eq _ _ _).trans (final_v m c).symm),
      h0.trans ((Cert.InRefIdeal.Value.w0_eq _).trans (final_w0 m c).symm), h1.trans ((Cert.InRefIdeal.Value.w1_eq _).trans (final_w1 m c).symm),
      h2.trans ((Cert.InRefIdeal.Value.w2_eq _).trans (final_w2 m c).symm), hargs⟩
end input

theorem claim : Cert.Claim :=
  ⟨Cert.Kernel.Gen.facts, Cert.KernelIdeal.Gen.facts, Cert.ReferenceIdeal.Gen.facts, Cert.Mlp.Gen.facts, Cert.MlpIdeal.Gen.facts, Cert.MlpRefIdeal.Gen.facts,
    Cert.In.Gen.facts, Cert.InIdeal.Gen.facts, Cert.InRefIdeal.Gen.facts, finite_facts,
    frame_kernel, frame_ideal, frame_ideal_finite, frame_ref, frame_ref_finite, frame_mlp, frame_mlp_ideal, frame_mlp_ref,
    frame_in, frame_in_ideal, frame_in_ref,
    preserves_kernel, algebraic_mix, trivial, algebraic_mlp, preserves_in, algebraic_in⟩

end Cert.Proof

end
